-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Lepe (m : (ℓ : Loc Cert.Lepe.nD Cert.Lepe.τ Cert.Lepe.sig) → Buf (Elt Bits) ℓ) : Prop :=
  True

def Pre_LepeIdeal (m : (ℓ : Loc Cert.LepeIdeal.nD Cert.LepeIdeal.τ Cert.LepeIdeal.sig) → Buf (Elt Ideal) ℓ) : Prop :=
  True

def Pre_LepeRefIdeal (m : (ℓ : Loc Cert.LepeRefIdeal.nD Cert.LepeRefIdeal.τ Cert.LepeRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_two_scores [hPre_two_scores : Cert.Pre_two_scores.Facts] (m : (ℓ : Loc Cert.RouteIdeal.nD Cert.RouteIdeal.τ Cert.RouteIdeal.sig) → Buf (Elt Ideal) ℓ) : Prop :=
  ∀ c : Dev Cert.RouteIdeal.nD,
    (Cert.Pre_two_scores.fn (F := Ideal) (m ((c.tc : Thread Cert.RouteIdeal.nD Cert.RouteIdeal.τ).loc Cert.RouteIdeal.main_arg0))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_two_scores [hPre_two_scores : Cert.Pre_two_scores.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_two_scores.fn (F := Ideal) (m ((c.tc : Thread Cert.RouteRefIdeal.nD Cert.RouteRefIdeal.τ).loc Cert.RouteRefIdeal.main_arg0))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Lepe [hLepe : Cert.Lepe.Facts] : Prop :=
  ∀ (m : (ℓ : Loc Cert.Lepe.nD Cert.Lepe.τ Cert.Lepe.sig) → Buf (Elt Bits) ℓ) (g : Dev Cert.Lepe.nD → PrngReg), Pre_Lepe m →
    θ_run (Cert.Lepe.defs (F := Bits)) (onTc (τ := Cert.Lepe.τ) (Cert.Lepe.main (F := Bits))) ⟨m, fun _ => 0, g⟩ (fun r => (∀ c : Dev Cert.Lepe.nD,
      r.2.mem ((c.tc : Thread Cert.Lepe.nD Cert.Lepe.τ).loc Cert.Lepe.main_arg0) = m ((c.tc : Thread Cert.Lepe.nD Cert.Lepe.τ).loc Cert.Lepe.main_arg0)
      ∧ r.2.mem ((c.tc : Thread Cert.Lepe.nD Cert.Lepe.τ).loc Cert.Lepe.main_arg1) = m ((c.tc : Thread Cert.Lepe.nD Cert.Lepe.τ).loc Cert.Lepe.main_arg1)
      ∧ r.2.mem ((c.tc : Thread Cert.Lepe.nD Cert.Lepe.τ).loc Cert.Lepe.main_arg2) = m ((c.tc : Thread Cert.Lepe.nD Cert.Lepe.τ).loc Cert.Lepe.main_arg2)
      ∧ r.2.mem ((c.tc : Thread Cert.Lepe.nD Cert.Lepe.τ).loc Cert.Lepe.main_arg3) = m ((c.tc : Thread Cert.Lepe.nD Cert.Lepe.τ).loc Cert.Lepe.main_arg3)
      ∧ r.2.mem ((c.tc : Thread Cert.Lepe.nD Cert.Lepe.τ).loc Cert.Lepe.main_arg4) = m ((c.tc : Thread Cert.Lepe.nD Cert.Lepe.τ).loc Cert.Lepe.main_arg4)
      ∧ r.2.mem ((c.tc : Thread Cert.Lepe.nD Cert.Lepe.τ).loc Cert.Lepe.main_arg5) = m ((c.tc : Thread Cert.Lepe.nD Cert.Lepe.τ).loc Cert.Lepe.main_arg5))
      ∧ r.2.sem = fun _ => 0)

def quiescent_LepeIdeal [hLepeIdeal : Cert.LepeIdeal.Facts] : Prop :=
  ∀ (m : (ℓ : Loc Cert.LepeIdeal.nD Cert.LepeIdeal.τ Cert.LepeIdeal.sig) → Buf (Elt Ideal) ℓ) (g : Dev Cert.LepeIdeal.nD → PrngReg), Pre_LepeIdeal m →
    θ_run (Cert.LepeIdeal.defs (F := Ideal)) (onTc (τ := Cert.LepeIdeal.τ) (Cert.LepeIdeal.main (F := Ideal))) ⟨m, fun _ => 0, g⟩ (fun r => (∀ c : Dev Cert.LepeIdeal.nD,
      r.2.mem ((c.tc : Thread Cert.LepeIdeal.nD Cert.LepeIdeal.τ).loc Cert.LepeIdeal.main_arg0) = m ((c.tc : Thread Cert.LepeIdeal.nD Cert.LepeIdeal.τ).loc Cert.LepeIdeal.main_arg0)
      ∧ r.2.mem ((c.tc : Thread Cert.LepeIdeal.nD Cert.LepeIdeal.τ).loc Cert.LepeIdeal.main_arg1) = m ((c.tc : Thread Cert.LepeIdeal.nD Cert.LepeIdeal.τ).loc Cert.LepeIdeal.main_arg1)
      ∧ r.2.mem ((c.tc : Thread Cert.LepeIdeal.nD Cert.LepeIdeal.τ).loc Cert.LepeIdeal.main_arg2) = m ((c.tc : Thread Cert.LepeIdeal.nD Cert.LepeIdeal.τ).loc Cert.LepeIdeal.main_arg2)
      ∧ r.2.mem ((c.tc : Thread Cert.LepeIdeal.nD Cert.LepeIdeal.τ).loc Cert.LepeIdeal.main_arg3) = m ((c.tc : Thread Cert.LepeIdeal.nD Cert.LepeIdeal.τ).loc Cert.LepeIdeal.main_arg3)
      ∧ r.2.mem ((c.tc : Thread Cert.LepeIdeal.nD Cert.LepeIdeal.τ).loc Cert.LepeIdeal.main_arg4) = m ((c.tc : Thread Cert.LepeIdeal.nD Cert.LepeIdeal.τ).loc Cert.LepeIdeal.main_arg4)
      ∧ r.2.mem ((c.tc : Thread Cert.LepeIdeal.nD Cert.LepeIdeal.τ).loc Cert.LepeIdeal.main_arg5) = m ((c.tc : Thread Cert.LepeIdeal.nD Cert.LepeIdeal.τ).loc Cert.LepeIdeal.main_arg5))
      ∧ r.2.sem = fun _ => 0)

def quiescent_LepeRefIdeal [hLepeRefIdeal : Cert.LepeRefIdeal.Facts] : Prop :=
  ∀ (m : (ℓ : Loc Cert.LepeRefIdeal.nD Cert.LepeRefIdeal.τ Cert.LepeRefIdeal.sig) → Buf (Elt Ideal) ℓ) (g : Dev Cert.LepeRefIdeal.nD → PrngReg), Pre_LepeRefIdeal m →
    θ_run (Cert.LepeRefIdeal.defs (F := Ideal)) (onTc (τ := Cert.LepeRefIdeal.τ) (Cert.LepeRefIdeal.main (F := Ideal))) ⟨m, fun _ => 0, g⟩ (fun r => (∀ c : Dev Cert.LepeRefIdeal.nD,
      r.2.mem ((c.tc : Thread Cert.LepeRefIdeal.nD Cert.LepeRefIdeal.τ).loc Cert.LepeRefIdeal.main_arg0) = m ((c.tc : Thread Cert.LepeRefIdeal.nD Cert.LepeRefIdeal.τ).loc Cert.LepeRefIdeal.main_arg0)
      ∧ r.2.mem ((c.tc : Thread Cert.LepeRefIdeal.nD Cert.LepeRefIdeal.τ).loc Cert.LepeRefIdeal.main_arg1) = m ((c.tc : Thread Cert.LepeRefIdeal.nD Cert.LepeRefIdeal.τ).loc Cert.LepeRefIdeal.main_arg1)
      ∧ r.2.mem ((c.tc : Thread Cert.LepeRefIdeal.nD Cert.LepeRefIdeal.τ).loc Cert.LepeRefIdeal.main_arg2) = m ((c.tc : Thread Cert.LepeRefIdeal.nD Cert.LepeRefIdeal.τ).loc Cert.LepeRefIdeal.main_arg2)
      ∧ r.2.mem ((c.tc : Thread Cert.LepeRefIdeal.nD Cert.LepeRefIdeal.τ).loc Cert.LepeRefIdeal.main_arg3) = m ((c.tc : Thread Cert.LepeRefIdeal.nD Cert.LepeRefIdeal.τ).loc Cert.LepeRefIdeal.main_arg3)
      ∧ r.2.mem ((c.tc : Thread Cert.LepeRefIdeal.nD Cert.LepeRefIdeal.τ).loc Cert.LepeRefIdeal.main_arg4) = m ((c.tc : Thread Cert.LepeRefIdeal.nD Cert.LepeRefIdeal.τ).loc Cert.LepeRefIdeal.main_arg4)
      ∧ r.2.mem ((c.tc : Thread Cert.LepeRefIdeal.nD Cert.LepeRefIdeal.τ).loc Cert.LepeRefIdeal.main_arg5) = m ((c.tc : Thread Cert.LepeRefIdeal.nD Cert.LepeRefIdeal.τ).loc Cert.LepeRefIdeal.main_arg5))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def quiescent_RouteIdeal_pre_two_scores [hRouteIdeal : Cert.RouteIdeal.Facts] [hPre_two_scores : Cert.Pre_two_scores.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_two_scores m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0))
      ∧ r.2.sem = fun _ => 0)

def quiescent_RouteRefIdeal_pre_two_scores [hRouteRefIdeal : Cert.RouteRefIdeal.Facts] [hPre_two_scores : Cert.Pre_two_scores.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_two_scores m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)) (v3 : (c : Dev Cert.QkvIdeal.nD) → Buf (Elt Ideal) ((c.tc : Thread Cert.QkvIdeal.nD Cert.QkvIdeal.τ).loc Cert.QkvIdeal.main_v2_3)) (v4 : (c : Dev Cert.QkvIdeal.nD) → Buf (Elt Ideal) ((c.tc : Thread Cert.QkvIdeal.nD Cert.QkvIdeal.τ).loc Cert.QkvIdeal.main_v2_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_v2_3) = v3 c
          ∧ r.2.mem ((c.tc : Thread Cert.QkvIdeal.nD Cert.QkvIdeal.τ).loc Cert.QkvIdeal.main_v2_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v24) = v0 c
          ∧ r.2.mem ((c.tc : Thread Cert.QkvRefIdeal.nD Cert.QkvRefIdeal.τ).loc Cert.QkvRefIdeal.main_v27) = v1 c
          ∧ r.2.mem ((c.tc : Thread Cert.QkvRefIdeal.nD Cert.QkvRefIdeal.τ).loc Cert.QkvRefIdeal.main_v30) = v2 c
          ∧ r.2.mem ((c.tc : Thread Cert.QkvRefIdeal.nD Cert.QkvRefIdeal.τ).loc Cert.QkvRefIdeal.main_v21) = v3 c
          ∧ r.2.mem ((c.tc : Thread Cert.QkvRefIdeal.nD Cert.QkvRefIdeal.τ).loc Cert.QkvRefIdeal.main_v19) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Lepe_LepeIdeal : Prop :=
  True

def algebraic_LepeIdeal_LepeRefIdeal [hLepeIdeal : Cert.LepeIdeal.Facts] [hLepeRefIdeal : Cert.LepeRefIdeal.Facts] : Prop :=
  ∀ (m : (ℓ : Loc Cert.LepeIdeal.nD Cert.LepeIdeal.τ Cert.LepeIdeal.sig) → Buf (Elt Ideal) ℓ) (g : Dev Cert.LepeIdeal.nD → PrngReg)
    (m' : (ℓ : Loc Cert.LepeRefIdeal.nD Cert.LepeRefIdeal.τ Cert.LepeRefIdeal.sig) → Buf (Elt Ideal) ℓ) (g' : Dev Cert.LepeRefIdeal.nD → PrngReg), Pre_LepeIdeal m →
    (∀ c : Dev Cert.LepeIdeal.nD,
      m' ((c.tc : Thread Cert.LepeRefIdeal.nD Cert.LepeRefIdeal.τ).loc Cert.LepeRefIdeal.main_arg0) = m ((c.tc : Thread Cert.LepeIdeal.nD Cert.LepeIdeal.τ).loc Cert.LepeIdeal.main_arg0)
      ∧ m' ((c.tc : Thread Cert.LepeRefIdeal.nD Cert.LepeRefIdeal.τ).loc Cert.LepeRefIdeal.main_arg1) = m ((c.tc : Thread Cert.LepeIdeal.nD Cert.LepeIdeal.τ).loc Cert.LepeIdeal.main_arg1)
      ∧ m' ((c.tc : Thread Cert.LepeRefIdeal.nD Cert.LepeRefIdeal.τ).loc Cert.LepeRefIdeal.main_arg2) = m ((c.tc : Thread Cert.LepeIdeal.nD Cert.LepeIdeal.τ).loc Cert.LepeIdeal.main_arg2)
      ∧ m' ((c.tc : Thread Cert.LepeRefIdeal.nD Cert.LepeRefIdeal.τ).loc Cert.LepeRefIdeal.main_arg3) = m ((c.tc : Thread Cert.LepeIdeal.nD Cert.LepeIdeal.τ).loc Cert.LepeIdeal.main_arg3)
      ∧ m' ((c.tc : Thread Cert.LepeRefIdeal.nD Cert.LepeRefIdeal.τ).loc Cert.LepeRefIdeal.main_arg4) = m ((c.tc : Thread Cert.LepeIdeal.nD Cert.LepeIdeal.τ).loc Cert.LepeIdeal.main_arg4)
      ∧ m' ((c.tc : Thread Cert.LepeRefIdeal.nD Cert.LepeRefIdeal.τ).loc Cert.LepeRefIdeal.main_arg5) = m ((c.tc : Thread Cert.LepeIdeal.nD Cert.LepeIdeal.τ).loc Cert.LepeIdeal.main_arg5)) →
    ∃ (v0 : (c : Dev Cert.LepeIdeal.nD) → Buf (Elt Ideal) ((c.tc : Thread Cert.LepeIdeal.nD Cert.LepeIdeal.τ).loc Cert.LepeIdeal.main_v5)),
      θ_run (Cert.LepeIdeal.defs (F := Ideal)) (onTc (τ := Cert.LepeIdeal.τ) (Cert.LepeIdeal.main (F := Ideal))) ⟨m, fun _ => 0, g⟩ (fun r => ∀ c : Dev Cert.LepeIdeal.nD,
          r.2.mem ((c.tc : Thread Cert.LepeIdeal.nD Cert.LepeIdeal.τ).loc Cert.LepeIdeal.main_v5) = v0 c
          ∧ r.2.mem ((c.tc : Thread Cert.LepeIdeal.nD Cert.LepeIdeal.τ).loc Cert.LepeIdeal.main_arg0) = m ((c.tc : Thread Cert.LepeIdeal.nD Cert.LepeIdeal.τ).loc Cert.LepeIdeal.main_arg0)
          ∧ r.2.mem ((c.tc : Thread Cert.LepeIdeal.nD Cert.LepeIdeal.τ).loc Cert.LepeIdeal.main_arg1) = m ((c.tc : Thread Cert.LepeIdeal.nD Cert.LepeIdeal.τ).loc Cert.LepeIdeal.main_arg1)
          ∧ r.2.mem ((c.tc : Thread Cert.LepeIdeal.nD Cert.LepeIdeal.τ).loc Cert.LepeIdeal.main_arg2) = m ((c.tc : Thread Cert.LepeIdeal.nD Cert.LepeIdeal.τ).loc Cert.LepeIdeal.main_arg2)
          ∧ r.2.mem ((c.tc : Thread Cert.LepeIdeal.nD Cert.LepeIdeal.τ).loc Cert.LepeIdeal.main_arg3) = m ((c.tc : Thread Cert.LepeIdeal.nD Cert.LepeIdeal.τ).loc Cert.LepeIdeal.main_arg3)
          ∧ r.2.mem ((c.tc : Thread Cert.LepeIdeal.nD Cert.LepeIdeal.τ).loc Cert.LepeIdeal.main_arg4) = m ((c.tc : Thread Cert.LepeIdeal.nD Cert.LepeIdeal.τ).loc Cert.LepeIdeal.main_arg4)
          ∧ r.2.mem ((c.tc : Thread Cert.LepeIdeal.nD Cert.LepeIdeal.τ).loc Cert.LepeIdeal.main_arg5) = m ((c.tc : Thread Cert.LepeIdeal.nD Cert.LepeIdeal.τ).loc Cert.LepeIdeal.main_arg5))
      ∧ θ_run (Cert.LepeRefIdeal.defs (F := Ideal)) (onTc (τ := Cert.LepeRefIdeal.τ) (Cert.LepeRefIdeal.main (F := Ideal))) ⟨m', fun _ => 0, g'⟩ (fun r => ∀ c : Dev Cert.LepeRefIdeal.nD,
          r.2.mem ((c.tc : Thread Cert.LepeRefIdeal.nD Cert.LepeRefIdeal.τ).loc Cert.LepeRefIdeal.main_v77) = v0 c
          ∧ r.2.mem ((c.tc : Thread Cert.LepeRefIdeal.nD Cert.LepeRefIdeal.τ).loc Cert.LepeRefIdeal.main_arg0) = m' ((c.tc : Thread Cert.LepeRefIdeal.nD Cert.LepeRefIdeal.τ).loc Cert.LepeRefIdeal.main_arg0)
          ∧ r.2.mem ((c.tc : Thread Cert.LepeRefIdeal.nD Cert.LepeRefIdeal.τ).loc Cert.LepeRefIdeal.main_arg1) = m' ((c.tc : Thread Cert.LepeRefIdeal.nD Cert.LepeRefIdeal.τ).loc Cert.LepeRefIdeal.main_arg1)
          ∧ r.2.mem ((c.tc : Thread Cert.LepeRefIdeal.nD Cert.LepeRefIdeal.τ).loc Cert.LepeRefIdeal.main_arg2) = m' ((c.tc : Thread Cert.LepeRefIdeal.nD Cert.LepeRefIdeal.τ).loc Cert.LepeRefIdeal.main_arg2)
          ∧ r.2.mem ((c.tc : Thread Cert.LepeRefIdeal.nD Cert.LepeRefIdeal.τ).loc Cert.LepeRefIdeal.main_arg3) = m' ((c.tc : Thread Cert.LepeRefIdeal.nD Cert.LepeRefIdeal.τ).loc Cert.LepeRefIdeal.main_arg3)
          ∧ r.2.mem ((c.tc : Thread Cert.LepeRefIdeal.nD Cert.LepeRefIdeal.τ).loc Cert.LepeRefIdeal.main_arg4) = m' ((c.tc : Thread Cert.LepeRefIdeal.nD Cert.LepeRefIdeal.τ).loc Cert.LepeRefIdeal.main_arg4)
          ∧ r.2.mem ((c.tc : Thread Cert.LepeRefIdeal.nD Cert.LepeRefIdeal.τ).loc Cert.LepeRefIdeal.main_arg5) = m' ((c.tc : Thread Cert.LepeRefIdeal.nD Cert.LepeRefIdeal.τ).loc Cert.LepeRefIdeal.main_arg5))

def preserves_Route_RouteIdeal : Prop :=
  IdealRules.named_const.Statement Cert.RouteIdeal.κ "mask" .f32 0xF149F2CA#32 ⊥

def algebraic_RouteIdeal_RouteRefIdeal_pre_two_scores [hRouteIdeal : Cert.RouteIdeal.Facts] [hRouteRefIdeal : Cert.RouteRefIdeal.Facts] [hPre_two_scores : Cert.Pre_two_scores.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_two_scores m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)) →
    ∃ (v0 : (c : Dev Cert.RouteIdeal.nD) → Buf (Elt Ideal) ((c.tc : Thread Cert.RouteIdeal.nD Cert.RouteIdeal.τ).loc Cert.RouteIdeal.main_v3)) (v1 : (c : Dev Cert.RouteIdeal.nD) → Buf (Elt Ideal) ((c.tc : Thread Cert.RouteIdeal.nD Cert.RouteIdeal.τ).loc Cert.RouteIdeal.main_v4)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3) = v0 c
          ∧ r.2.mem ((c.tc : Thread Cert.RouteIdeal.nD Cert.RouteIdeal.τ).loc Cert.RouteIdeal.main_v4) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v6) = v0 c
          ∧ r.2.mem ((c.tc : Thread Cert.RouteRefIdeal.nD Cert.RouteRefIdeal.τ).loc Cert.RouteRefIdeal.main_v8) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hLepe : Cert.Lepe.Facts) (hLepeIdeal : Cert.LepeIdeal.Facts) (hLepeRefIdeal : Cert.LepeRefIdeal.Facts) (hRoute : Cert.Route.Facts) (hRouteIdeal : Cert.RouteIdeal.Facts) (hRouteRefIdeal : Cert.RouteRefIdeal.Facts) (hPre_in_range : Cert.Pre_in_range.Facts) (hPre_distinct : Cert.Pre_distinct.Facts) (hPre_two_scores : Cert.Pre_two_scores.Facts),
    quiescent_Kernel (hKernel := hKernel) (hPre_in_range := hPre_in_range)
    ∧ quiescent_KernelIdeal (hKernelIdeal := hKernelIdeal) (hPre_in_range := hPre_in_range)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ quiescent_Qkv (hQkv := hQkv)
    ∧ quiescent_QkvIdeal (hQkvIdeal := hQkvIdeal)
    ∧ quiescent_QkvRefIdeal (hQkvRefIdeal := hQkvRefIdeal)
    ∧ quiescent_Lepe (hLepe := hLepe)
    ∧ quiescent_LepeIdeal (hLepeIdeal := hLepeIdeal)
    ∧ quiescent_LepeRefIdeal (hLepeRefIdeal := hLepeRefIdeal)
    ∧ quiescent_Route (hRoute := hRoute)
    ∧ quiescent_RouteIdeal (hRouteIdeal := hRouteIdeal)
    ∧ quiescent_RouteIdeal_pre_two_scores (hRouteIdeal := hRouteIdeal) (hPre_two_scores := hPre_two_scores)
    ∧ quiescent_RouteRefIdeal (hRouteRefIdeal := hRouteRefIdeal)
    ∧ quiescent_RouteRefIdeal_pre_two_scores (hRouteRefIdeal := hRouteRefIdeal) (hPre_two_scores := hPre_two_scores)
    ∧ preserves_Kernel_KernelIdeal
    ∧ algebraic_KernelIdeal_ReferenceIdeal_pre_distinct (hKernelIdeal := hKernelIdeal) (hReferenceIdeal := hReferenceIdeal) (hPre_distinct := hPre_distinct)
    ∧ preserves_Qkv_QkvIdeal
    ∧ algebraic_QkvIdeal_QkvRefIdeal (hQkvIdeal := hQkvIdeal) (hQkvRefIdeal := hQkvRefIdeal)
    ∧ preserves_Lepe_LepeIdeal
    ∧ algebraic_LepeIdeal_LepeRefIdeal (hLepeIdeal := hLepeIdeal) (hLepeRefIdeal := hLepeRefIdeal)
    ∧ preserves_Route_RouteIdeal
    ∧ algebraic_RouteIdeal_RouteRefIdeal_pre_two_scores (hRouteIdeal := hRouteIdeal) (hRouteRefIdeal := hRouteRefIdeal) (hPre_two_scores := hPre_two_scores)
-- ==== Pre_distinct.lean ====
abbrev S8x784x24x64 : Shape := ⟨4, ![8, 784, 24, 64]⟩
abbrev S2x784 : Shape := ⟨2, ![2, 784]⟩
abbrev S_ : Shape := ⟨0, ![]⟩
abbrev S8x784x64x24 : Shape := ⟨4, ![8, 784, 64, 24]⟩
abbrev S2x4x784x64x24 : Shape := ⟨5, ![2, 4, 784, 64, 24]⟩
abbrev S2x784x1 : Shape := ⟨3, ![2, 784, 1]⟩
abbrev S2x784x2 : Shape := ⟨3, ![2, 784, 2]⟩
abbrev S2x1x784x2 : Shape := ⟨4, ![2, 1, 784, 2]⟩
abbrev S2x4x784x2 : Shape := ⟨4, ![2, 4, 784, 2]⟩
abbrev S2x4x1x784x64x24 : Shape := ⟨6, ![2, 4, 1, 784, 64, 24]⟩
abbrev S2x4x784x2x1x1 : Shape := ⟨6, ![2, 4, 784, 2, 1, 1]⟩
abbrev S2x4x784x2x1 : Shape := ⟨5, ![2, 4, 784, 2, 1]⟩
abbrev S2x4x784x2x64x24 : Shape := ⟨6, ![2, 4, 784, 2, 64, 24]⟩
abbrev S2x4x784x128x24 : Shape := ⟨5, ![2, 4, 784, 128, 24]⟩
abbrev S2x4x784x64x128 : Shape := ⟨5, ![2, 4, 784, 64, 128]⟩
abbrev S2x4x784x64x17 : Shape := ⟨5, ![2, 4, 784, 64, 17]⟩
abbrev S2x4x784x64x16 : Shape := ⟨5, ![2, 4, 784, 64, 16]⟩
abbrev S2x4x784x64x1 : Shape := ⟨5, ![2, 4, 784, 64, 1]⟩
abbrev S2x4x784x64 : Shape := ⟨4, ![2, 4, 784, 64]⟩

class Facts : Prop where
  bcast_S_S2x784 : S_.BroadcastsInDim S2x784 (![] : Fin 0 → Fin S2x784.rank)
  reducesTo_S2x784_S_d0_1 : S2x784.ReducesTo [0, 1] S_
  h_S_ : 0 < S_.numel
  transposes_S8x784x24x64_S8x784x64x24_0_1_3_2 : S8x784x24x64.Transposes [0, 1, 3, 2] S8x784x64x24
  shapeCasts_S8x784x64x24_S2x4x784x64x24 : S8x784x64x24.ShapeCasts S2x4x784x64x24
  bcast_S2x784_S2x784x1_0_1 : S2x784.BroadcastsInDim S2x784x1 (![0, 1] : Fin 2 → Fin S2x784x1.rank)
  concatenates_S2x784x1_S2x784x1_S2x784x2_d2 : Shape.Concatenates [S2x784x1, S2x784x1] S2x784x2 2
  bcast_S2x784x2_S2x1x784x2_0_2_3 : S2x784x2.BroadcastsInDim S2x1x784x2 (![0, 2, 3] : Fin 3 → Fin S2x1x784x2.rank)
  bcast_S2x1x784x2_S2x4x784x2_0_1_2_3 : S2x1x784x2.BroadcastsInDim S2x4x784x2 (![0, 1, 2, 3] : Fin 4 → Fin S2x4x784x2.rank)
  bcast_S2x4x784x64x24_S2x4x1x784x64x24_0_1_3_4_5 : S2x4x784x64x24.BroadcastsInDim S2x4x1x784x64x24 (![0, 1, 3, 4, 5] : Fin 5 → Fin S2x4x1x784x64x24.rank)
  bcast_S2x4x784x2_S2x4x784x2x1x1_0_1_2_3 : S2x4x784x2.BroadcastsInDim S2x4x784x2x1x1 (![0, 1, 2, 3] : Fin 4 → Fin S2x4x784x2x1x1.rank)
  bcast_S_S2x4x784x2x1x1 : S_.BroadcastsInDim S2x4x784x2x1x1 (![] : Fin 0 → Fin S2x4x784x2x1x1.rank)
  shapeCasts_S2x4x784x2x1x1_S2x4x784x2x1 : S2x4x784x2x1x1.ShapeCasts S2x4x784x2x1
  shapeCasts_S2x4x1x784x64x24_S2x4x784x64x24 : S2x4x1x784x64x24.ShapeCasts S2x4x784x64x24
  shapeCasts_S2x4x784x2x64x24_S2x4x784x128x24 : S2x4x784x2x64x24.ShapeCasts S2x4x784x128x24
  bcast_S_S2x4x784x64x24 : S_.BroadcastsInDim S2x4x784x64x24 (![] : Fin 0 → Fin S2x4x784x64x24.rank)
  sliceFits_S2x4x784x64x128_S2x4x784x64x17 : S2x4x784x64x128.Slices (fun _ => 0) S2x4x784x64x17
  slices_S2x4x784x64x17_S2x4x784x64x16_0_0_0_0_0 : S2x4x784x64x17.Slices ![0, 0, 0, 0, 0] S2x4x784x64x16
  slices_S2x4x784x64x17_S2x4x784x64x16_0_0_0_0_1 : S2x4x784x64x17.Slices ![0, 0, 0, 0, 1] S2x4x784x64x16
  reducesTo_S2x4x784x64x16_S_d0_1_2_3_4 : S2x4x784x64x16.ReducesTo [0, 1, 2, 3, 4] S_
  slices_S2x4x784x64x17_S2x4x784x64x1_0_0_0_0_0 : S2x4x784x64x17.Slices ![0, 0, 0, 0, 0] S2x4x784x64x1
  shapeCasts_S2x4x784x64x1_S2x4x784x64 : S2x4x784x64x1.ShapeCasts S2x4x784x64
  bcast_S_S2x4x784x64 : S_.BroadcastsInDim S2x4x784x64 (![] : Fin 0 → Fin S2x4x784x64.rank)
  reducesTo_S2x4x784x64_S_d0_1_2_3 : S2x4x784x64.ReducesTo [0, 1, 2, 3] S_
  gather_S2x4x784x64x24_S2x4x784x2x1_S2x4x784x2x64x24_45_2_01_01_2_4_1116424_wf : GatherDims.WF S2x4x784x64x24 S2x4x784x2x1 S2x4x784x2x64x24 [4, 5] [2] [0, 1] [2] [0, 1] 4 ![1, 1, 1, 64, 24]
  dot_S2x4x784x64x24_S2x4x784x128x24_S2x4x784x64x128_4_4_3_3_012_012_wf : DotDims.WF S2x4x784x64x24 S2x4x784x128x24 S2x4x784x64x128 [4] [4] [3] [3] [0, 1, 2] [0, 1, 2]

variable [Facts]

def gather_S2x4x784x64x24_S2x4x784x2x1_S2x4x784x2x64x24_45_2_01_01_2_4_1116424 : GatherDims S2x4x784x64x24 S2x4x784x2x1 S2x4x784x2x64x24 where
  offsetDims := [4, 5]
  collapsedSliceDims := [2]
  operandBatchingDims := [0, 1]
  startIndicesBatchingDims := [0, 1]
  startIndexMap := [2]
  indexVectorDim := 4
  sliceSizes := ![1, 1, 1, 64, 24]
  wf := gather_S2x4x784x64x24_S2x4x784x2x1_S2x4x784x2x64x24_45_2_01_01_2_4_1116424_wf
def dot_S2x4x784x64x24_S2x4x784x128x24_S2x4x784x64x128_4_4_3_3_012_012 : DotDims S2x4x784x64x24 S2x4x784x128x24 S2x4x784x64x128 where
  lhsContracting := [4]
  rhsContracting := [4]
  lhsNonContracting := [3]
  rhsNonContracting := [3]
  lhsBatch := [0, 1, 2]
  rhsBatch := [0, 1, 2]
  wf := dot_S2x4x784x64x24_S2x4x784x128x24_S2x4x784x64x128_4_4_3_3_012_012_wf
def fn_take_along_axis {F : FTy → Type} [FloatOps F] (arg0 : FVec F S2x4x1x784x64x24 .f32) (arg1 : IVec S2x4x784x2x1x1 32) : FVec F S2x4x784x2x64x24 .f32 :=
  let c : IVec S_ 32 := constantI S_ 32 0#32
  let v0 : IVec S2x4x784x2x1x1 32 := broadcastInDim S2x4x784x2x1x1 ![] bcast_S_S2x4x784x2x1x1 c
  let v1 : IVec S2x4x784x2x1x1 1 := cmpi .slt arg1 v0
  let c_0 : IVec S_ 32 := constantI S_ 32 784#32
  let v2 : IVec S2x4x784x2x1x1 32 := broadcastInDim S2x4x784x2x1x1 ![] bcast_S_S2x4x784x2x1x1 c_0
  let v3 : IVec S2x4x784x2x1x1 32 := addi arg1 v2
  let v4 : IVec S2x4x784x2x1x1 32 := select v1 v3 arg1
  let v5 : IVec S2x4x784x2x1 32 := shapeCast S2x4x784x2x1 v4 shapeCasts_S2x4x784x2x1x1_S2x4x784x2x1
  let v6 : FVec F S2x4x784x64x24 .f32 := shapeCast S2x4x784x64x24 arg0 shapeCasts_S2x4x1x784x64x24_S2x4x784x64x24
  let v7 : FVec F S2x4x784x2x64x24 .f32 := (fun x i => Host.gather gather_S2x4x784x64x24_S2x4x784x2x1_S2x4x784x2x64x24_45_2_01_01_2_4_1116424 x i) v6 v5
  v7

def fn_part2 {F : FTy → Type} [FloatOps F] (main_v32 : IVec S_ 1) (main_v36 : IVec S2x4x784x64 1) (main_c_6 : IVec S_ 1) : IVec S_ 1 :=
  let main_v37 : IVec S_ 1 := (fun x v => Host.reduce IntOp.andi x v reducesTo_S2x4x784x64_S_d0_1_2_3 h_S_) main_v36 main_c_6
  let main_v38 : IVec S_ 1 := andi main_v32 main_v37
  main_v38

def fn_part1 {F : FTy → Type} [FloatOps F] (main_v11 : IVec S_ 1) (main_v13 : FVec F S2x4x784x64x24 .f32) (main_v15 : FVec F S2x4x784x64x24 .f32) (main_v18 : IVec S2x784x2 32) : IVec S_ 1 :=
  let main_v19 : IVec S2x1x784x2 32 := broadcastInDim S2x1x784x2 ![0, 2, 3] bcast_S2x784x2_S2x1x784x2_0_2_3 main_v18
  let main_v20 : IVec S2x4x784x2 32 := broadcastInDim S2x4x784x2 ![0, 1, 2, 3] bcast_S2x1x784x2_S2x4x784x2_0_1_2_3 main_v19
  let main_v21 : FVec F S2x4x1x784x64x24 .f32 := broadcastInDim S2x4x1x784x64x24 ![0, 1, 3, 4, 5] bcast_S2x4x784x64x24_S2x4x1x784x64x24_0_1_3_4_5 main_v13
  let main_v22 : IVec S2x4x784x2x1x1 32 := broadcastInDim S2x4x784x2x1x1 ![0, 1, 2, 3] bcast_S2x4x784x2_S2x4x784x2x1x1_0_1_2_3 main_v20
  let main_v23 : FVec F S2x4x784x2x64x24 .f32 := fn_take_along_axis (F := F) main_v21 main_v22
  let main_v24 : FVec F S2x4x784x128x24 .f32 := shapeCast S2x4x784x128x24 main_v23 shapeCasts_S2x4x784x2x64x24_S2x4x784x128x24
  let main_cst : FVec F S_ .f32 := constant S_ .f32 0x3DD105EC#32
  let main_v25 : FVec F S2x4x784x64x24 .f32 := broadcastInDim S2x4x784x64x24 ![] bcast_S_S2x4x784x64x24 main_cst
  let main_v26 : FVec F S2x4x784x64x24 .f32 := mulf main_v15 main_v25
  let main_v27 : FVec F S2x4x784x64x128 .f32 := (fun l r => Host.dotGeneral dot_S2x4x784x64x24_S2x4x784x128x24_S2x4x784x64x128_4_4_3_3_012_012 none l r) main_v26 main_v24
  let main_values : FVec F S2x4x784x64x17 .f32 := (fun x => (Host.topK S2x4x784x64x17 4 (FloatOps.cmpfTotal .gt) x sliceFits_S2x4x784x64x128_S2x4x784x64x17).1) main_v27
  let main_indices : IVec S2x4x784x64x17 32 := (fun x => (Host.topK S2x4x784x64x17 4 (FloatOps.cmpfTotal .gt) x sliceFits_S2x4x784x64x128_S2x4x784x64x17).2) main_v27
  let main_v28 : FVec F S2x4x784x64x16 .f32 := (extractStridedSlice S2x4x784x64x16 ![0, 0, 0, 0, 0] · slices_S2x4x784x64x17_S2x4x784x64x16_0_0_0_0_0) main_values
  let main_v29 : FVec F S2x4x784x64x16 .f32 := (extractStridedSlice S2x4x784x64x16 ![0, 0, 0, 0, 1] · slices_S2x4x784x64x17_S2x4x784x64x16_0_0_0_0_1) main_values
  let main_v30 : IVec S2x4x784x64x16 1 := cmpf .ogt main_v28 main_v29
  let main_c_4 : IVec S_ 1 := constantI S_ 1 1#1
  let main_v31 : IVec S_ 1 := (fun x v => Host.reduce IntOp.andi x v reducesTo_S2x4x784x64x16_S_d0_1_2_3_4 h_S_) main_v30 main_c_4
  let main_v32 : IVec S_ 1 := andi main_v11 main_v31
  let main_v33 : FVec F S2x4x784x64x1 .f32 := (extractStridedSlice S2x4x784x64x1 ![0, 0, 0, 0, 0] · slices_S2x4x784x64x17_S2x4x784x64x1_0_0_0_0_0) main_values
  let main_v34 : FVec F S2x4x784x64 .f32 := shapeCast S2x4x784x64 main_v33 shapeCasts_S2x4x784x64x1_S2x4x784x64
  let main_cst_5 : FVec F S_ .f32 := constant S_ .f32 0x7F800000#32
  let main_v35 : FVec F S2x4x784x64 .f32 := broadcastInDim S2x4x784x64 ![] bcast_S_S2x4x784x64 main_cst_5
  let main_v36 : IVec S2x4x784x64 1 := cmpf .olt main_v34 main_v35
  let main_c_6 : IVec S_ 1 := constantI S_ 1 1#1
  fn_part2 (F := F) main_v32 main_v36 main_c_6

def fn {F : FTy → Type} [FloatOps F] (main_arg0 : FVec F S8x784x24x64 .f32) (main_arg1 : FVec F S8x784x24x64 .f32) (main_arg2 : FVec F S8x784x24x64 .f32) (main_arg3 : IVec S2x784 32) (main_arg4 : IVec S2x784 32) : IVec S_ 1 :=
  let main_c : IVec S_ 32 := constantI S_ 32 0#32
  let main_v0 : IVec S2x784 32 := broadcastInDim S2x784 ![] bcast_S_S2x784 main_c
  let main_v1 : IVec S2x784 1 := cmpi .sge main_arg3 main_v0
  let main_c_0 : IVec S_ 32 := constantI S_ 32 784#32
  let main_v2 : IVec S2x784 32 := broadcastInDim S2x784 ![] bcast_S_S2x784 main_c_0
  let main_v3 : IVec S2x784 1 := cmpi .slt main_arg3 main_v2
  let main_v4 : IVec S2x784 1 := andi main_v1 main_v3
  let main_c_1 : IVec S_ 32 := constantI S_ 32 0#32
  let main_v5 : IVec S2x784 32 := broadcastInDim S2x784 ![] bcast_S_S2x784 main_c_1
  let main_v6 : IVec S2x784 1 := cmpi .sge main_arg4 main_v5
  let main_v7 : IVec S2x784 1 := andi main_v4 main_v6
  let main_c_2 : IVec S_ 32 := constantI S_ 32 784#32
  let main_v8 : IVec S2x784 32 := broadcastInDim S2x784 ![] bcast_S_S2x784 main_c_2
  let main_v9 : IVec S2x784 1 := cmpi .slt main_arg4 main_v8
  let main_v10 : IVec S2x784 1 := andi main_v7 main_v9
  let main_c_3 : IVec S_ 1 := constantI S_ 1 1#1
  let main_v11 : IVec S_ 1 := (fun x v => Host.reduce IntOp.andi x v reducesTo_S2x784_S_d0_1 h_S_) main_v10 main_c_3
  let main_v12 : FVec F S8x784x64x24 .f32 := (transpose S8x784x64x24 [0, 1, 3, 2] · transposes_S8x784x24x64_S8x784x64x24_0_1_3_2) main_arg1
  let main_v13 : FVec F S2x4x784x64x24 .f32 := shapeCast S2x4x784x64x24 main_v12 shapeCasts_S8x784x64x24_S2x4x784x64x24
  let main_v14 : FVec F S8x784x64x24 .f32 := (transpose S8x784x64x24 [0, 1, 3, 2] · transposes_S8x784x24x64_S8x784x64x24_0_1_3_2) main_arg0
  let main_v15 : FVec F S2x4x784x64x24 .f32 := shapeCast S2x4x784x64x24 main_v14 shapeCasts_S8x784x64x24_S2x4x784x64x24
  let main_v16 : IVec S2x784x1 32 := broadcastInDim S2x784x1 ![0, 1] bcast_S2x784_S2x784x1_0_1 main_arg3
  let main_v17 : IVec S2x784x1 32 := broadcastInDim S2x784x1 ![0, 1] bcast_S2x784_S2x784x1_0_1 main_arg4
  let main_v18 : IVec S2x784x2 32 := (fun a b => concatenate S2x784x2 2 [⟨S2x784x1, a⟩, ⟨S2x784x1, b⟩] concatenates_S2x784x1_S2x784x1_S2x784x2_d2) main_v16 main_v17
  fn_part1 (F := F) main_v11 main_v13 main_v15 main_v18
-- ==== Pre_in_range.lean ====
abbrev S8x784x24x64 : Shape := ⟨4, ![8, 784, 24, 64]⟩
abbrev S2x784 : Shape := ⟨2, ![2, 784]⟩
abbrev S_ : Shape := ⟨0, ![]⟩

class Facts : Prop where
  bcast_S_S2x784 : S_.BroadcastsInDim S2x784 (![] : Fin 0 → Fin S2x784.rank)
  reducesTo_S2x784_S_d0_1 : S2x784.ReducesTo [0, 1] S_
  h_S_ : 0 < S_.numel

variable [Facts]

def fn {F : FTy → Type} [FloatOps F] (main_arg0 : FVec F S8x784x24x64 .f32) (main_arg1 : FVec F S8x784x24x64 .f32) (main_arg2 : FVec F S8x784x24x64 .f32) (main_arg3 : IVec S2x784 32) (main_arg4 : IVec S2x784 32) : IVec S_ 1 :=
  let main_c : IVec S_ 32 := constantI S_ 32 0#32
  let main_v0 : IVec S2x784 32 := broadcastInDim S2x784 ![] bcast_S_S2x784 main_c
  let main_v1 : IVec S2x784 1 := cmpi .sge main_arg3 main_v0
  let main_c_0 : IVec S_ 32 := constantI S_ 32 784#32
  let main_v2 : IVec S2x784 32 := broadcastInDim S2x784 ![] bcast_S_S2x784 main_c_0
  let main_v3 : IVec S2x784 1 := cmpi .slt main_arg3 main_v2
  let main_v4 : IVec S2x784 1 := andi main_v1 main_v3
  let main_c_1 : IVec S_ 32 := constantI S_ 32 0#32
  let main_v5 : IVec S2x784 32 := broadcastInDim S2x784 ![] bcast_S_S2x784 main_c_1
  let main_v6 : IVec S2x784 1 := cmpi .sge main_arg4 main_v5
  let main_v7 : IVec S2x784 1 := andi main_v4 main_v6
  let main_c_2 : IVec S_ 32 := constantI S_ 32 784#32
  let main_v8 : IVec S2x784 32 := broadcastInDim S2x784 ![] bcast_S_S2x784 main_c_2
  let main_v9 : IVec S2x784 1 := cmpi .slt main_arg4 main_v8
  let main_v10 : IVec S2x784 1 := andi main_v7 main_v9
  let main_c_3 : IVec S_ 1 := constantI S_ 1 1#1
  let main_v11 : IVec S_ 1 := (fun x v => Host.reduce IntOp.andi x v reducesTo_S2x784_S_d0_1 h_S_) main_v10 main_c_3
  main_v11
-- ==== Pre_two_scores.lean ====
abbrev S56x28x192 : Shape := ⟨3, ![56, 28, 192]⟩
abbrev S2x784x192 : Shape := ⟨3, ![2, 784, 192]⟩
abbrev S2x784x96 : Shape := ⟨3, ![2, 784, 96]⟩
abbrev S2x96x784 : Shape := ⟨3, ![2, 96, 784]⟩
abbrev S2x784x784 : Shape := ⟨3, ![2, 784, 784]⟩
abbrev S2x784x2 : Shape := ⟨3, ![2, 784, 2]⟩
abbrev S2x784x1 : Shape := ⟨3, ![2, 784, 1]⟩
abbrev S2x784 : Shape := ⟨2, ![2, 784]⟩
abbrev S_ : Shape := ⟨0, ![]⟩

class Facts : Prop where
  shapeCasts_S56x28x192_S2x784x192 : S56x28x192.ShapeCasts S2x784x192
  slices_S2x784x192_S2x784x96_0_0_0 : S2x784x192.Slices ![0, 0, 0] S2x784x96
  slices_S2x784x192_S2x784x96_0_0_96 : S2x784x192.Slices ![0, 0, 96] S2x784x96
  transposes_S2x784x96_S2x96x784_0_2_1 : S2x784x96.Transposes [0, 2, 1] S2x96x784
  sliceFits_S2x784x784_S2x784x2 : S2x784x784.Slices (fun _ => 0) S2x784x2
  slices_S2x784x2_S2x784x1_0_0_1 : S2x784x2.Slices ![0, 0, 1] S2x784x1
  shapeCasts_S2x784x1_S2x784 : S2x784x1.ShapeCasts S2x784
  bcast_S_S2x784 : S_.BroadcastsInDim S2x784 (![] : Fin 0 → Fin S2x784.rank)
  reducesTo_S2x784_S_d0_1 : S2x784.ReducesTo [0, 1] S_
  h_S_ : 0 < S_.numel
  dot_S2x784x96_S2x96x784_S2x784x784_2_1_1_2_0_0_wf : DotDims.WF S2x784x96 S2x96x784 S2x784x784 [2] [1] [1] [2] [0] [0]

variable [Facts]

def dot_S2x784x96_S2x96x784_S2x784x784_2_1_1_2_0_0 : DotDims S2x784x96 S2x96x784 S2x784x784 where
  lhsContracting := [2]
  rhsContracting := [1]
  lhsNonContracting := [1]
  rhsNonContracting := [2]
  lhsBatch := [0]
  rhsBatch := [0]
  wf := dot_S2x784x96_S2x96x784_S2x784x784_2_1_1_2_0_0_wf
def fn {F : FTy → Type} [FloatOps F] (main_arg0 : FVec F S56x28x192 .f32) : IVec S_ 1 :=
  let main_v0 : FVec F S2x784x192 .f32 := shapeCast S2x784x192 main_arg0 shapeCasts_S56x28x192_S2x784x192
  let main_v1 : FVec F S2x784x96 .f32 := (extractStridedSlice S2x784x96 ![0, 0, 0] · slices_S2x784x192_S2x784x96_0_0_0) main_v0
  let main_v2 : FVec F S2x784x96 .f32 := (extractStridedSlice S2x784x96 ![0, 0, 96] · slices_S2x784x192_S2x784x96_0_0_96) main_v0
  let main_v3 : FVec F S2x96x784 .f32 := (transpose S2x96x784 [0, 2, 1] · transposes_S2x784x96_S2x96x784_0_2_1) main_v2
  let main_v4 : FVec F S2x784x784 .f32 := (fun l r => Host.dotGeneral dot_S2x784x96_S2x96x784_S2x784x784_2_1_1_2_0_0 none l r) main_v1 main_v3
  let main_values : FVec F S2x784x2 .f32 := (fun x => (Host.topK S2x784x2 2 (FloatOps.cmpfTotal .gt) x sliceFits_S2x784x784_S2x784x2).1) main_v4
  let main_indices : IVec S2x784x2 32 := (fun x => (Host.topK S2x784x2 2 (FloatOps.cmpfTotal .gt) x sliceFits_S2x784x784_S2x784x2).2) main_v4
  let main_v5 : FVec F S2x784x1 .f32 := (extractStridedSlice S2x784x1 ![0, 0, 1] · slices_S2x784x2_S2x784x1_0_0_1) main_values
  let main_v6 : FVec F S2x784 .f32 := shapeCast S2x784 main_v5 shapeCasts_S2x784x1_S2x784
  let main_cst : FVec F S_ .f32 := constant S_ .f32 0xFF800000#32
  let main_v7 : FVec F S2x784 .f32 := broadcastInDim S2x784 ![] bcast_S_S2x784 main_cst
  let main_v8 : IVec S2x784 1 := cmpf .ogt main_v6 main_v7
  let main_c : IVec S_ 1 := constantI S_ 1 1#1
  let main_v9 : IVec S_ 1 := (fun x v => Host.reduce IntOp.andi x v reducesTo_S2x784_S_d0_1 h_S_) main_v8 main_c
  main_v9
-- ==== Kernel.lean ====
abbrev S8x784x24x64 : Shape := ⟨4, ![8, 784, 24, 64]⟩
abbrev S2x784 : Shape := ⟨2, ![2, 784]⟩
abbrev S2x4x224x224x24 : Shape := ⟨5, ![2, 4, 224, 224, 24]⟩
abbrev S1x28x24x64 : Shape := ⟨4, ![1, 28, 24, 64]⟩
abbrev S1x784x24x64 : Shape := ⟨4, ![1, 784, 24, 64]⟩
abbrev S1x1x8x224x24 : Shape := ⟨5, ![1, 1, 8, 224, 24]⟩
abbrev S1x1x24x64 : Shape := ⟨4, ![1, 1, 24, 64]⟩
abbrev S24x64 : Shape := ⟨2, ![24, 64]⟩
abbrev S1x1 : Shape := ⟨2, ![1, 1]⟩
abbrev S64x64 : Shape := ⟨2, ![64, 64]⟩
abbrev S128x64 : Shape := ⟨2, ![128, 64]⟩
abbrev S128x128 : Shape := ⟨2, ![128, 128]⟩
abbrev S128 : Shape := ⟨1, ![128]⟩
abbrev S1x128 : Shape := ⟨2, ![1, 128]⟩
abbrev S24x128 : Shape := ⟨2, ![24, 128]⟩
abbrev S64x24 : Shape := ⟨2, ![64, 24]⟩
abbrev S1x64x24 : Shape := ⟨3, ![1, 64, 24]⟩
abbrev S28x64x24 : Shape := ⟨3, ![28, 64, 24]⟩
abbrev S28x8x8x24 : Shape := ⟨4, ![28, 8, 8, 24]⟩
abbrev S8x28x8x24 : Shape := ⟨4, ![8, 28, 8, 24]⟩
abbrev S8x224x24 : Shape := ⟨3, ![8, 224, 24]⟩

abbrev nBuf : Space → Nat
  | .hbm => 4
  | .vmem => 8
  | .smem => 2
  | _ => 0

abbrev bufTy : (tb : Table) → Fin (tcTables nBuf tb) → BufTy
  | .hbm, ⟨0, _⟩ => ⟨S8x784x24x64, .f32⟩
  | .hbm, ⟨1, _⟩ => ⟨S8x784x24x64, .f32⟩
  | .hbm, ⟨2, _⟩ => ⟨S8x784x24x64, .f32⟩
  | .hbm, ⟨3, _⟩ => ⟨S2x4x224x224x24, .f32⟩
  | .local _ .vmem, ⟨0, _⟩ => ⟨S1x28x24x64, .f32⟩
  | .local _ .vmem, ⟨1, _⟩ => ⟨S1x28x24x64, .f32⟩
  | .local _ .vmem, ⟨2, _⟩ => ⟨S1x784x24x64, .f32⟩
  | .local _ .vmem, ⟨3, _⟩ => ⟨S1x784x24x64, .f32⟩
  | .local _ .vmem, ⟨4, _⟩ => ⟨S1x784x24x64, .f32⟩
  | .local _ .vmem, ⟨5, _⟩ => ⟨S1x784x24x64, .f32⟩
  | .local _ .vmem, ⟨6, _⟩ => ⟨S1x1x8x224x24, .f32⟩
  | .local _ .vmem, ⟨7, _⟩ => ⟨S1x1x8x224x24, .f32⟩
  | .local _ .smem, ⟨0, _⟩ => ⟨S2x784, .i32⟩
  | .local _ .smem, ⟨1, _⟩ => ⟨S2x784, .i32⟩
  | _, _ => ⟨S8x784x24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 28], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v28 : Index := Scalar.indexCast v16
  let arg1 : BitVec 32 := BitVec.ofNat 32 (i 1).val
  let c28_i32 : BitVec 32 := 28#32
  let v17 : BitVec 32 := Scalar.muli arg1 c28_i32
  let c0_i32_4 : BitVec 32 := 0#32
  let v18 : BitVec 32 := Scalar.addi v17 c0_i32_4
  let v29 : Index := Scalar.indexCast v18
  ![v28.toNat, v29.toNat]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v34 : Index := Scalar.indexCast v16
  let arg1 : BitVec 32 := BitVec.ofNat 32 (i 1).val
  let c28_i32 : BitVec 32 := 28#32
  let v17 : BitVec 32 := Scalar.muli arg1 c28_i32
  let c0_i32_4 : BitVec 32 := 0#32
  let v18 : BitVec 32 := Scalar.addi v17 c0_i32_4
  let c1_i32_5 : BitVec 32 := 1#32
  let v19 : BitVec 32 := Scalar.addi v18 c1_i32_5
  let v35 : Index := Scalar.indexCast v19
  ![v34.toNat, v35.toNat]
def k0_off3 (v30 : BitVec 32) : Fin 4 → Nat :=
  let c0_13 : Index := 0#32
  let v40 : Index := Scalar.indexCast v30
  let c0_14 : Index := 0#32
  let c0_15 : Index := 0#32
  ![0, v40.toNat, 0, 0]

def k0_off4 (v33 : BitVec 32) : Fin 4 → Nat :=
  let c0_17 : Index := 0#32
  let v44 : Index := Scalar.indexCast v33
  let c0_18 : Index := 0#32
  let c0_19 : Index := 0#32
  ![0, v44.toNat, 0, 0]

def k0_off5 (v36 : BitVec 32) : Fin 4 → Nat :=
  let c0_21 : Index := 0#32
  let v49 : Index := Scalar.indexCast v36
  let c0_22 : Index := 0#32
  let c0_23 : Index := 0#32
  ![0, v49.toNat, 0, 0]

def k0_off6 (v39 : BitVec 32) : Fin 4 → Nat :=
  let c0_25 : Index := 0#32
  let v53 : Index := Scalar.indexCast v39
  let c0_26 : Index := 0#32
  let c0_27 : Index := 0#32
  ![0, v53.toNat, 0, 0]

def k0_off7 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v70 : Index := Scalar.indexCast v16
  let arg1 : BitVec 32 := BitVec.ofNat 32 (i 1).val
  let c28_i32_29 : BitVec 32 := 28#32
  let v59 : BitVec 32 := Scalar.muli arg1 c28_i32_29
  let c2_i32 : BitVec 32 := 2#32
  let v60 : BitVec 32 := Scalar.addi v59 c2_i32
  let v71 : Index := Scalar.indexCast v60
  ![v70.toNat, v71.toNat]
def k0_off8 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v76 : Index := Scalar.indexCast v16
  let arg1 : BitVec 32 := BitVec.ofNat 32 (i 1).val
  let c28_i32_29 : BitVec 32 := 28#32
  let v59 : BitVec 32 := Scalar.muli arg1 c28_i32_29
  let c2_i32 : BitVec 32 := 2#32
  let v60 : BitVec 32 := Scalar.addi v59 c2_i32
  let c1_i32_30 : BitVec 32 := 1#32
  let v61 : BitVec 32 := Scalar.addi v60 c1_i32_30
  let v77 : Index := Scalar.indexCast v61
  ![v76.toNat, v77.toNat]
def k0_off9 (v72 : BitVec 32) : Fin 4 → Nat :=
  let c0_39 : Index := 0#32
  let v82 : Index := Scalar.indexCast v72
  let c0_40 : Index := 0#32
  let c0_41 : Index := 0#32
  ![0, v82.toNat, 0, 0]

def k0_off10 (v75 : BitVec 32) : Fin 4 → Nat :=
  let c0_43 : Index := 0#32
  let v86 : Index := Scalar.indexCast v75
  let c0_44 : Index := 0#32
  let c0_45 : Index := 0#32
  ![0, v86.toNat, 0, 0]

def k0_off11 (v78 : BitVec 32) : Fin 4 → Nat :=
  let c0_47 : Index := 0#32
  let v91 : Index := Scalar.indexCast v78
  let c0_48 : Index := 0#32
  let c0_49 : Index := 0#32
  ![0, v91.toNat, 0, 0]

def k0_off12 (v81 : BitVec 32) : Fin 4 → Nat :=
  let c0_51 : Index := 0#32
  let v95 : Index := Scalar.indexCast v81
  let c0_52 : Index := 0#32
  let c0_53 : Index := 0#32
  ![0, v95.toNat, 0, 0]

def k0_off13 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v112 : Index := Scalar.indexCast v16
  let arg1 : BitVec 32 := BitVec.ofNat 32 (i 1).val
  let c28_i32_55 : BitVec 32 := 28#32
  let v101 : BitVec 32 := Scalar.muli arg1 c28_i32_55
  let c4_i32_56 : BitVec 32 := 4#32
  let v102 : BitVec 32 := Scalar.addi v101 c4_i32_56
  let v113 : Index := Scalar.indexCast v102
  ![v112.toNat, v113.toNat]
def k0_off14 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v118 : Index := Scalar.indexCast v16
  let arg1 : BitVec 32 := BitVec.ofNat 32 (i 1).val
  let c28_i32_55 : BitVec 32 := 28#32
  let v101 : BitVec 32 := Scalar.muli arg1 c28_i32_55
  let c4_i32_56 : BitVec 32 := 4#32
  let v102 : BitVec 32 := Scalar.addi v101 c4_i32_56
  let c1_i32_57 : BitVec 32 := 1#32
  let v103 : BitVec 32 := Scalar.addi v102 c1_i32_57
  let v119 : Index := Scalar.indexCast v103
  ![v118.toNat, v119.toNat]
def k0_off15 (v114 : BitVec 32) : Fin 4 → Nat :=
  let c0_66 : Index := 0#32
  let v124 : Index := Scalar.indexCast v114
  let c0_67 : Index := 0#32
  let c0_68 : Index := 0#32
  ![0, v124.toNat, 0, 0]

def k0_off16 (v117 : BitVec 32) : Fin 4 → Nat :=
  let c0_70 : Index := 0#32
  let v128 : Index := Scalar.indexCast v117
  let c0_71 : Index := 0#32
  let c0_72 : Index := 0#32
  ![0, v128.toNat, 0, 0]

def k0_off17 (v120 : BitVec 32) : Fin 4 → Nat :=
  let c0_74 : Index := 0#32
  let v133 : Index := Scalar.indexCast v120
  let c0_75 : Index := 0#32
  let c0_76 : Index := 0#32
  ![0, v133.toNat, 0, 0]

def k0_off18 (v123 : BitVec 32) : Fin 4 → Nat :=
  let c0_78 : Index := 0#32
  let v137 : Index := Scalar.indexCast v123
  let c0_79 : Index := 0#32
  let c0_80 : Index := 0#32
  ![0, v137.toNat, 0, 0]

def k0_off19 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v154 : Index := Scalar.indexCast v16
  let arg1 : BitVec 32 := BitVec.ofNat 32 (i 1).val
  let c28_i32_82 : BitVec 32 := 28#32
  let v143 : BitVec 32 := Scalar.muli arg1 c28_i32_82
  let c6_i32 : BitVec 32 := 6#32
  let v144 : BitVec 32 := Scalar.addi v143 c6_i32
  let v155 : Index := Scalar.indexCast v144
  ![v154.toNat, v155.toNat]
def k0_off20 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v160 : Index := Scalar.indexCast v16
  let arg1 : BitVec 32 := BitVec.ofNat 32 (i 1).val
  let c28_i32_82 : BitVec 32 := 28#32
  let v143 : BitVec 32 := Scalar.muli arg1 c28_i32_82
  let c6_i32 : BitVec 32 := 6#32
  let v144 : BitVec 32 := Scalar.addi v143 c6_i32
  let c1_i32_83 : BitVec 32 := 1#32
  let v145 : BitVec 32 := Scalar.addi v144 c1_i32_83
  let v161 : Index := Scalar.indexCast v145
  ![v160.toNat, v161.toNat]
def k0_off21 (v156 : BitVec 32) : Fin 4 → Nat :=
  let c0_92 : Index := 0#32
  let v166 : Index := Scalar.indexCast v156
  let c0_93 : Index := 0#32
  let c0_94 : Index := 0#32
  ![0, v166.toNat, 0, 0]

def k0_off22 (v159 : BitVec 32) : Fin 4 → Nat :=
  let c0_96 : Index := 0#32
  let v170 : Index := Scalar.indexCast v159
  let c0_97 : Index := 0#32
  let c0_98 : Index := 0#32
  ![0, v170.toNat, 0, 0]

def k0_off23 (v162 : BitVec 32) : Fin 4 → Nat :=
  let c0_100 : Index := 0#32
  let v175 : Index := Scalar.indexCast v162
  let c0_101 : Index := 0#32
  let c0_102 : Index := 0#32
  ![0, v175.toNat, 0, 0]

def k0_off24 (v165 : BitVec 32) : Fin 4 → Nat :=
  let c0_104 : Index := 0#32
  let v179 : Index := Scalar.indexCast v165
  let c0_105 : Index := 0#32
  let c0_106 : Index := 0#32
  ![0, v179.toNat, 0, 0]

def k0_off25 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v196 : Index := Scalar.indexCast v16
  let arg1 : BitVec 32 := BitVec.ofNat 32 (i 1).val
  let c28_i32_108 : BitVec 32 := 28#32
  let v185 : BitVec 32 := Scalar.muli arg1 c28_i32_108
  let c8_i32 : BitVec 32 := 8#32
  let v186 : BitVec 32 := Scalar.addi v185 c8_i32
  let v197 : Index := Scalar.indexCast v186
  ![v196.toNat, v197.toNat]
def k0_off26 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v202 : Index := Scalar.indexCast v16
  let arg1 : BitVec 32 := BitVec.ofNat 32 (i 1).val
  let c28_i32_108 : BitVec 32 := 28#32
  let v185 : BitVec 32 := Scalar.muli arg1 c28_i32_108
  let c8_i32 : BitVec 32 := 8#32
  let v186 : BitVec 32 := Scalar.addi v185 c8_i32
  let c1_i32_109 : BitVec 32 := 1#32
  let v187 : BitVec 32 := Scalar.addi v186 c1_i32_109
  let v203 : Index := Scalar.indexCast v187
  ![v202.toNat, v203.toNat]
def k0_off27 (v198 : BitVec 32) : Fin 4 → Nat :=
  let c0_118 : Index := 0#32
  let v208 : Index := Scalar.indexCast v198
  let c0_119 : Index := 0#32
  let c0_120 : Index := 0#32
  ![0, v208.toNat, 0, 0]

def k0_off28 (v201 : BitVec 32) : Fin 4 → Nat :=
  let c0_122 : Index := 0#32
  let v212 : Index := Scalar.indexCast v201
  let c0_123 : Index := 0#32
  let c0_124 : Index := 0#32
  ![0, v212.toNat, 0, 0]

def k0_off29 (v204 : BitVec 32) : Fin 4 → Nat :=
  let c0_126 : Index := 0#32
  let v217 : Index := Scalar.indexCast v204
  let c0_127 : Index := 0#32
  let c0_128 : Index := 0#32
  ![0, v217.toNat, 0, 0]

def k0_off30 (v207 : BitVec 32) : Fin 4 → Nat :=
  let c0_130 : Index := 0#32
  let v221 : Index := Scalar.indexCast v207
  let c0_131 : Index := 0#32
  let c0_132 : Index := 0#32
  ![0, v221.toNat, 0, 0]

def k0_off31 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v238 : Index := Scalar.indexCast v16
  let arg1 : BitVec 32 := BitVec.ofNat 32 (i 1).val
  let c28_i32_134 : BitVec 32 := 28#32
  let v227 : BitVec 32 := Scalar.muli arg1 c28_i32_134
  let c10_i32 : BitVec 32 := 10#32
  let v228 : BitVec 32 := Scalar.addi v227 c10_i32
  let v239 : Index := Scalar.indexCast v228
  ![v238.toNat, v239.toNat]
def k0_off32 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v244 : Index := Scalar.indexCast v16
  let arg1 : BitVec 32 := BitVec.ofNat 32 (i 1).val
  let c28_i32_134 : BitVec 32 := 28#32
  let v227 : BitVec 32 := Scalar.muli arg1 c28_i32_134
  let c10_i32 : BitVec 32 := 10#32
  let v228 : BitVec 32 := Scalar.addi v227 c10_i32
  let c1_i32_135 : BitVec 32 := 1#32
  let v229 : BitVec 32 := Scalar.addi v228 c1_i32_135
  let v245 : Index := Scalar.indexCast v229
  ![v244.toNat, v245.toNat]
def k0_off33 (v240 : BitVec 32) : Fin 4 → Nat :=
  let c0_144 : Index := 0#32
  let v250 : Index := Scalar.indexCast v240
  let c0_145 : Index := 0#32
  let c0_146 : Index := 0#32
  ![0, v250.toNat, 0, 0]

def k0_off34 (v243 : BitVec 32) : Fin 4 → Nat :=
  let c0_148 : Index := 0#32
  let v254 : Index := Scalar.indexCast v243
  let c0_149 : Index := 0#32
  let c0_150 : Index := 0#32
  ![0, v254.toNat, 0, 0]

def k0_off35 (v246 : BitVec 32) : Fin 4 → Nat :=
  let c0_152 : Index := 0#32
  let v259 : Index := Scalar.indexCast v246
  let c0_153 : Index := 0#32
  let c0_154 : Index := 0#32
  ![0, v259.toNat, 0, 0]

def k0_off36 (v249 : BitVec 32) : Fin 4 → Nat :=
  let c0_156 : Index := 0#32
  let v263 : Index := Scalar.indexCast v249
  let c0_157 : Index := 0#32
  let c0_158 : Index := 0#32
  ![0, v263.toNat, 0, 0]

def k0_off37 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v280 : Index := Scalar.indexCast v16
  let arg1 : BitVec 32 := BitVec.ofNat 32 (i 1).val
  let c28_i32_160 : BitVec 32 := 28#32
  let v269 : BitVec 32 := Scalar.muli arg1 c28_i32_160
  let c12_i32 : BitVec 32 := 12#32
  let v270 : BitVec 32 := Scalar.addi v269 c12_i32
  let v281 : Index := Scalar.indexCast v270
  ![v280.toNat, v281.toNat]
def k0_off38 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v286 : Index := Scalar.indexCast v16
  let arg1 : BitVec 32 := BitVec.ofNat 32 (i 1).val
  let c28_i32_160 : BitVec 32 := 28#32
  let v269 : BitVec 32 := Scalar.muli arg1 c28_i32_160
  let c12_i32 : BitVec 32 := 12#32
  let v270 : BitVec 32 := Scalar.addi v269 c12_i32
  let c1_i32_161 : BitVec 32 := 1#32
  let v271 : BitVec 32 := Scalar.addi v270 c1_i32_161
  let v287 : Index := Scalar.indexCast v271
  ![v286.toNat, v287.toNat]
def k0_off39 (v282 : BitVec 32) : Fin 4 → Nat :=
  let c0_170 : Index := 0#32
  let v292 : Index := Scalar.indexCast v282
  let c0_171 : Index := 0#32
  let c0_172 : Index := 0#32
  ![0, v292.toNat, 0, 0]

def k0_off40 (v285 : BitVec 32) : Fin 4 → Nat :=
  let c0_174 : Index := 0#32
  let v296 : Index := Scalar.indexCast v285
  let c0_175 : Index := 0#32
  let c0_176 : Index := 0#32
  ![0, v296.toNat, 0, 0]

def k0_off41 (v288 : BitVec 32) : Fin 4 → Nat :=
  let c0_178 : Index := 0#32
  let v301 : Index := Scalar.indexCast v288
  let c0_179 : Index := 0#32
  let c0_180 : Index := 0#32
  ![0, v301.toNat, 0, 0]

def k0_off42 (v291 : BitVec 32) : Fin 4 → Nat :=
  let c0_182 : Index := 0#32
  let v305 : Index := Scalar.indexCast v291
  let c0_183 : Index := 0#32
  let c0_184 : Index := 0#32
  ![0, v305.toNat, 0, 0]

def k0_off43 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v322 : Index := Scalar.indexCast v16
  let arg1 : BitVec 32 := BitVec.ofNat 32 (i 1).val
  let c28_i32_186 : BitVec 32 := 28#32
  let v311 : BitVec 32 := Scalar.muli arg1 c28_i32_186
  let c14_i32 : BitVec 32 := 14#32
  let v312 : BitVec 32 := Scalar.addi v311 c14_i32
  let v323 : Index := Scalar.indexCast v312
  ![v322.toNat, v323.toNat]
def k0_off44 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v328 : Index := Scalar.indexCast v16
  let arg1 : BitVec 32 := BitVec.ofNat 32 (i 1).val
  let c28_i32_186 : BitVec 32 := 28#32
  let v311 : BitVec 32 := Scalar.muli arg1 c28_i32_186
  let c14_i32 : BitVec 32 := 14#32
  let v312 : BitVec 32 := Scalar.addi v311 c14_i32
  let c1_i32_187 : BitVec 32 := 1#32
  let v313 : BitVec 32 := Scalar.addi v312 c1_i32_187
  let v329 : Index := Scalar.indexCast v313
  ![v328.toNat, v329.toNat]
def k0_off45 (v324 : BitVec 32) : Fin 4 → Nat :=
  let c0_196 : Index := 0#32
  let v334 : Index := Scalar.indexCast v324
  let c0_197 : Index := 0#32
  let c0_198 : Index := 0#32
  ![0, v334.toNat, 0, 0]

def k0_off46 (v327 : BitVec 32) : Fin 4 → Nat :=
  let c0_200 : Index := 0#32
  let v338 : Index := Scalar.indexCast v327
  let c0_201 : Index := 0#32
  let c0_202 : Index := 0#32
  ![0, v338.toNat, 0, 0]

def k0_off47 (v330 : BitVec 32) : Fin 4 → Nat :=
  let c0_204 : Index := 0#32
  let v343 : Index := Scalar.indexCast v330
  let c0_205 : Index := 0#32
  let c0_206 : Index := 0#32
  ![0, v343.toNat, 0, 0]

def k0_off48 (v333 : BitVec 32) : Fin 4 → Nat :=
  let c0_208 : Index := 0#32
  let v347 : Index := Scalar.indexCast v333
  let c0_209 : Index := 0#32
  let c0_210 : Index := 0#32
  ![0, v347.toNat, 0, 0]

def k0_off49 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v364 : Index := Scalar.indexCast v16
  let arg1 : BitVec 32 := BitVec.ofNat 32 (i 1).val
  let c28_i32_212 : BitVec 32 := 28#32
  let v353 : BitVec 32 := Scalar.muli arg1 c28_i32_212
  let c16_i32 : BitVec 32 := 16#32
  let v354 : BitVec 32 := Scalar.addi v353 c16_i32
  let v365 : Index := Scalar.indexCast v354
  ![v364.toNat, v365.toNat]
def k0_off50 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v370 : Index := Scalar.indexCast v16
  let arg1 : BitVec 32 := BitVec.ofNat 32 (i 1).val
  let c28_i32_212 : BitVec 32 := 28#32
  let v353 : BitVec 32 := Scalar.muli arg1 c28_i32_212
  let c16_i32 : BitVec 32 := 16#32
  let v354 : BitVec 32 := Scalar.addi v353 c16_i32
  let c1_i32_213 : BitVec 32 := 1#32
  let v355 : BitVec 32 := Scalar.addi v354 c1_i32_213
  let v371 : Index := Scalar.indexCast v355
  ![v370.toNat, v371.toNat]
def k0_off51 (v366 : BitVec 32) : Fin 4 → Nat :=
  let c0_222 : Index := 0#32
  let v376 : Index := Scalar.indexCast v366
  let c0_223 : Index := 0#32
  let c0_224 : Index := 0#32
  ![0, v376.toNat, 0, 0]

def k0_off52 (v369 : BitVec 32) : Fin 4 → Nat :=
  let c0_226 : Index := 0#32
  let v380 : Index := Scalar.indexCast v369
  let c0_227 : Index := 0#32
  let c0_228 : Index := 0#32
  ![0, v380.toNat, 0, 0]

def k0_off53 (v372 : BitVec 32) : Fin 4 → Nat :=
  let c0_230 : Index := 0#32
  let v385 : Index := Scalar.indexCast v372
  let c0_231 : Index := 0#32
  let c0_232 : Index := 0#32
  ![0, v385.toNat, 0, 0]

def k0_off54 (v375 : BitVec 32) : Fin 4 → Nat :=
  let c0_234 : Index := 0#32
  let v389 : Index := Scalar.indexCast v375
  let c0_235 : Index := 0#32
  let c0_236 : Index := 0#32
  ![0, v389.toNat, 0, 0]

def k0_off55 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v406 : Index := Scalar.indexCast v16
  let arg1 : BitVec 32 := BitVec.ofNat 32 (i 1).val
  let c28_i32_238 : BitVec 32 := 28#32
  let v395 : BitVec 32 := Scalar.muli arg1 c28_i32_238
  let c18_i32 : BitVec 32 := 18#32
  let v396 : BitVec 32 := Scalar.addi v395 c18_i32
  let v407 : Index := Scalar.indexCast v396
  ![v406.toNat, v407.toNat]
def k0_off56 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v412 : Index := Scalar.indexCast v16
  let arg1 : BitVec 32 := BitVec.ofNat 32 (i 1).val
  let c28_i32_238 : BitVec 32 := 28#32
  let v395 : BitVec 32 := Scalar.muli arg1 c28_i32_238
  let c18_i32 : BitVec 32 := 18#32
  let v396 : BitVec 32 := Scalar.addi v395 c18_i32
  let c1_i32_239 : BitVec 32 := 1#32
  let v397 : BitVec 32 := Scalar.addi v396 c1_i32_239
  let v413 : Index := Scalar.indexCast v397
  ![v412.toNat, v413.toNat]
def k0_off57 (v408 : BitVec 32) : Fin 4 → Nat :=
  let c0_248 : Index := 0#32
  let v418 : Index := Scalar.indexCast v408
  let c0_249 : Index := 0#32
  let c0_250 : Index := 0#32
  ![0, v418.toNat, 0, 0]

def k0_off58 (v411 : BitVec 32) : Fin 4 → Nat :=
  let c0_252 : Index := 0#32
  let v422 : Index := Scalar.indexCast v411
  let c0_253 : Index := 0#32
  let c0_254 : Index := 0#32
  ![0, v422.toNat, 0, 0]

def k0_off59 (v414 : BitVec 32) : Fin 4 → Nat :=
  let c0_256 : Index := 0#32
  let v427 : Index := Scalar.indexCast v414
  let c0_257 : Index := 0#32
  let c0_258 : Index := 0#32
  ![0, v427.toNat, 0, 0]

def k0_off60 (v417 : BitVec 32) : Fin 4 → Nat :=
  let c0_260 : Index := 0#32
  let v431 : Index := Scalar.indexCast v417
  let c0_261 : Index := 0#32
  let c0_262 : Index := 0#32
  ![0, v431.toNat, 0, 0]

def k0_off61 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v448 : Index := Scalar.indexCast v16
  let arg1 : BitVec 32 := BitVec.ofNat 32 (i 1).val
  let c28_i32_264 : BitVec 32 := 28#32
  let v437 : BitVec 32 := Scalar.muli arg1 c28_i32_264
  let c20_i32 : BitVec 32 := 20#32
  let v438 : BitVec 32 := Scalar.addi v437 c20_i32
  let v449 : Index := Scalar.indexCast v438
  ![v448.toNat, v449.toNat]
def k0_off62 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v454 : Index := Scalar.indexCast v16
  let arg1 : BitVec 32 := BitVec.ofNat 32 (i 1).val
  let c28_i32_264 : BitVec 32 := 28#32
  let v437 : BitVec 32 := Scalar.muli arg1 c28_i32_264
  let c20_i32 : BitVec 32 := 20#32
  let v438 : BitVec 32 := Scalar.addi v437 c20_i32
  let c1_i32_265 : BitVec 32 := 1#32
  let v439 : BitVec 32 := Scalar.addi v438 c1_i32_265
  let v455 : Index := Scalar.indexCast v439
  ![v454.toNat, v455.toNat]
def k0_off63 (v450 : BitVec 32) : Fin 4 → Nat :=
  let c0_274 : Index := 0#32
  let v460 : Index := Scalar.indexCast v450
  let c0_275 : Index := 0#32
  let c0_276 : Index := 0#32
  ![0, v460.toNat, 0, 0]

def k0_off64 (v453 : BitVec 32) : Fin 4 → Nat :=
  let c0_278 : Index := 0#32
  let v464 : Index := Scalar.indexCast v453
  let c0_279 : Index := 0#32
  let c0_280 : Index := 0#32
  ![0, v464.toNat, 0, 0]

def k0_off65 (v456 : BitVec 32) : Fin 4 → Nat :=
  let c0_282 : Index := 0#32
  let v469 : Index := Scalar.indexCast v456
  let c0_283 : Index := 0#32
  let c0_284 : Index := 0#32
  ![0, v469.toNat, 0, 0]

def k0_off66 (v459 : BitVec 32) : Fin 4 → Nat :=
  let c0_286 : Index := 0#32
  let v473 : Index := Scalar.indexCast v459
  let c0_287 : Index := 0#32
  let c0_288 : Index := 0#32
  ![0, v473.toNat, 0, 0]

def k0_off67 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v490 : Index := Scalar.indexCast v16
  let arg1 : BitVec 32 := BitVec.ofNat 32 (i 1).val
  let c28_i32_290 : BitVec 32 := 28#32
  let v479 : BitVec 32 := Scalar.muli arg1 c28_i32_290
  let c22_i32 : BitVec 32 := 22#32
  let v480 : BitVec 32 := Scalar.addi v479 c22_i32
  let v491 : Index := Scalar.indexCast v480
  ![v490.toNat, v491.toNat]
def k0_off68 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v496 : Index := Scalar.indexCast v16
  let arg1 : BitVec 32 := BitVec.ofNat 32 (i 1).val
  let c28_i32_290 : BitVec 32 := 28#32
  let v479 : BitVec 32 := Scalar.muli arg1 c28_i32_290
  let c22_i32 : BitVec 32 := 22#32
  let v480 : BitVec 32 := Scalar.addi v479 c22_i32
  let c1_i32_291 : BitVec 32 := 1#32
  let v481 : BitVec 32 := Scalar.addi v480 c1_i32_291
  let v497 : Index := Scalar.indexCast v481
  ![v496.toNat, v497.toNat]
def k0_off69 (v492 : BitVec 32) : Fin 4 → Nat :=
  let c0_300 : Index := 0#32
  let v502 : Index := Scalar.indexCast v492
  let c0_301 : Index := 0#32
  let c0_302 : Index := 0#32
  ![0, v502.toNat, 0, 0]

def k0_off70 (v495 : BitVec 32) : Fin 4 → Nat :=
  let c0_304 : Index := 0#32
  let v506 : Index := Scalar.indexCast v495
  let c0_305 : Index := 0#32
  let c0_306 : Index := 0#32
  ![0, v506.toNat, 0, 0]

def k0_off71 (v498 : BitVec 32) : Fin 4 → Nat :=
  let c0_308 : Index := 0#32
  let v511 : Index := Scalar.indexCast v498
  let c0_309 : Index := 0#32
  let c0_310 : Index := 0#32
  ![0, v511.toNat, 0, 0]

def k0_off72 (v501 : BitVec 32) : Fin 4 → Nat :=
  let c0_312 : Index := 0#32
  let v515 : Index := Scalar.indexCast v501
  let c0_313 : Index := 0#32
  let c0_314 : Index := 0#32
  ![0, v515.toNat, 0, 0]

def k0_off73 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v532 : Index := Scalar.indexCast v16
  let arg1 : BitVec 32 := BitVec.ofNat 32 (i 1).val
  let c28_i32_316 : BitVec 32 := 28#32
  let v521 : BitVec 32 := Scalar.muli arg1 c28_i32_316
  let c24_i32 : BitVec 32 := 24#32
  let v522 : BitVec 32 := Scalar.addi v521 c24_i32
  let v533 : Index := Scalar.indexCast v522
  ![v532.toNat, v533.toNat]
def k0_off74 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v538 : Index := Scalar.indexCast v16
  let arg1 : BitVec 32 := BitVec.ofNat 32 (i 1).val
  let c28_i32_316 : BitVec 32 := 28#32
  let v521 : BitVec 32 := Scalar.muli arg1 c28_i32_316
  let c24_i32 : BitVec 32 := 24#32
  let v522 : BitVec 32 := Scalar.addi v521 c24_i32
  let c1_i32_317 : BitVec 32 := 1#32
  let v523 : BitVec 32 := Scalar.addi v522 c1_i32_317
  let v539 : Index := Scalar.indexCast v523
  ![v538.toNat, v539.toNat]
def k0_off75 (v534 : BitVec 32) : Fin 4 → Nat :=
  let c0_326 : Index := 0#32
  let v544 : Index := Scalar.indexCast v534
  let c0_327 : Index := 0#32
  let c0_328 : Index := 0#32
  ![0, v544.toNat, 0, 0]

def k0_off76 (v537 : BitVec 32) : Fin 4 → Nat :=
  let c0_330 : Index := 0#32
  let v548 : Index := Scalar.indexCast v537
  let c0_331 : Index := 0#32
  let c0_332 : Index := 0#32
  ![0, v548.toNat, 0, 0]

def k0_off77 (v540 : BitVec 32) : Fin 4 → Nat :=
  let c0_334 : Index := 0#32
  let v553 : Index := Scalar.indexCast v540
  let c0_335 : Index := 0#32
  let c0_336 : Index := 0#32
  ![0, v553.toNat, 0, 0]

def k0_off78 (v543 : BitVec 32) : Fin 4 → Nat :=
  let c0_338 : Index := 0#32
  let v557 : Index := Scalar.indexCast v543
  let c0_339 : Index := 0#32
  let c0_340 : Index := 0#32
  ![0, v557.toNat, 0, 0]

def k0_off79 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v574 : Index := Scalar.indexCast v16
  let arg1 : BitVec 32 := BitVec.ofNat 32 (i 1).val
  let c28_i32_342 : BitVec 32 := 28#32
  let v563 : BitVec 32 := Scalar.muli arg1 c28_i32_342
  let c26_i32 : BitVec 32 := 26#32
  let v564 : BitVec 32 := Scalar.addi v563 c26_i32
  let v575 : Index := Scalar.indexCast v564
  ![v574.toNat, v575.toNat]
def k0_off80 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v580 : Index := Scalar.indexCast v16
  let arg1 : BitVec 32 := BitVec.ofNat 32 (i 1).val
  let c28_i32_342 : BitVec 32 := 28#32
  let v563 : BitVec 32 := Scalar.muli arg1 c28_i32_342
  let c26_i32 : BitVec 32 := 26#32
  let v564 : BitVec 32 := Scalar.addi v563 c26_i32
  let c1_i32_343 : BitVec 32 := 1#32
  let v565 : BitVec 32 := Scalar.addi v564 c1_i32_343
  let v581 : Index := Scalar.indexCast v565
  ![v580.toNat, v581.toNat]
def k0_off81 (v576 : BitVec 32) : Fin 4 → Nat :=
  let c0_352 : Index := 0#32
  let v586 : Index := Scalar.indexCast v576
  let c0_353 : Index := 0#32
  let c0_354 : Index := 0#32
  ![0, v586.toNat, 0, 0]

def k0_off82 (v579 : BitVec 32) : Fin 4 → Nat :=
  let c0_356 : Index := 0#32
  let v590 : Index := Scalar.indexCast v579
  let c0_357 : Index := 0#32
  let c0_358 : Index := 0#32
  ![0, v590.toNat, 0, 0]

def k0_off83 (v582 : BitVec 32) : Fin 4 → Nat :=
  let c0_360 : Index := 0#32
  let v595 : Index := Scalar.indexCast v582
  let c0_361 : Index := 0#32
  let c0_362 : Index := 0#32
  ![0, v595.toNat, 0, 0]

def k0_off84 (v585 : BitVec 32) : Fin 4 → Nat :=
  let c0_364 : Index := 0#32
  let v599 : Index := Scalar.indexCast v585
  let c0_365 : Index := 0#32
  let c0_366 : Index := 0#32
  ![0, v599.toNat, 0, 0]

def k0_chk56 (v585 : BitVec 32) : Prop :=
  (∀ a, (k0_off84 v585) a + S1x1x24x64.size a ≤ S1x784x24x64.size a)
theorem k0_off84_inb : ∀ (v585 : BitVec 32) (k0_hw56 : k0_chk56 v585), ∀ a, (k0_off84 v585) a + S1x1x24x64.size a ≤ S1x784x24x64.size a := fun v585 k0_hw56 => k0_hw56

def k0_off85 (v30 : BitVec 32) : Fin 4 → Nat :=
  let c0_791 : Index := 0#32
  let v1878 : Index := Scalar.indexCast v30
  let c0_792 : Index := 0#32
  let c0_793 : Index := 0#32
  ![0, v1878.toNat, 0, 0]

def k0_chk1 (v30 : BitVec 32) : Prop :=
  (∀ a, (k0_off3 v30) a + S1x1x24x64.size a ≤ S1x784x24x64.size a) ∧
  (∀ a, (k0_off85 v30) a + S1x1x24x64.size a ≤ S1x784x24x64.size a)
theorem k0_off3_inb : ∀ (v30 : BitVec 32) (k0_hw1 : k0_chk1 v30), ∀ a, (k0_off3 v30) a + S1x1x24x64.size a ≤ S1x784x24x64.size a := fun v30 k0_hw1 => k0_hw1.1
theorem k0_off85_inb : ∀ (v30 : BitVec 32) (k0_hw1 : k0_chk1 v30), ∀ a, (k0_off85 v30) a + S1x1x24x64.size a ≤ S1x784x24x64.size a := fun v30 k0_hw1 => k0_hw1.2

def k0_off86 (v33 : BitVec 32) : Fin 4 → Nat :=
  let c0_794 : Index := 0#32
  let v1881 : Index := Scalar.indexCast v33
  let c0_795 : Index := 0#32
  let c0_796 : Index := 0#32
  ![0, v1881.toNat, 0, 0]

def k0_chk2 (v33 : BitVec 32) : Prop :=
  (∀ a, (k0_off4 v33) a + S1x1x24x64.size a ≤ S1x784x24x64.size a) ∧
  (∀ a, (k0_off86 v33) a + S1x1x24x64.size a ≤ S1x784x24x64.size a)
theorem k0_off4_inb : ∀ (v33 : BitVec 32) (k0_hw2 : k0_chk2 v33), ∀ a, (k0_off4 v33) a + S1x1x24x64.size a ≤ S1x784x24x64.size a := fun v33 k0_hw2 => k0_hw2.1
theorem k0_off86_inb : ∀ (v33 : BitVec 32) (k0_hw2 : k0_chk2 v33), ∀ a, (k0_off86 v33) a + S1x1x24x64.size a ≤ S1x784x24x64.size a := fun v33 k0_hw2 => k0_hw2.2

def k0_off87 (v36 : BitVec 32) : Fin 4 → Nat :=
  let c0_797 : Index := 0#32
  let v1885 : Index := Scalar.indexCast v36
  let c0_798 : Index := 0#32
  let c0_799 : Index := 0#32
  ![0, v1885.toNat, 0, 0]

def k0_chk3 (v36 : BitVec 32) : Prop :=
  (∀ a, (k0_off5 v36) a + S1x1x24x64.size a ≤ S1x784x24x64.size a) ∧
  (∀ a, (k0_off87 v36) a + S1x1x24x64.size a ≤ S1x784x24x64.size a)
theorem k0_off5_inb : ∀ (v36 : BitVec 32) (k0_hw3 : k0_chk3 v36), ∀ a, (k0_off5 v36) a + S1x1x24x64.size a ≤ S1x784x24x64.size a := fun v36 k0_hw3 => k0_hw3.1
theorem k0_off87_inb : ∀ (v36 : BitVec 32) (k0_hw3 : k0_chk3 v36), ∀ a, (k0_off87 v36) a + S1x1x24x64.size a ≤ S1x784x24x64.size a := fun v36 k0_hw3 => k0_hw3.2

def k0_off88 (v39 : BitVec 32) : Fin 4 → Nat :=
  let c0_800 : Index := 0#32
  let v1888 : Index := Scalar.indexCast v39
  let c0_801 : Index := 0#32
  let c0_802 : Index := 0#32
  ![0, v1888.toNat, 0, 0]

def k0_chk4 (v39 : BitVec 32) : Prop :=
  (∀ a, (k0_off6 v39) a + S1x1x24x64.size a ≤ S1x784x24x64.size a) ∧
  (∀ a, (k0_off88 v39) a + S1x1x24x64.size a ≤ S1x784x24x64.size a)
theorem k0_off6_inb : ∀ (v39 : BitVec 32) (k0_hw4 : k0_chk4 v39), ∀ a, (k0_off6 v39) a + S1x1x24x64.size a ≤ S1x784x24x64.size a := fun v39 k0_hw4 => k0_hw4.1
theorem k0_off88_inb : ∀ (v39 : BitVec 32) (k0_hw4 : k0_chk4 v39), ∀ a, (k0_off88 v39) a + S1x1x24x64.size a ≤ S1x784x24x64.size a := fun v39 k0_hw4 => k0_hw4.2

def k0_off89 (v72 : BitVec 32) : Fin 4 → Nat :=
  let c0_808 : Index := 0#32
  let v1909 : Index := Scalar.indexCast v72
  let c0_809 : Index := 0#32
  let c0_810 : Index := 0#32
  ![0, v1909.toNat, 0, 0]

def k0_chk5 (v72 : BitVec 32) : Prop :=
  (∀ a, (k0_off9 v72) a + S1x1x24x64.size a ≤ S1x784x24x64.size a) ∧
  (∀ a, (k0_off89 v72) a + S1x1x24x64.size a ≤ S1x784x24x64.size a)
theorem k0_off9_inb : ∀ (v72 : BitVec 32) (k0_hw5 : k0_chk5 v72), ∀ a, (k0_off9 v72) a + S1x1x24x64.size a ≤ S1x784x24x64.size a := fun v72 k0_hw5 => k0_hw5.1
theorem k0_off89_inb : ∀ (v72 : BitVec 32) (k0_hw5 : k0_chk5 v72), ∀ a, (k0_off89 v72) a + S1x1x24x64.size a ≤ S1x784x24x64.size a := fun v72 k0_hw5 => k0_hw5.2

def k0_off90 (v75 : BitVec 32) : Fin 4 → Nat :=
  let c0_811 : Index := 0#32
  let v1912 : Index := Scalar.indexCast v75
  let c0_812 : Index := 0#32
  let c0_813 : Index := 0#32
  ![0, v1912.toNat, 0, 0]

def k0_chk6 (v75 : BitVec 32) : Prop :=
  (∀ a, (k0_off10 v75) a + S1x1x24x64.size a ≤ S1x784x24x64.size a) ∧
  (∀ a, (k0_off90 v75) a + S1x1x24x64.size a ≤ S1x784x24x64.size a)
theorem k0_off10_inb : ∀ (v75 : BitVec 32) (k0_hw6 : k0_chk6 v75), ∀ a, (k0_off10 v75) a + S1x1x24x64.size a ≤ S1x784x24x64.size a := fun v75 k0_hw6 => k0_hw6.1
theorem k0_off90_inb : ∀ (v75 : BitVec 32) (k0_hw6 : k0_chk6 v75), ∀ a, (k0_off90 v75) a + S1x1x24x64.size a ≤ S1x784x24x64.size a := fun v75 k0_hw6 => k0_hw6.2

def k0_off91 (v78 : BitVec 32) : Fin 4 → Nat :=
  let c0_814 : Index := 0#32
  let v1916 : Index := Scalar.indexCast v78
  let c0_815 : Index := 0#32
  let c0_816 : Index := 0#32
  ![0, v1916.toNat, 0, 0]

def k0_chk7 (v78 : BitVec 32) : Prop :=
  (∀ a, (k0_off11 v78) a + S1x1x24x64.size a ≤ S1x784x24x64.size a) ∧
  (∀ a, (k0_off91 v78) a + S1x1x24x64.size a ≤ S1x784x24x64.size a)
theorem k0_off11_inb : ∀ (v78 : BitVec 32) (k0_hw7 : k0_chk7 v78), ∀ a, (k0_off11 v78) a + S1x1x24x64.size a ≤ S1x784x24x64.size a := fun v78 k0_hw7 => k0_hw7.1
theorem k0_off91_inb : ∀ (v78 : BitVec 32) (k0_hw7 : k0_chk7 v78), ∀ a, (k0_off91 v78) a + S1x1x24x64.size a ≤ S1x784x24x64.size a := fun v78 k0_hw7 => k0_hw7.2

def k0_off92 (v81 : BitVec 32) : Fin 4 → Nat :=
  let c0_817 : Index := 0#32
  let v1919 : Index := Scalar.indexCast v81
  let c0_818 : Index := 0#32
  let c0_819 : Index := 0#32
  ![0, v1919.toNat, 0, 0]

def k0_chk8 (v81 : BitVec 32) : Prop :=
  (∀ a, (k0_off12 v81) a + S1x1x24x64.size a ≤ S1x784x24x64.size a) ∧
  (∀ a, (k0_off92 v81) a + S1x1x24x64.size a ≤ S1x784x24x64.size a)
theorem k0_off12_inb : ∀ (v81 : BitVec 32) (k0_hw8 : k0_chk8 v81), ∀ a, (k0_off12 v81) a + S1x1x24x64.size a ≤ S1x784x24x64.size a := fun v81 k0_hw8 => k0_hw8.1
theorem k0_off92_inb : ∀ (v81 : BitVec 32) (k0_hw8 : k0_chk8 v81), ∀ a, (k0_off92 v81) a + S1x1x24x64.size a ≤ S1x784x24x64.size a := fun v81 k0_hw8 => k0_hw8.2

def k0_off93 (v114 : BitVec 32) : Fin 4 → Nat :=
  let c0_825 : Index := 0#32
  let v1940 : Index := Scalar.indexCast v114
  let c0_826 : Index := 0#32
  let c0_827 : Index := 0#32
  ![0, v1940.toNat, 0, 0]

def k0_chk9 (v114 : BitVec 32) : Prop :=
  (∀ a, (k0_off15 v114) a + S1x1x24x64.size a ≤ S1x784x24x64.size a) ∧
  (∀ a, (k0_off93 v114) a + S1x1x24x64.size a ≤ S1x784x24x64.size a)
theorem k0_off15_inb : ∀ (v114 : BitVec 32) (k0_hw9 : k0_chk9 v114), ∀ a, (k0_off15 v114) a + S1x1x24x64.size a ≤ S1x784x24x64.size a := fun v114 k0_hw9 => k0_hw9.1
theorem k0_off93_inb : ∀ (v114 : BitVec 32) (k0_hw9 : k0_chk9 v114), ∀ a, (k0_off93 v114) a + S1x1x24x64.size a ≤ S1x784x24x64.size a := fun v114 k0_hw9 => k0_hw9.2

def k0_off94 (v117 : BitVec 32) : Fin 4 → Nat :=
  let c0_828 : Index := 0#32
  let v1943 : Index := Scalar.indexCast v117
  let c0_829 : Index := 0#32
  let c0_830 : Index := 0#32
  ![0, v1943.toNat, 0, 0]

def k0_chk10 (v117 : BitVec 32) : Prop :=
  (∀ a, (k0_off16 v117) a + S1x1x24x64.size a ≤ S1x784x24x64.size a) ∧
  (∀ a, (k0_off94 v117) a + S1x1x24x64.size a ≤ S1x784x24x64.size a)
theorem k0_off16_inb : ∀ (v117 : BitVec 32) (k0_hw10 : k0_chk10 v117), ∀ a, (k0_off16 v117) a + S1x1x24x64.size a ≤ S1x784x24x64.size a := fun v117 k0_hw10 => k0_hw10.1
theorem k0_off94_inb : ∀ (v117 : BitVec 32) (k0_hw10 : k0_chk10 v117), ∀ a, (k0_off94 v117) a + S1x1x24x64.size a ≤ S1x784x24x64.size a := fun v117 k0_hw10 => k0_hw10.2

def k0_off95 (v120 : BitVec 32) : Fin 4 → Nat :=
  let c0_831 : Index := 0#32
  let v1947 : Index := Scalar.indexCast v120
  let c0_832 : Index := 0#32
  let c0_833 : Index := 0#32
  ![0, v1947.toNat, 0, 0]

def k0_chk11 (v120 : BitVec 32) : Prop :=
  (∀ a, (k0_off17 v120) a + S1x1x24x64.size a ≤ S1x784x24x64.size a) ∧
  (∀ a, (k0_off95 v120) a + S1x1x24x64.size a ≤ S1x784x24x64.size a)
theorem k0_off17_inb : ∀ (v120 : BitVec 32) (k0_hw11 : k0_chk11 v120), ∀ a, (k0_off17 v120) a + S1x1x24x64.size a ≤ S1x784x24x64.size a := fun v120 k0_hw11 => k0_hw11.1
theorem k0_off95_inb : ∀ (v120 : BitVec 32) (k0_hw11 : k0_chk11 v120), ∀ a, (k0_off95 v120) a + S1x1x24x64.size a ≤ S1x784x24x64.size a := fun v120 k0_hw11 => k0_hw11.2

def k0_off96 (v123 : BitVec 32) : Fin 4 → Nat :=
  let c0_834 : Index := 0#32
  let v1950 : Index := Scalar.indexCast v123
  let c0_835 : Index := 0#32
  let c0_836 : Index := 0#32
  ![0, v1950.toNat, 0, 0]

def k0_chk12 (v123 : BitVec 32) : Prop :=
  (∀ a, (k0_off18 v123) a + S1x1x24x64.size a ≤ S1x784x24x64.size a) ∧
  (∀ a, (k0_off96 v123) a + S1x1x24x64.size a ≤ S1x784x24x64.size a)
theorem k0_off18_inb : ∀ (v123 : BitVec 32) (k0_hw12 : k0_chk12 v123), ∀ a, (k0_off18 v123) a + S1x1x24x64.size a ≤ S1x784x24x64.size a := fun v123 k0_hw12 => k0_hw12.1
theorem k0_off96_inb : ∀ (v123 : BitVec 32) (k0_hw12 : k0_chk12 v123), ∀ a, (k0_off96 v123) a + S1x1x24x64.size a ≤ S1x784x24x64.size a := fun v123 k0_hw12 => k0_hw12.2

def k0_off97 (v156 : BitVec 32) : Fin 4 → Nat :=
  let c0_842 : Index := 0#32
  let v1971 : Index := Scalar.indexCast v156
  let c0_843 : Index := 0#32
  let c0_844 : Index := 0#32
  ![0, v1971.toNat, 0, 0]

def k0_chk13 (v156 : BitVec 32) : Prop :=
  (∀ a, (k0_off21 v156) a + S1x1x24x64.size a ≤ S1x784x24x64.size a) ∧
  (∀ a, (k0_off97 v156) a + S1x1x24x64.size a ≤ S1x784x24x64.size a)
theorem k0_off21_inb : ∀ (v156 : BitVec 32) (k0_hw13 : k0_chk13 v156), ∀ a, (k0_off21 v156) a + S1x1x24x64.size a ≤ S1x784x24x64.size a := fun v156 k0_hw13 => k0_hw13.1
theorem k0_off97_inb : ∀ (v156 : BitVec 32) (k0_hw13 : k0_chk13 v156), ∀ a, (k0_off97 v156) a + S1x1x24x64.size a ≤ S1x784x24x64.size a := fun v156 k0_hw13 => k0_hw13.2

def k0_off98 (v159 : BitVec 32) : Fin 4 → Nat :=
  let c0_845 : Index := 0#32
  let v1974 : Index := Scalar.indexCast v159
  let c0_846 : Index := 0#32
  let c0_847 : Index := 0#32
  ![0, v1974.toNat, 0, 0]

def k0_chk14 (v159 : BitVec 32) : Prop :=
  (∀ a, (k0_off22 v159) a + S1x1x24x64.size a ≤ S1x784x24x64.size a) ∧
  (∀ a, (k0_off98 v159) a + S1x1x24x64.size a ≤ S1x784x24x64.size a)
theorem k0_off22_inb : ∀ (v159 : BitVec 32) (k0_hw14 : k0_chk14 v159), ∀ a, (k0_off22 v159) a + S1x1x24x64.size a ≤ S1x784x24x64.size a := fun v159 k0_hw14 => k0_hw14.1
theorem k0_off98_inb : ∀ (v159 : BitVec 32) (k0_hw14 : k0_chk14 v159), ∀ a, (k0_off98 v159) a + S1x1x24x64.size a ≤ S1x784x24x64.size a := fun v159 k0_hw14 => k0_hw14.2

def k0_off99 (v162 : BitVec 32) : Fin 4 → Nat :=
  let c0_848 : Index := 0#32
  let v1978 : Index := Scalar.indexCast v162
  let c0_849 : Index := 0#32
  let c0_850 : Index := 0#32
  ![0, v1978.toNat, 0, 0]

def k0_chk15 (v162 : BitVec 32) : Prop :=
  (∀ a, (k0_off23 v162) a + S1x1x24x64.size a ≤ S1x784x24x64.size a) ∧
  (∀ a, (k0_off99 v162) a + S1x1x24x64.size a ≤ S1x784x24x64.size a)
theorem k0_off23_inb : ∀ (v162 : BitVec 32) (k0_hw15 : k0_chk15 v162), ∀ a, (k0_off23 v162) a + S1x1x24x64.size a ≤ S1x784x24x64.size a := fun v162 k0_hw15 => k0_hw15.1
theorem k0_off99_inb : ∀ (v162 : BitVec 32) (k0_hw15 : k0_chk15 v162), ∀ a, (k0_off99 v162) a + S1x1x24x64.size a ≤ S1x784x24x64.size a := fun v162 k0_hw15 => k0_hw15.2

def k0_off100 (v165 : BitVec 32) : Fin 4 → Nat :=
  let c0_851 : Index := 0#32
  let v1981 : Index := Scalar.indexCast v165
  let c0_852 : Index := 0#32
  let c0_853 : Index := 0#32
  ![0, v1981.toNat, 0, 0]

def k0_chk16 (v165 : BitVec 32) : Prop :=
  (∀ a, (k0_off24 v165) a + S1x1x24x64.size a ≤ S1x784x24x64.size a) ∧
  (∀ a, (k0_off100 v165) a + S1x1x24x64.size a ≤ S1x784x24x64.size a)
theorem k0_off24_inb : ∀ (v165 : BitVec 32) (k0_hw16 : k0_chk16 v165), ∀ a, (k0_off24 v165) a + S1x1x24x64.size a ≤ S1x784x24x64.size a := fun v165 k0_hw16 => k0_hw16.1
theorem k0_off100_inb : ∀ (v165 : BitVec 32) (k0_hw16 : k0_chk16 v165), ∀ a, (k0_off100 v165) a + S1x1x24x64.size a ≤ S1x784x24x64.size a := fun v165 k0_hw16 => k0_hw16.2

def k0_off101 (v198 : BitVec 32) : Fin 4 → Nat :=
  let c0_859 : Index := 0#32
  let v2002 : Index := Scalar.indexCast v198
  let c0_860 : Index := 0#32
  let c0_861 : Index := 0#32
  ![0, v2002.toNat, 0, 0]

def k0_chk17 (v198 : BitVec 32) : Prop :=
  (∀ a, (k0_off27 v198) a + S1x1x24x64.size a ≤ S1x784x24x64.size a) ∧
  (∀ a, (k0_off101 v198) a + S1x1x24x64.size a ≤ S1x784x24x64.size a)
theorem k0_off27_inb : ∀ (v198 : BitVec 32) (k0_hw17 : k0_chk17 v198), ∀ a, (k0_off27 v198) a + S1x1x24x64.size a ≤ S1x784x24x64.size a := fun v198 k0_hw17 => k0_hw17.1
theorem k0_off101_inb : ∀ (v198 : BitVec 32) (k0_hw17 : k0_chk17 v198), ∀ a, (k0_off101 v198) a + S1x1x24x64.size a ≤ S1x784x24x64.size a := fun v198 k0_hw17 => k0_hw17.2

def k0_off102 (v201 : BitVec 32) : Fin 4 → Nat :=
  let c0_862 : Index := 0#32
  let v2005 : Index := Scalar.indexCast v201
  let c0_863 : Index := 0#32
  let c0_864 : Index := 0#32
  ![0, v2005.toNat, 0, 0]

def k0_chk18 (v201 : BitVec 32) : Prop :=
  (∀ a, (k0_off28 v201) a + S1x1x24x64.size a ≤ S1x784x24x64.size a) ∧
  (∀ a, (k0_off102 v201) a + S1x1x24x64.size a ≤ S1x784x24x64.size a)
theorem k0_off28_inb : ∀ (v201 : BitVec 32) (k0_hw18 : k0_chk18 v201), ∀ a, (k0_off28 v201) a + S1x1x24x64.size a ≤ S1x784x24x64.size a := fun v201 k0_hw18 => k0_hw18.1
theorem k0_off102_inb : ∀ (v201 : BitVec 32) (k0_hw18 : k0_chk18 v201), ∀ a, (k0_off102 v201) a + S1x1x24x64.size a ≤ S1x784x24x64.size a := fun v201 k0_hw18 => k0_hw18.2

def k0_off103 (v204 : BitVec 32) : Fin 4 → Nat :=
  let c0_865 : Index := 0#32
  let v2009 : Index := Scalar.indexCast v204
  let c0_866 : Index := 0#32
  let c0_867 : Index := 0#32
  ![0, v2009.toNat, 0, 0]

def k0_chk19 (v204 : BitVec 32) : Prop :=
  (∀ a, (k0_off29 v204) a + S1x1x24x64.size a ≤ S1x784x24x64.size a) ∧
  (∀ a, (k0_off103 v204) a + S1x1x24x64.size a ≤ S1x784x24x64.size a)
theorem k0_off29_inb : ∀ (v204 : BitVec 32) (k0_hw19 : k0_chk19 v204), ∀ a, (k0_off29 v204) a + S1x1x24x64.size a ≤ S1x784x24x64.size a := fun v204 k0_hw19 => k0_hw19.1
theorem k0_off103_inb : ∀ (v204 : BitVec 32) (k0_hw19 : k0_chk19 v204), ∀ a, (k0_off103 v204) a + S1x1x24x64.size a ≤ S1x784x24x64.size a := fun v204 k0_hw19 => k0_hw19.2

def k0_off104 (v207 : BitVec 32) : Fin 4 → Nat :=
  let c0_868 : Index := 0#32
  let v2012 : Index := Scalar.indexCast v207
  let c0_869 : Index := 0#32
  let c0_870 : Index := 0#32
  ![0, v2012.toNat, 0, 0]

def k0_chk20 (v207 : BitVec 32) : Prop :=
  (∀ a, (k0_off30 v207) a + S1x1x24x64.size a ≤ S1x784x24x64.size a) ∧
  (∀ a, (k0_off104 v207) a + S1x1x24x64.size a ≤ S1x784x24x64.size a)
theorem k0_off30_inb : ∀ (v207 : BitVec 32) (k0_hw20 : k0_chk20 v207), ∀ a, (k0_off30 v207) a + S1x1x24x64.size a ≤ S1x784x24x64.size a := fun v207 k0_hw20 => k0_hw20.1
theorem k0_off104_inb : ∀ (v207 : BitVec 32) (k0_hw20 : k0_chk20 v207), ∀ a, (k0_off104 v207) a + S1x1x24x64.size a ≤ S1x784x24x64.size a := fun v207 k0_hw20 => k0_hw20.2

def k0_off105 (v240 : BitVec 32) : Fin 4 → Nat :=
  let c0_876 : Index := 0#32
  let v2033 : Index := Scalar.indexCast v240
  let c0_877 : Index := 0#32
  let c0_878 : Index := 0#32
  ![0, v2033.toNat, 0, 0]

def k0_chk21 (v240 : BitVec 32) : Prop :=
  (∀ a, (k0_off33 v240) a + S1x1x24x64.size a ≤ S1x784x24x64.size a) ∧
  (∀ a, (k0_off105 v240) a + S1x1x24x64.size a ≤ S1x784x24x64.size a)
theorem k0_off33_inb : ∀ (v240 : BitVec 32) (k0_hw21 : k0_chk21 v240), ∀ a, (k0_off33 v240) a + S1x1x24x64.size a ≤ S1x784x24x64.size a := fun v240 k0_hw21 => k0_hw21.1
theorem k0_off105_inb : ∀ (v240 : BitVec 32) (k0_hw21 : k0_chk21 v240), ∀ a, (k0_off105 v240) a + S1x1x24x64.size a ≤ S1x784x24x64.size a := fun v240 k0_hw21 => k0_hw21.2

def k0_off106 (v243 : BitVec 32) : Fin 4 → Nat :=
  let c0_879 : Index := 0#32
  let v2036 : Index := Scalar.indexCast v243
  let c0_880 : Index := 0#32
  let c0_881 : Index := 0#32
  ![0, v2036.toNat, 0, 0]

def k0_chk22 (v243 : BitVec 32) : Prop :=
  (∀ a, (k0_off34 v243) a + S1x1x24x64.size a ≤ S1x784x24x64.size a) ∧
  (∀ a, (k0_off106 v243) a + S1x1x24x64.size a ≤ S1x784x24x64.size a)
theorem k0_off34_inb : ∀ (v243 : BitVec 32) (k0_hw22 : k0_chk22 v243), ∀ a, (k0_off34 v243) a + S1x1x24x64.size a ≤ S1x784x24x64.size a := fun v243 k0_hw22 => k0_hw22.1
theorem k0_off106_inb : ∀ (v243 : BitVec 32) (k0_hw22 : k0_chk22 v243), ∀ a, (k0_off106 v243) a + S1x1x24x64.size a ≤ S1x784x24x64.size a := fun v243 k0_hw22 => k0_hw22.2

def k0_off107 (v246 : BitVec 32) : Fin 4 → Nat :=
  let c0_882 : Index := 0#32
  let v2040 : Index := Scalar.indexCast v246
  let c0_883 : Index := 0#32
  let c0_884 : Index := 0#32
  ![0, v2040.toNat, 0, 0]

def k0_chk23 (v246 : BitVec 32) : Prop :=
  (∀ a, (k0_off35 v246) a + S1x1x24x64.size a ≤ S1x784x24x64.size a) ∧
  (∀ a, (k0_off107 v246) a + S1x1x24x64.size a ≤ S1x784x24x64.size a)
theorem k0_off35_inb : ∀ (v246 : BitVec 32) (k0_hw23 : k0_chk23 v246), ∀ a, (k0_off35 v246) a + S1x1x24x64.size a ≤ S1x784x24x64.size a := fun v246 k0_hw23 => k0_hw23.1
theorem k0_off107_inb : ∀ (v246 : BitVec 32) (k0_hw23 : k0_chk23 v246), ∀ a, (k0_off107 v246) a + S1x1x24x64.size a ≤ S1x784x24x64.size a := fun v246 k0_hw23 => k0_hw23.2

def k0_off108 (v249 : BitVec 32) : Fin 4 → Nat :=
  let c0_885 : Index := 0#32
  let v2043 : Index := Scalar.indexCast v249
  let c0_886 : Index := 0#32
  let c0_887 : Index := 0#32
  ![0, v2043.toNat, 0, 0]

def k0_chk24 (v249 : BitVec 32) : Prop :=
  (∀ a, (k0_off36 v249) a + S1x1x24x64.size a ≤ S1x784x24x64.size a) ∧
  (∀ a, (k0_off108 v249) a + S1x1x24x64.size a ≤ S1x784x24x64.size a)
theorem k0_off36_inb : ∀ (v249 : BitVec 32) (k0_hw24 : k0_chk24 v249), ∀ a, (k0_off36 v249) a + S1x1x24x64.size a ≤ S1x784x24x64.size a := fun v249 k0_hw24 => k0_hw24.1
theorem k0_off108_inb : ∀ (v249 : BitVec 32) (k0_hw24 : k0_chk24 v249), ∀ a, (k0_off108 v249) a + S1x1x24x64.size a ≤ S1x784x24x64.size a := fun v249 k0_hw24 => k0_hw24.2

def k0_off109 (v282 : BitVec 32) : Fin 4 → Nat :=
  let c0_893 : Index := 0#32
  let v2064 : Index := Scalar.indexCast v282
  let c0_894 : Index := 0#32
  let c0_895 : Index := 0#32
  ![0, v2064.toNat, 0, 0]

def k0_chk25 (v282 : BitVec 32) : Prop :=
  (∀ a, (k0_off39 v282) a + S1x1x24x64.size a ≤ S1x784x24x64.size a) ∧
  (∀ a, (k0_off109 v282) a + S1x1x24x64.size a ≤ S1x784x24x64.size a)
theorem k0_off39_inb : ∀ (v282 : BitVec 32) (k0_hw25 : k0_chk25 v282), ∀ a, (k0_off39 v282) a + S1x1x24x64.size a ≤ S1x784x24x64.size a := fun v282 k0_hw25 => k0_hw25.1
theorem k0_off109_inb : ∀ (v282 : BitVec 32) (k0_hw25 : k0_chk25 v282), ∀ a, (k0_off109 v282) a + S1x1x24x64.size a ≤ S1x784x24x64.size a := fun v282 k0_hw25 => k0_hw25.2

def k0_off110 (v285 : BitVec 32) : Fin 4 → Nat :=
  let c0_896 : Index := 0#32
  let v2067 : Index := Scalar.indexCast v285
  let c0_897 : Index := 0#32
  let c0_898 : Index := 0#32
  ![0, v2067.toNat, 0, 0]

def k0_chk26 (v285 : BitVec 32) : Prop :=
  (∀ a, (k0_off40 v285) a + S1x1x24x64.size a ≤ S1x784x24x64.size a) ∧
  (∀ a, (k0_off110 v285) a + S1x1x24x64.size a ≤ S1x784x24x64.size a)
theorem k0_off40_inb : ∀ (v285 : BitVec 32) (k0_hw26 : k0_chk26 v285), ∀ a, (k0_off40 v285) a + S1x1x24x64.size a ≤ S1x784x24x64.size a := fun v285 k0_hw26 => k0_hw26.1
theorem k0_off110_inb : ∀ (v285 : BitVec 32) (k0_hw26 : k0_chk26 v285), ∀ a, (k0_off110 v285) a + S1x1x24x64.size a ≤ S1x784x24x64.size a := fun v285 k0_hw26 => k0_hw26.2

def k0_off111 (v288 : BitVec 32) : Fin 4 → Nat :=
  let c0_899 : Index := 0#32
  let v2071 : Index := Scalar.indexCast v288
  let c0_900 : Index := 0#32
  let c0_901 : Index := 0#32
  ![0, v2071.toNat, 0, 0]

def k0_chk27 (v288 : BitVec 32) : Prop :=
  (∀ a, (k0_off41 v288) a + S1x1x24x64.size a ≤ S1x784x24x64.size a) ∧
  (∀ a, (k0_off111 v288) a + S1x1x24x64.size a ≤ S1x784x24x64.size a)
theorem k0_off41_inb : ∀ (v288 : BitVec 32) (k0_hw27 : k0_chk27 v288), ∀ a, (k0_off41 v288) a + S1x1x24x64.size a ≤ S1x784x24x64.size a := fun v288 k0_hw27 => k0_hw27.1
theorem k0_off111_inb : ∀ (v288 : BitVec 32) (k0_hw27 : k0_chk27 v288), ∀ a, (k0_off111 v288) a + S1x1x24x64.size a ≤ S1x784x24x64.size a := fun v288 k0_hw27 => k0_hw27.2

def k0_off112 (v291 : BitVec 32) : Fin 4 → Nat :=
  let c0_902 : Index := 0#32
  let v2074 : Index := Scalar.indexCast v291
  let c0_903 : Index := 0#32
  let c0_904 : Index := 0#32
  ![0, v2074.toNat, 0, 0]

def k0_chk28 (v291 : BitVec 32) : Prop :=
  (∀ a, (k0_off42 v291) a + S1x1x24x64.size a ≤ S1x784x24x64.size a) ∧
  (∀ a, (k0_off112 v291) a + S1x1x24x64.size a ≤ S1x784x24x64.size a)
theorem k0_off42_inb : ∀ (v291 : BitVec 32) (k0_hw28 : k0_chk28 v291), ∀ a, (k0_off42 v291) a + S1x1x24x64.size a ≤ S1x784x24x64.size a := fun v291 k0_hw28 => k0_hw28.1
theorem k0_off112_inb : ∀ (v291 : BitVec 32) (k0_hw28 : k0_chk28 v291), ∀ a, (k0_off112 v291) a + S1x1x24x64.size a ≤ S1x784x24x64.size a := fun v291 k0_hw28 => k0_hw28.2

def k0_off113 (v324 : BitVec 32) : Fin 4 → Nat :=
  let c0_910 : Index := 0#32
  let v2095 : Index := Scalar.indexCast v324
  let c0_911 : Index := 0#32
  let c0_912 : Index := 0#32
  ![0, v2095.toNat, 0, 0]

def k0_chk29 (v324 : BitVec 32) : Prop :=
  (∀ a, (k0_off45 v324) a + S1x1x24x64.size a ≤ S1x784x24x64.size a) ∧
  (∀ a, (k0_off113 v324) a + S1x1x24x64.size a ≤ S1x784x24x64.size a)
theorem k0_off45_inb : ∀ (v324 : BitVec 32) (k0_hw29 : k0_chk29 v324), ∀ a, (k0_off45 v324) a + S1x1x24x64.size a ≤ S1x784x24x64.size a := fun v324 k0_hw29 => k0_hw29.1
theorem k0_off113_inb : ∀ (v324 : BitVec 32) (k0_hw29 : k0_chk29 v324), ∀ a, (k0_off113 v324) a + S1x1x24x64.size a ≤ S1x784x24x64.size a := fun v324 k0_hw29 => k0_hw29.2

def k0_off114 (v327 : BitVec 32) : Fin 4 → Nat :=
  let c0_913 : Index := 0#32
  let v2098 : Index := Scalar.indexCast v327
  let c0_914 : Index := 0#32
  let c0_915 : Index := 0#32
  ![0, v2098.toNat, 0, 0]

def k0_chk30 (v327 : BitVec 32) : Prop :=
  (∀ a, (k0_off46 v327) a + S1x1x24x64.size a ≤ S1x784x24x64.size a) ∧
  (∀ a, (k0_off114 v327) a + S1x1x24x64.size a ≤ S1x784x24x64.size a)
theorem k0_off46_inb : ∀ (v327 : BitVec 32) (k0_hw30 : k0_chk30 v327), ∀ a, (k0_off46 v327) a + S1x1x24x64.size a ≤ S1x784x24x64.size a := fun v327 k0_hw30 => k0_hw30.1
theorem k0_off114_inb : ∀ (v327 : BitVec 32) (k0_hw30 : k0_chk30 v327), ∀ a, (k0_off114 v327) a + S1x1x24x64.size a ≤ S1x784x24x64.size a := fun v327 k0_hw30 => k0_hw30.2

def k0_off115 (v330 : BitVec 32) : Fin 4 → Nat :=
  let c0_916 : Index := 0#32
  let v2102 : Index := Scalar.indexCast v330
  let c0_917 : Index := 0#32
  let c0_918 : Index := 0#32
  ![0, v2102.toNat, 0, 0]

def k0_chk31 (v330 : BitVec 32) : Prop :=
  (∀ a, (k0_off47 v330) a + S1x1x24x64.size a ≤ S1x784x24x64.size a) ∧
  (∀ a, (k0_off115 v330) a + S1x1x24x64.size a ≤ S1x784x24x64.size a)
theorem k0_off47_inb : ∀ (v330 : BitVec 32) (k0_hw31 : k0_chk31 v330), ∀ a, (k0_off47 v330) a + S1x1x24x64.size a ≤ S1x784x24x64.size a := fun v330 k0_hw31 => k0_hw31.1
theorem k0_off115_inb : ∀ (v330 : BitVec 32) (k0_hw31 : k0_chk31 v330), ∀ a, (k0_off115 v330) a + S1x1x24x64.size a ≤ S1x784x24x64.size a := fun v330 k0_hw31 => k0_hw31.2

def k0_off116 (v333 : BitVec 32) : Fin 4 → Nat :=
  let c0_919 : Index := 0#32
  let v2105 : Index := Scalar.indexCast v333
  let c0_920 : Index := 0#32
  let c0_921 : Index := 0#32
  ![0, v2105.toNat, 0, 0]

def k0_chk32 (v333 : BitVec 32) : Prop :=
  (∀ a, (k0_off48 v333) a + S1x1x24x64.size a ≤ S1x784x24x64.size a) ∧
  (∀ a, (k0_off116 v333) a + S1x1x24x64.size a ≤ S1x784x24x64.size a)
theorem k0_off48_inb : ∀ (v333 : BitVec 32) (k0_hw32 : k0_chk32 v333), ∀ a, (k0_off48 v333) a + S1x1x24x64.size a ≤ S1x784x24x64.size a := fun v333 k0_hw32 => k0_hw32.1
theorem k0_off116_inb : ∀ (v333 : BitVec 32) (k0_hw32 : k0_chk32 v333), ∀ a, (k0_off116 v333) a + S1x1x24x64.size a ≤ S1x784x24x64.size a := fun v333 k0_hw32 => k0_hw32.2

def k0_off117 (v366 : BitVec 32) : Fin 4 → Nat :=
  let c0_927 : Index := 0#32
  let v2126 : Index := Scalar.indexCast v366
  let c0_928 : Index := 0#32
  let c0_929 : Index := 0#32
  ![0, v2126.toNat, 0, 0]

def k0_chk33 (v366 : BitVec 32) : Prop :=
  (∀ a, (k0_off51 v366) a + S1x1x24x64.size a ≤ S1x784x24x64.size a) ∧
  (∀ a, (k0_off117 v366) a + S1x1x24x64.size a ≤ S1x784x24x64.size a)
theorem k0_off51_inb : ∀ (v366 : BitVec 32) (k0_hw33 : k0_chk33 v366), ∀ a, (k0_off51 v366) a + S1x1x24x64.size a ≤ S1x784x24x64.size a := fun v366 k0_hw33 => k0_hw33.1
theorem k0_off117_inb : ∀ (v366 : BitVec 32) (k0_hw33 : k0_chk33 v366), ∀ a, (k0_off117 v366) a + S1x1x24x64.size a ≤ S1x784x24x64.size a := fun v366 k0_hw33 => k0_hw33.2

def k0_off118 (v369 : BitVec 32) : Fin 4 → Nat :=
  let c0_930 : Index := 0#32
  let v2129 : Index := Scalar.indexCast v369
  let c0_931 : Index := 0#32
  let c0_932 : Index := 0#32
  ![0, v2129.toNat, 0, 0]

def k0_chk34 (v369 : BitVec 32) : Prop :=
  (∀ a, (k0_off52 v369) a + S1x1x24x64.size a ≤ S1x784x24x64.size a) ∧
  (∀ a, (k0_off118 v369) a + S1x1x24x64.size a ≤ S1x784x24x64.size a)
theorem k0_off52_inb : ∀ (v369 : BitVec 32) (k0_hw34 : k0_chk34 v369), ∀ a, (k0_off52 v369) a + S1x1x24x64.size a ≤ S1x784x24x64.size a := fun v369 k0_hw34 => k0_hw34.1
theorem k0_off118_inb : ∀ (v369 : BitVec 32) (k0_hw34 : k0_chk34 v369), ∀ a, (k0_off118 v369) a + S1x1x24x64.size a ≤ S1x784x24x64.size a := fun v369 k0_hw34 => k0_hw34.2

def k0_off119 (v372 : BitVec 32) : Fin 4 → Nat :=
  let c0_933 : Index := 0#32
  let v2133 : Index := Scalar.indexCast v372
  let c0_934 : Index := 0#32
  let c0_935 : Index := 0#32
  ![0, v2133.toNat, 0, 0]

def k0_chk35 (v372 : BitVec 32) : Prop :=
  (∀ a, (k0_off53 v372) a + S1x1x24x64.size a ≤ S1x784x24x64.size a) ∧
  (∀ a, (k0_off119 v372) a + S1x1x24x64.size a ≤ S1x784x24x64.size a)
theorem k0_off53_inb : ∀ (v372 : BitVec 32) (k0_hw35 : k0_chk35 v372), ∀ a, (k0_off53 v372) a + S1x1x24x64.size a ≤ S1x784x24x64.size a := fun v372 k0_hw35 => k0_hw35.1
theorem k0_off119_inb : ∀ (v372 : BitVec 32) (k0_hw35 : k0_chk35 v372), ∀ a, (k0_off119 v372) a + S1x1x24x64.size a ≤ S1x784x24x64.size a := fun v372 k0_hw35 => k0_hw35.2

def k0_off120 (v375 : BitVec 32) : Fin 4 → Nat :=
  let c0_936 : Index := 0#32
  let v2136 : Index := Scalar.indexCast v375
  let c0_937 : Index := 0#32
  let c0_938 : Index := 0#32
  ![0, v2136.toNat, 0, 0]

def k0_chk36 (v375 : BitVec 32) : Prop :=
  (∀ a, (k0_off54 v375) a + S1x1x24x64.size a ≤ S1x784x24x64.size a) ∧
  (∀ a, (k0_off120 v375) a + S1x1x24x64.size a ≤ S1x784x24x64.size a)
theorem k0_off54_inb : ∀ (v375 : BitVec 32) (k0_hw36 : k0_chk36 v375), ∀ a, (k0_off54 v375) a + S1x1x24x64.size a ≤ S1x784x24x64.size a := fun v375 k0_hw36 => k0_hw36.1
theorem k0_off120_inb : ∀ (v375 : BitVec 32) (k0_hw36 : k0_chk36 v375), ∀ a, (k0_off120 v375) a + S1x1x24x64.size a ≤ S1x784x24x64.size a := fun v375 k0_hw36 => k0_hw36.2

def k0_off121 (v408 : BitVec 32) : Fin 4 → Nat :=
  let c0_944 : Index := 0#32
  let v2157 : Index := Scalar.indexCast v408
  let c0_945 : Index := 0#32
  let c0_946 : Index := 0#32
  ![0, v2157.toNat, 0, 0]

def k0_chk37 (v408 : BitVec 32) : Prop :=
  (∀ a, (k0_off57 v408) a + S1x1x24x64.size a ≤ S1x784x24x64.size a) ∧
  (∀ a, (k0_off121 v408) a + S1x1x24x64.size a ≤ S1x784x24x64.size a)
theorem k0_off57_inb : ∀ (v408 : BitVec 32) (k0_hw37 : k0_chk37 v408), ∀ a, (k0_off57 v408) a + S1x1x24x64.size a ≤ S1x784x24x64.size a := fun v408 k0_hw37 => k0_hw37.1
theorem k0_off121_inb : ∀ (v408 : BitVec 32) (k0_hw37 : k0_chk37 v408), ∀ a, (k0_off121 v408) a + S1x1x24x64.size a ≤ S1x784x24x64.size a := fun v408 k0_hw37 => k0_hw37.2

def k0_off122 (v411 : BitVec 32) : Fin 4 → Nat :=
  let c0_947 : Index := 0#32
  let v2160 : Index := Scalar.indexCast v411
  let c0_948 : Index := 0#32
  let c0_949 : Index := 0#32
  ![0, v2160.toNat, 0, 0]

def k0_chk38 (v411 : BitVec 32) : Prop :=
  (∀ a, (k0_off58 v411) a + S1x1x24x64.size a ≤ S1x784x24x64.size a) ∧
  (∀ a, (k0_off122 v411) a + S1x1x24x64.size a ≤ S1x784x24x64.size a)
theorem k0_off58_inb : ∀ (v411 : BitVec 32) (k0_hw38 : k0_chk38 v411), ∀ a, (k0_off58 v411) a + S1x1x24x64.size a ≤ S1x784x24x64.size a := fun v411 k0_hw38 => k0_hw38.1
theorem k0_off122_inb : ∀ (v411 : BitVec 32) (k0_hw38 : k0_chk38 v411), ∀ a, (k0_off122 v411) a + S1x1x24x64.size a ≤ S1x784x24x64.size a := fun v411 k0_hw38 => k0_hw38.2

def k0_off123 (v414 : BitVec 32) : Fin 4 → Nat :=
  let c0_950 : Index := 0#32
  let v2164 : Index := Scalar.indexCast v414
  let c0_951 : Index := 0#32
  let c0_952 : Index := 0#32
  ![0, v2164.toNat, 0, 0]

def k0_chk39 (v414 : BitVec 32) : Prop :=
  (∀ a, (k0_off59 v414) a + S1x1x24x64.size a ≤ S1x784x24x64.size a) ∧
  (∀ a, (k0_off123 v414) a + S1x1x24x64.size a ≤ S1x784x24x64.size a)
theorem k0_off59_inb : ∀ (v414 : BitVec 32) (k0_hw39 : k0_chk39 v414), ∀ a, (k0_off59 v414) a + S1x1x24x64.size a ≤ S1x784x24x64.size a := fun v414 k0_hw39 => k0_hw39.1
theorem k0_off123_inb : ∀ (v414 : BitVec 32) (k0_hw39 : k0_chk39 v414), ∀ a, (k0_off123 v414) a + S1x1x24x64.size a ≤ S1x784x24x64.size a := fun v414 k0_hw39 => k0_hw39.2

def k0_off124 (v417 : BitVec 32) : Fin 4 → Nat :=
  let c0_953 : Index := 0#32
  let v2167 : Index := Scalar.indexCast v417
  let c0_954 : Index := 0#32
  let c0_955 : Index := 0#32
  ![0, v2167.toNat, 0, 0]

def k0_chk40 (v417 : BitVec 32) : Prop :=
  (∀ a, (k0_off60 v417) a + S1x1x24x64.size a ≤ S1x784x24x64.size a) ∧
  (∀ a, (k0_off124 v417) a + S1x1x24x64.size a ≤ S1x784x24x64.size a)
theorem k0_off60_inb : ∀ (v417 : BitVec 32) (k0_hw40 : k0_chk40 v417), ∀ a, (k0_off60 v417) a + S1x1x24x64.size a ≤ S1x784x24x64.size a := fun v417 k0_hw40 => k0_hw40.1
theorem k0_off124_inb : ∀ (v417 : BitVec 32) (k0_hw40 : k0_chk40 v417), ∀ a, (k0_off124 v417) a + S1x1x24x64.size a ≤ S1x784x24x64.size a := fun v417 k0_hw40 => k0_hw40.2

def k0_off125 (v450 : BitVec 32) : Fin 4 → Nat :=
  let c0_961 : Index := 0#32
  let v2188 : Index := Scalar.indexCast v450
  let c0_962 : Index := 0#32
  let c0_963 : Index := 0#32
  ![0, v2188.toNat, 0, 0]

def k0_chk41 (v450 : BitVec 32) : Prop :=
  (∀ a, (k0_off63 v450) a + S1x1x24x64.size a ≤ S1x784x24x64.size a) ∧
  (∀ a, (k0_off125 v450) a + S1x1x24x64.size a ≤ S1x784x24x64.size a)
theorem k0_off63_inb : ∀ (v450 : BitVec 32) (k0_hw41 : k0_chk41 v450), ∀ a, (k0_off63 v450) a + S1x1x24x64.size a ≤ S1x784x24x64.size a := fun v450 k0_hw41 => k0_hw41.1
theorem k0_off125_inb : ∀ (v450 : BitVec 32) (k0_hw41 : k0_chk41 v450), ∀ a, (k0_off125 v450) a + S1x1x24x64.size a ≤ S1x784x24x64.size a := fun v450 k0_hw41 => k0_hw41.2

def k0_off126 (v453 : BitVec 32) : Fin 4 → Nat :=
  let c0_964 : Index := 0#32
  let v2191 : Index := Scalar.indexCast v453
  let c0_965 : Index := 0#32
  let c0_966 : Index := 0#32
  ![0, v2191.toNat, 0, 0]

def k0_chk42 (v453 : BitVec 32) : Prop :=
  (∀ a, (k0_off64 v453) a + S1x1x24x64.size a ≤ S1x784x24x64.size a) ∧
  (∀ a, (k0_off126 v453) a + S1x1x24x64.size a ≤ S1x784x24x64.size a)
theorem k0_off64_inb : ∀ (v453 : BitVec 32) (k0_hw42 : k0_chk42 v453), ∀ a, (k0_off64 v453) a + S1x1x24x64.size a ≤ S1x784x24x64.size a := fun v453 k0_hw42 => k0_hw42.1
theorem k0_off126_inb : ∀ (v453 : BitVec 32) (k0_hw42 : k0_chk42 v453), ∀ a, (k0_off126 v453) a + S1x1x24x64.size a ≤ S1x784x24x64.size a := fun v453 k0_hw42 => k0_hw42.2

def k0_off127 (v456 : BitVec 32) : Fin 4 → Nat :=
  let c0_967 : Index := 0#32
  let v2195 : Index := Scalar.indexCast v456
  let c0_968 : Index := 0#32
  let c0_969 : Index := 0#32
  ![0, v2195.toNat, 0, 0]

def k0_chk43 (v456 : BitVec 32) : Prop :=
  (∀ a, (k0_off65 v456) a + S1x1x24x64.size a ≤ S1x784x24x64.size a) ∧
  (∀ a, (k0_off127 v456) a + S1x1x24x64.size a ≤ S1x784x24x64.size a)
theorem k0_off65_inb : ∀ (v456 : BitVec 32) (k0_hw43 : k0_chk43 v456), ∀ a, (k0_off65 v456) a + S1x1x24x64.size a ≤ S1x784x24x64.size a := fun v456 k0_hw43 => k0_hw43.1
theorem k0_off127_inb : ∀ (v456 : BitVec 32) (k0_hw43 : k0_chk43 v456), ∀ a, (k0_off127 v456) a + S1x1x24x64.size a ≤ S1x784x24x64.size a := fun v456 k0_hw43 => k0_hw43.2

def k0_off128 (v459 : BitVec 32) : Fin 4 → Nat :=
  let c0_970 : Index := 0#32
  let v2198 : Index := Scalar.indexCast v459
  let c0_971 : Index := 0#32
  let c0_972 : Index := 0#32
  ![0, v2198.toNat, 0, 0]

def k0_chk44 (v459 : BitVec 32) : Prop :=
  (∀ a, (k0_off66 v459) a + S1x1x24x64.size a ≤ S1x784x24x64.size a) ∧
  (∀ a, (k0_off128 v459) a + S1x1x24x64.size a ≤ S1x784x24x64.size a)
theorem k0_off66_inb : ∀ (v459 : BitVec 32) (k0_hw44 : k0_chk44 v459), ∀ a, (k0_off66 v459) a + S1x1x24x64.size a ≤ S1x784x24x64.size a := fun v459 k0_hw44 => k0_hw44.1
theorem k0_off128_inb : ∀ (v459 : BitVec 32) (k0_hw44 : k0_chk44 v459), ∀ a, (k0_off128 v459) a + S1x1x24x64.size a ≤ S1x784x24x64.size a := fun v459 k0_hw44 => k0_hw44.2

def k0_off129 (v492 : BitVec 32) : Fin 4 → Nat :=
  let c0_978 : Index := 0#32
  let v2219 : Index := Scalar.indexCast v492
  let c0_979 : Index := 0#32
  let c0_980 : Index := 0#32
  ![0, v2219.toNat, 0, 0]

def k0_chk45 (v492 : BitVec 32) : Prop :=
  (∀ a, (k0_off69 v492) a + S1x1x24x64.size a ≤ S1x784x24x64.size a) ∧
  (∀ a, (k0_off129 v492) a + S1x1x24x64.size a ≤ S1x784x24x64.size a)
theorem k0_off69_inb : ∀ (v492 : BitVec 32) (k0_hw45 : k0_chk45 v492), ∀ a, (k0_off69 v492) a + S1x1x24x64.size a ≤ S1x784x24x64.size a := fun v492 k0_hw45 => k0_hw45.1
theorem k0_off129_inb : ∀ (v492 : BitVec 32) (k0_hw45 : k0_chk45 v492), ∀ a, (k0_off129 v492) a + S1x1x24x64.size a ≤ S1x784x24x64.size a := fun v492 k0_hw45 => k0_hw45.2

def k0_off130 (v495 : BitVec 32) : Fin 4 → Nat :=
  let c0_981 : Index := 0#32
  let v2222 : Index := Scalar.indexCast v495
  let c0_982 : Index := 0#32
  let c0_983 : Index := 0#32
  ![0, v2222.toNat, 0, 0]

def k0_chk46 (v495 : BitVec 32) : Prop :=
  (∀ a, (k0_off70 v495) a + S1x1x24x64.size a ≤ S1x784x24x64.size a) ∧
  (∀ a, (k0_off130 v495) a + S1x1x24x64.size a ≤ S1x784x24x64.size a)
theorem k0_off70_inb : ∀ (v495 : BitVec 32) (k0_hw46 : k0_chk46 v495), ∀ a, (k0_off70 v495) a + S1x1x24x64.size a ≤ S1x784x24x64.size a := fun v495 k0_hw46 => k0_hw46.1
theorem k0_off130_inb : ∀ (v495 : BitVec 32) (k0_hw46 : k0_chk46 v495), ∀ a, (k0_off130 v495) a + S1x1x24x64.size a ≤ S1x784x24x64.size a := fun v495 k0_hw46 => k0_hw46.2

def k0_off131 (v498 : BitVec 32) : Fin 4 → Nat :=
  let c0_984 : Index := 0#32
  let v2226 : Index := Scalar.indexCast v498
  let c0_985 : Index := 0#32
  let c0_986 : Index := 0#32
  ![0, v2226.toNat, 0, 0]

def k0_chk47 (v498 : BitVec 32) : Prop :=
  (∀ a, (k0_off71 v498) a + S1x1x24x64.size a ≤ S1x784x24x64.size a) ∧
  (∀ a, (k0_off131 v498) a + S1x1x24x64.size a ≤ S1x784x24x64.size a)
theorem k0_off71_inb : ∀ (v498 : BitVec 32) (k0_hw47 : k0_chk47 v498), ∀ a, (k0_off71 v498) a + S1x1x24x64.size a ≤ S1x784x24x64.size a := fun v498 k0_hw47 => k0_hw47.1
theorem k0_off131_inb : ∀ (v498 : BitVec 32) (k0_hw47 : k0_chk47 v498), ∀ a, (k0_off131 v498) a + S1x1x24x64.size a ≤ S1x784x24x64.size a := fun v498 k0_hw47 => k0_hw47.2

def k0_off132 (v501 : BitVec 32) : Fin 4 → Nat :=
  let c0_987 : Index := 0#32
  let v2229 : Index := Scalar.indexCast v501
  let c0_988 : Index := 0#32
  let c0_989 : Index := 0#32
  ![0, v2229.toNat, 0, 0]

def k0_chk48 (v501 : BitVec 32) : Prop :=
  (∀ a, (k0_off72 v501) a + S1x1x24x64.size a ≤ S1x784x24x64.size a) ∧
  (∀ a, (k0_off132 v501) a + S1x1x24x64.size a ≤ S1x784x24x64.size a)
theorem k0_off72_inb : ∀ (v501 : BitVec 32) (k0_hw48 : k0_chk48 v501), ∀ a, (k0_off72 v501) a + S1x1x24x64.size a ≤ S1x784x24x64.size a := fun v501 k0_hw48 => k0_hw48.1
theorem k0_off132_inb : ∀ (v501 : BitVec 32) (k0_hw48 : k0_chk48 v501), ∀ a, (k0_off132 v501) a + S1x1x24x64.size a ≤ S1x784x24x64.size a := fun v501 k0_hw48 => k0_hw48.2

def k0_off133 (v534 : BitVec 32) : Fin 4 → Nat :=
  let c0_995 : Index := 0#32
  let v2250 : Index := Scalar.indexCast v534
  let c0_996 : Index := 0#32
  let c0_997 : Index := 0#32
  ![0, v2250.toNat, 0, 0]

def k0_chk49 (v534 : BitVec 32) : Prop :=
  (∀ a, (k0_off75 v534) a + S1x1x24x64.size a ≤ S1x784x24x64.size a) ∧
  (∀ a, (k0_off133 v534) a + S1x1x24x64.size a ≤ S1x784x24x64.size a)
theorem k0_off75_inb : ∀ (v534 : BitVec 32) (k0_hw49 : k0_chk49 v534), ∀ a, (k0_off75 v534) a + S1x1x24x64.size a ≤ S1x784x24x64.size a := fun v534 k0_hw49 => k0_hw49.1
theorem k0_off133_inb : ∀ (v534 : BitVec 32) (k0_hw49 : k0_chk49 v534), ∀ a, (k0_off133 v534) a + S1x1x24x64.size a ≤ S1x784x24x64.size a := fun v534 k0_hw49 => k0_hw49.2

def k0_off134 (v537 : BitVec 32) : Fin 4 → Nat :=
  let c0_998 : Index := 0#32
  let v2253 : Index := Scalar.indexCast v537
  let c0_999 : Index := 0#32
  let c0_1000 : Index := 0#32
  ![0, v2253.toNat, 0, 0]

def k0_chk50 (v537 : BitVec 32) : Prop :=
  (∀ a, (k0_off76 v537) a + S1x1x24x64.size a ≤ S1x784x24x64.size a) ∧
  (∀ a, (k0_off134 v537) a + S1x1x24x64.size a ≤ S1x784x24x64.size a)
theorem k0_off76_inb : ∀ (v537 : BitVec 32) (k0_hw50 : k0_chk50 v537), ∀ a, (k0_off76 v537) a + S1x1x24x64.size a ≤ S1x784x24x64.size a := fun v537 k0_hw50 => k0_hw50.1
theorem k0_off134_inb : ∀ (v537 : BitVec 32) (k0_hw50 : k0_chk50 v537), ∀ a, (k0_off134 v537) a + S1x1x24x64.size a ≤ S1x784x24x64.size a := fun v537 k0_hw50 => k0_hw50.2

def k0_off135 (v540 : BitVec 32) : Fin 4 → Nat :=
  let c0_1001 : Index := 0#32
  let v2257 : Index := Scalar.indexCast v540
  let c0_1002 : Index := 0#32
  let c0_1003 : Index := 0#32
  ![0, v2257.toNat, 0, 0]

def k0_chk51 (v540 : BitVec 32) : Prop :=
  (∀ a, (k0_off77 v540) a + S1x1x24x64.size a ≤ S1x784x24x64.size a) ∧
  (∀ a, (k0_off135 v540) a + S1x1x24x64.size a ≤ S1x784x24x64.size a)
theorem k0_off77_inb : ∀ (v540 : BitVec 32) (k0_hw51 : k0_chk51 v540), ∀ a, (k0_off77 v540) a + S1x1x24x64.size a ≤ S1x784x24x64.size a := fun v540 k0_hw51 => k0_hw51.1
theorem k0_off135_inb : ∀ (v540 : BitVec 32) (k0_hw51 : k0_chk51 v540), ∀ a, (k0_off135 v540) a + S1x1x24x64.size a ≤ S1x784x24x64.size a := fun v540 k0_hw51 => k0_hw51.2

def k0_off136 (v543 : BitVec 32) : Fin 4 → Nat :=
  let c0_1004 : Index := 0#32
  let v2260 : Index := Scalar.indexCast v543
  let c0_1005 : Index := 0#32
  let c0_1006 : Index := 0#32
  ![0, v2260.toNat, 0, 0]

def k0_chk52 (v543 : BitVec 32) : Prop :=
  (∀ a, (k0_off78 v543) a + S1x1x24x64.size a ≤ S1x784x24x64.size a) ∧
  (∀ a, (k0_off136 v543) a + S1x1x24x64.size a ≤ S1x784x24x64.size a)
theorem k0_off78_inb : ∀ (v543 : BitVec 32) (k0_hw52 : k0_chk52 v543), ∀ a, (k0_off78 v543) a + S1x1x24x64.size a ≤ S1x784x24x64.size a := fun v543 k0_hw52 => k0_hw52.1
theorem k0_off136_inb : ∀ (v543 : BitVec 32) (k0_hw52 : k0_chk52 v543), ∀ a, (k0_off136 v543) a + S1x1x24x64.size a ≤ S1x784x24x64.size a := fun v543 k0_hw52 => k0_hw52.2

def k0_off137 (v576 : BitVec 32) : Fin 4 → Nat :=
  let c0_1012 : Index := 0#32
  let v2281 : Index := Scalar.indexCast v576
  let c0_1013 : Index := 0#32
  let c0_1014 : Index := 0#32
  ![0, v2281.toNat, 0, 0]

def k0_chk53 (v576 : BitVec 32) : Prop :=
  (∀ a, (k0_off81 v576) a + S1x1x24x64.size a ≤ S1x784x24x64.size a) ∧
  (∀ a, (k0_off137 v576) a + S1x1x24x64.size a ≤ S1x784x24x64.size a)
theorem k0_off81_inb : ∀ (v576 : BitVec 32) (k0_hw53 : k0_chk53 v576), ∀ a, (k0_off81 v576) a + S1x1x24x64.size a ≤ S1x784x24x64.size a := fun v576 k0_hw53 => k0_hw53.1
theorem k0_off137_inb : ∀ (v576 : BitVec 32) (k0_hw53 : k0_chk53 v576), ∀ a, (k0_off137 v576) a + S1x1x24x64.size a ≤ S1x784x24x64.size a := fun v576 k0_hw53 => k0_hw53.2

def k0_off138 (v579 : BitVec 32) : Fin 4 → Nat :=
  let c0_1015 : Index := 0#32
  let v2284 : Index := Scalar.indexCast v579
  let c0_1016 : Index := 0#32
  let c0_1017 : Index := 0#32
  ![0, v2284.toNat, 0, 0]

def k0_chk54 (v579 : BitVec 32) : Prop :=
  (∀ a, (k0_off82 v579) a + S1x1x24x64.size a ≤ S1x784x24x64.size a) ∧
  (∀ a, (k0_off138 v579) a + S1x1x24x64.size a ≤ S1x784x24x64.size a)
theorem k0_off82_inb : ∀ (v579 : BitVec 32) (k0_hw54 : k0_chk54 v579), ∀ a, (k0_off82 v579) a + S1x1x24x64.size a ≤ S1x784x24x64.size a := fun v579 k0_hw54 => k0_hw54.1
theorem k0_off138_inb : ∀ (v579 : BitVec 32) (k0_hw54 : k0_chk54 v579), ∀ a, (k0_off138 v579) a + S1x1x24x64.size a ≤ S1x784x24x64.size a := fun v579 k0_hw54 => k0_hw54.2

def k0_off139 (v582 : BitVec 32) : Fin 4 → Nat :=
  let c0_1018 : Index := 0#32
  let v2288 : Index := Scalar.indexCast v582
  let c0_1019 : Index := 0#32
  let c0_1020 : Index := 0#32
  ![0, v2288.toNat, 0, 0]

def k0_chk55 (v582 : BitVec 32) : Prop :=
  (∀ a, (k0_off83 v582) a + S1x1x24x64.size a ≤ S1x784x24x64.size a) ∧
  (∀ a, (k0_off139 v582) a + S1x1x24x64.size a ≤ S1x784x24x64.size a)
theorem k0_off83_inb : ∀ (v582 : BitVec 32) (k0_hw55 : k0_chk55 v582), ∀ a, (k0_off83 v582) a + S1x1x24x64.size a ≤ S1x784x24x64.size a := fun v582 k0_hw55 => k0_hw55.1
theorem k0_off139_inb : ∀ (v582 : BitVec 32) (k0_hw55 : k0_chk55 v582), ∀ a, (k0_off139 v582) a + S1x1x24x64.size a ≤ S1x784x24x64.size a := fun v582 k0_hw55 => k0_hw55.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, arg1.toNat, c0_i32_10.toNat, c0_i32_11.toNat]

abbrev stage0_0 : Fin 2 → Memref sig .tc .vmem S1x28x24x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x784x24x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x784x24x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8x224x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x784x24x64 : Shape := ⟨4, ![8, 784, 24, 64]⟩
abbrev S2x784 : Shape := ⟨2, ![2, 784]⟩
abbrev S8x784x64x24 : Shape := ⟨4, ![8, 784, 64, 24]⟩
abbrev S2x4x784x64x24 : Shape := ⟨5, ![2, 4, 784, 64, 24]⟩
abbrev S2x784x1 : Shape := ⟨3, ![2, 784, 1]⟩
abbrev S2x784x2 : Shape := ⟨3, ![2, 784, 2]⟩
abbrev S2x1x784x2 : Shape := ⟨4, ![2, 1, 784, 2]⟩
abbrev S2x4x784x2 : Shape := ⟨4, ![2, 4, 784, 2]⟩
abbrev S2x4x784x2x1x1 : Shape := ⟨6, ![2, 4, 784, 2, 1, 1]⟩
abbrev S2x4x1x784x64x24 : Shape := ⟨6, ![2, 4, 1, 784, 64, 24]⟩
abbrev S_ : Shape := ⟨0, ![]⟩
abbrev S2x4x784x2x1 : Shape := ⟨5, ![2, 4, 784, 2, 1]⟩
abbrev S2x4x784x2x64x24 : Shape := ⟨6, ![2, 4, 784, 2, 64, 24]⟩
abbrev S2x4x784x128x24 : Shape := ⟨5, ![2, 4, 784, 128, 24]⟩
abbrev S2x4x784x64x128 : Shape := ⟨5, ![2, 4, 784, 64, 128]⟩
abbrev S2x4x784x64x16 : Shape := ⟨5, ![2, 4, 784, 64, 16]⟩
abbrev S2x4x784x1x128x24 : Shape := ⟨6, ![2, 4, 784, 1, 128, 24]⟩
abbrev S2x4x784x64x16x1 : Shape := ⟨6, ![2, 4, 784, 64, 16, 1]⟩
abbrev S2x4x784x64x16x24 : Shape := ⟨6, ![2, 4, 784, 64, 16, 24]⟩
abbrev S2x4x784x64 : Shape := ⟨4, ![2, 4, 784, 64]⟩
abbrev S2x4x784x64x1 : Shape := ⟨5, ![2, 4, 784, 64, 1]⟩
abbrev S2x4x28x28x8x8x24 : Shape := ⟨7, ![2, 4, 28, 28, 8, 8, 24]⟩
abbrev S2x4x28x8x28x8x24 : Shape := ⟨7, ![2, 4, 28, 8, 28, 8, 24]⟩
abbrev S2x4x224x224x24 : Shape := ⟨5, ![2, 4, 224, 224, 24]⟩

abbrev nBuf : Space → Nat
  | .hbm => 76
  | .vmem => 0
  | .smem => 0
  | _ => 0

abbrev bufTy : (tb : Table) → Fin (tcTables nBuf tb) → BufTy
  | .hbm, ⟨0, _⟩ => ⟨S8x784x24x64, .f32⟩
  | .hbm, ⟨1, _⟩ => ⟨S8x784x24x64, .f32⟩
  | .hbm, ⟨2, _⟩ => ⟨S8x784x24x64, .f32⟩
  | .hbm, ⟨3, _⟩ => ⟨S2x784, .i32⟩
  | .hbm, ⟨4, _⟩ => ⟨S2x784, .i32⟩
  | .hbm, ⟨5, _⟩ => ⟨S8x784x64x24, .f32⟩
  | .hbm, ⟨6, _⟩ => ⟨S2x4x784x64x24, .f32⟩
  | .hbm, ⟨7, _⟩ => ⟨S8x784x64x24, .f32⟩
  | .hbm, ⟨8, _⟩ => ⟨S2x4x784x64x24, .f32⟩
  | .hbm, ⟨9, _⟩ => ⟨S8x784x64x24, .f32⟩
  | .hbm, ⟨10, _⟩ => ⟨S2x4x784x64x24, .f32⟩
  | .hbm, ⟨11, _⟩ => ⟨S2x784x1, .i32⟩
  | .hbm, ⟨12, _⟩ => ⟨S2x784x1, .i32⟩
  | .hbm, ⟨13, _⟩ => ⟨S2x784x2, .i32⟩
  | .hbm, ⟨14, _⟩ => ⟨S2x1x784x2, .i32⟩
  | .hbm, ⟨15, _⟩ => ⟨S2x4x784x2, .i32⟩
  | .hbm, ⟨16, _⟩ => ⟨S2x4x784x2x1x1, .i32⟩
  | .hbm, ⟨17, _⟩ => ⟨S2x4x1x784x64x24, .f32⟩
  | .hbm, ⟨18, _⟩ => ⟨S_, .i32⟩
  | .hbm, ⟨19, _⟩ => ⟨S2x4x784x2x1x1, .i32⟩
  | .hbm, ⟨20, _⟩ => ⟨S2x4x784x2x1x1, .i1⟩
  | .hbm, ⟨21, _⟩ => ⟨S_, .i32⟩
  | .hbm, ⟨22, _⟩ => ⟨S2x4x784x2x1x1, .i32⟩
  | .hbm, ⟨23, _⟩ => ⟨S2x4x784x2x1x1, .i32⟩
  | .hbm, ⟨24, _⟩ => ⟨S2x4x784x2x1x1, .i32⟩
  | .hbm, ⟨25, _⟩ => ⟨S2x4x784x2x1, .i32⟩
  | .hbm, ⟨26, _⟩ => ⟨S2x4x784x64x24, .f32⟩
  | .hbm, ⟨27, _⟩ => ⟨S2x4x784x2x64x24, .f32⟩
  | .hbm, ⟨28, _⟩ => ⟨S2x4x1x784x64x24, .f32⟩
  | .hbm, ⟨29, _⟩ => ⟨S_, .i32⟩
  | .hbm, ⟨30, _⟩ => ⟨S2x4x784x2x1x1, .i32⟩
  | .hbm, ⟨31, _⟩ => ⟨S2x4x784x2x1x1, .i1⟩
  | .hbm, ⟨32, _⟩ => ⟨S_, .i32⟩
  | .hbm, ⟨33, _⟩ => ⟨S2x4x784x2x1x1, .i32⟩
  | .hbm, ⟨34, _⟩ => ⟨S2x4x784x2x1x1, .i32⟩
  | .hbm, ⟨35, _⟩ => ⟨S2x4x784x2x1x1, .i32⟩
  | .hbm, ⟨36, _⟩ => ⟨S2x4x784x2x1, .i32⟩
  | .hbm, ⟨37, _⟩ => ⟨S2x4x784x64x24, .f32⟩
  | .hbm, ⟨38, _⟩ => ⟨S2x4x784x2x64x24, .f32⟩
  | .hbm, ⟨39, _⟩ => ⟨S2x4x784x128x24, .f32⟩
  | .hbm, ⟨40, _⟩ => ⟨S2x4x784x128x24, .f32⟩
  | .hbm, ⟨41, _⟩ => ⟨S_, .f32⟩
  | .hbm, ⟨42, _⟩ => ⟨S2x4x784x64x24, .f32⟩
  | .hbm, ⟨43, _⟩ => ⟨S2x4x784x64x24, .f32⟩
  | .hbm, ⟨44, _⟩ => ⟨S2x4x784x64x128, .f32⟩
  | .hbm, ⟨45, _⟩ => ⟨S2x4x784x64x16, .f32⟩
  | .hbm, ⟨46, _⟩ => ⟨S2x4x784x64x16, .i32⟩
  | .hbm, ⟨47, _⟩ => ⟨S2x4x784x1x128x24, .f32⟩
  | .hbm, ⟨48, _⟩ => ⟨S2x4x784x64x16x1, .i32⟩
  | .hbm, ⟨49, _⟩ => ⟨S_, .i32⟩
  | .hbm, ⟨50, _⟩ => ⟨S2x4x784x64x16x1, .i32⟩
  | .hbm, ⟨51, _⟩ => ⟨S2x4x784x64x16x1, .i1⟩
  | .hbm, ⟨52, _⟩ => ⟨S_, .i32⟩
  | .hbm, ⟨53, _⟩ => ⟨S2x4x784x64x16x1, .i32⟩
  | .hbm, ⟨54, _⟩ => ⟨S2x4x784x64x16x1, .i32⟩
  | .hbm, ⟨55, _⟩ => ⟨S2x4x784x64x16x1, .i32⟩
  | .hbm, ⟨56, _⟩ => ⟨S2x4x784x128x24, .f32⟩
  | .hbm, ⟨57, _⟩ => ⟨S2x4x784x64x16x24, .f32⟩
  | .hbm, ⟨58, _⟩ => ⟨S_, .f32⟩
  | .hbm, ⟨59, _⟩ => ⟨S2x4x784x64, .f32⟩
  | .hbm, ⟨60, _⟩ => ⟨S_, .f32⟩
  | .hbm, ⟨61, _⟩ => ⟨S2x4x784x64, .f32⟩
  | .hbm, ⟨62, _⟩ => ⟨S2x4x784x64, .f32⟩
  | .hbm, ⟨63, _⟩ => ⟨S2x4x784x64x1, .f32⟩
  | .hbm, ⟨64, _⟩ => ⟨S2x4x784x64x16, .f32⟩
  | .hbm, ⟨65, _⟩ => ⟨S2x4x784x64x16, .f32⟩
  | .hbm, ⟨66, _⟩ => ⟨S2x4x784x64x16, .f32⟩
  | .hbm, ⟨67, _⟩ => ⟨S_, .f32⟩
  | .hbm, ⟨68, _⟩ => ⟨S2x4x784x64, .f32⟩
  | .hbm, ⟨69, _⟩ => ⟨S2x4x784x64x1, .f32⟩
  | .hbm, ⟨70, _⟩ => ⟨S2x4x784x64x16, .f32⟩
  | .hbm, ⟨71, _⟩ => ⟨S2x4x784x64x16, .f32⟩
  | .hbm, ⟨72, _⟩ => ⟨S2x4x784x64x24, .f32⟩
  | .hbm, ⟨73, _⟩ => ⟨S2x4x28x28x8x8x24, .f32⟩
  | .hbm, ⟨74, _⟩ => ⟨S2x4x28x8x28x8x24, .f32⟩
  | .hbm, ⟨75, _⟩ => ⟨S2x4x224x224x24, .f32⟩
  | _, _ => ⟨S8x784x24x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_v13 : Ref sig .tc := ⟨.hbm, 27, rfl⟩
abbrev main_v14 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_values : Ref sig .tc := ⟨.hbm, 45, rfl⟩
abbrev main_indices : Ref sig .tc := ⟨.hbm, 46, rfl⟩
abbrev main_v21 : Ref sig .tc := ⟨.hbm, 47, rfl⟩
abbrev main_v22 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_v23 : Ref sig .tc := ⟨.hbm, 57, rfl⟩
abbrev main_cst_0 : Ref sig .tc := ⟨.hbm, 58, rfl⟩
abbrev main_v24 : Ref sig .tc := ⟨.hbm, 59, rfl⟩
abbrev main_cst_1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_2 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩

abbrev nD : Nat := 1
abbrev τ : Topo := Topo.v7x

variable {F : FTy → Type} [FloatOps F]
-- ==== Qkv.lean ====
abbrev S2x224x224x96 : Shape := ⟨4, ![2, 224, 224, 96]⟩
abbrev S288x96 : Shape := ⟨2, ![288, 96]⟩
abbrev S288 : Shape := ⟨1, ![288]⟩
abbrev S96x288 : Shape := ⟨2, ![96, 288]⟩
abbrev S1x288 : Shape := ⟨2, ![1, 288]⟩
abbrev S2x4x784x24x64 : Shape := ⟨5, ![2, 4, 784, 24, 64]⟩
abbrev S2x224x226x96 : Shape := ⟨4, ![2, 224, 226, 96]⟩
abbrev S56x28x192 : Shape := ⟨3, ![56, 28, 192]⟩
abbrev S1x8x224x96 : Shape := ⟨4, ![1, 8, 224, 96]⟩
abbrev S1x4x28x24x64 : Shape := ⟨5, ![1, 4, 28, 24, 64]⟩
abbrev S1x8x226x96 : Shape := ⟨4, ![1, 8, 226, 96]⟩
abbrev S1x28x192 : Shape := ⟨3, ![1, 28, 192]⟩
abbrev S8x224x96 : Shape := ⟨3, ![8, 224, 96]⟩
abbrev S1792x96 : Shape := ⟨2, ![1792, 96]⟩
abbrev S1792x288 : Shape := ⟨2, ![1792, 288]⟩
abbrev S8x28x8x288 : Shape := ⟨4, ![8, 28, 8, 288]⟩
abbrev S28x288 : Shape := ⟨2, ![28, 288]⟩
abbrev S28x192 : Shape := ⟨2, ![28, 192]⟩
abbrev S28x8x8x288 : Shape := ⟨4, ![28, 8, 8, 288]⟩
abbrev S28x64x288 : Shape := ⟨3, ![28, 64, 288]⟩
abbrev S28x288x64 : Shape := ⟨3, ![28, 288, 64]⟩
abbrev S28x24x64 : Shape := ⟨3, ![28, 24, 64]⟩
abbrev S1x1x28x24x64 : Shape := ⟨5, ![1, 1, 28, 24, 64]⟩
abbrev S8x1x96 : Shape := ⟨3, ![8, 1, 96]⟩
abbrev S8x226x96 : Shape := ⟨3, ![8, 226, 96]⟩

abbrev nBuf : Space → Nat
  | .hbm => 10
  | .vmem => 14
  | .smem => 0
  | _ => 0

abbrev bufTy : (tb : Table) → Fin (tcTables nBuf tb) → BufTy
  | .hbm, ⟨0, _⟩ => ⟨S2x224x224x96, .f32⟩
  | .hbm, ⟨1, _⟩ => ⟨S288x96, .f32⟩
  | .hbm, ⟨2, _⟩ => ⟨S288, .f32⟩
  | .hbm, ⟨3, _⟩ => ⟨S96x288, .f32⟩
  | .hbm, ⟨4, _⟩ => ⟨S1x288, .f32⟩
  | .hbm, ⟨5, _⟩ => ⟨S2x4x784x24x64, .f32⟩
  | .hbm, ⟨6, _⟩ => ⟨S2x4x784x24x64, .f32⟩
  | .hbm, ⟨7, _⟩ => ⟨S2x4x784x24x64, .f32⟩
  | .hbm, ⟨8, _⟩ => ⟨S2x224x226x96, .f32⟩
  | .hbm, ⟨9, _⟩ => ⟨S56x28x192, .f32⟩
  | .local _ .vmem, ⟨0, _⟩ => ⟨S1x8x224x96, .f32⟩
  | .local _ .vmem, ⟨1, _⟩ => ⟨S1x8x224x96, .f32⟩
  | .local _ .vmem, ⟨2, _⟩ => ⟨S96x288, .f32⟩
  | .local _ .vmem, ⟨3, _⟩ => ⟨S1x288, .f32⟩
  | .local _ .vmem, ⟨4, _⟩ => ⟨S1x4x28x24x64, .f32⟩
  | .local _ .vmem, ⟨5, _⟩ => ⟨S1x4x28x24x64, .f32⟩
  | .local _ .vmem, ⟨6, _⟩ => ⟨S1x4x28x24x64, .f32⟩
  | .local _ .vmem, ⟨7, _⟩ => ⟨S1x4x28x24x64, .f32⟩
  | .local _ .vmem, ⟨8, _⟩ => ⟨S1x4x28x24x64, .f32⟩
  | .local _ .vmem, ⟨9, _⟩ => ⟨S1x4x28x24x64, .f32⟩
  | .local _ .vmem, ⟨10, _⟩ => ⟨S1x8x226x96, .f32⟩
  | .local _ .vmem, ⟨11, _⟩ => ⟨S1x8x226x96, .f32⟩
  | .local _ .vmem, ⟨12, _⟩ => ⟨S1x28x192, .f32⟩
  | .local _ .vmem, ⟨13, _⟩ => ⟨S1x28x192, .f32⟩
  | _, _ => ⟨S2x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![56], ![false]⟩

def cc0_transform_0 (i : grid0.Coords) : Fin 4 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_4 (i : grid0.Coords) : Fin 5 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_5 (i : grid0.Coords) : Fin 5 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_6 (i : grid0.Coords) : Fin 4 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x224x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x28x24x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x28x24x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x28x24x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x226x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x28x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S2x224x224x96 : Shape := ⟨4, ![2, 224, 224, 96]⟩
abbrev S288x96 : Shape := ⟨2, ![288, 96]⟩
abbrev S288 : Shape := ⟨1, ![288]⟩
abbrev S2x96x224x224 : Shape := ⟨4, ![2, 96, 224, 224]⟩
abbrev S288x2x224x224 : Shape := ⟨4, ![288, 2, 224, 224]⟩
abbrev S2x288x224x224 : Shape := ⟨4, ![2, 288, 224, 224]⟩
abbrev S1x288x1x1 : Shape := ⟨4, ![1, 288, 1, 1]⟩
abbrev S2x96x28x8x28x8 : Shape := ⟨6, ![2, 96, 28, 8, 28, 8]⟩
abbrev S_ : Shape := ⟨0, ![]⟩
abbrev S2x96x28x28 : Shape := ⟨4, ![2, 96, 28, 28]⟩
abbrev S2x192x28x28 : Shape := ⟨4, ![2, 192, 28, 28]⟩
abbrev S2x28x28x192 : Shape := ⟨4, ![2, 28, 28, 192]⟩
abbrev S56x28x192 : Shape := ⟨3, ![56, 28, 192]⟩
abbrev S2x224x226x96 : Shape := ⟨4, ![2, 224, 226, 96]⟩
abbrev S2x4x24x28x8x28x8 : Shape := ⟨7, ![2, 4, 24, 28, 8, 28, 8]⟩
abbrev S2x4x28x28x24x8x8 : Shape := ⟨7, ![2, 4, 28, 28, 24, 8, 8]⟩
abbrev S2x4x784x24x64 : Shape := ⟨5, ![2, 4, 784, 24, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x224x224x96, .f32⟩
  | .hbm, ⟨1, _⟩ => ⟨S288x96, .f32⟩
  | .hbm, ⟨2, _⟩ => ⟨S288, .f32⟩
  | .hbm, ⟨3, _⟩ => ⟨S2x96x224x224, .f32⟩
  | .hbm, ⟨4, _⟩ => ⟨S288x2x224x224, .f32⟩
  | .hbm, ⟨5, _⟩ => ⟨S2x288x224x224, .f32⟩
  | .hbm, ⟨6, _⟩ => ⟨S1x288x1x1, .f32⟩
  | .hbm, ⟨7, _⟩ => ⟨S2x288x224x224, .f32⟩
  | .hbm, ⟨8, _⟩ => ⟨S2x288x224x224, .f32⟩
  | .hbm, ⟨9, _⟩ => ⟨S2x96x224x224, .f32⟩
  | .hbm, ⟨10, _⟩ => ⟨S2x96x224x224, .f32⟩
  | .hbm, ⟨11, _⟩ => ⟨S2x96x224x224, .f32⟩
  | .hbm, ⟨12, _⟩ => ⟨S2x96x28x8x28x8, .f32⟩
  | .hbm, ⟨13, _⟩ => ⟨S_, .f32⟩
  | .hbm, ⟨14, _⟩ => ⟨S2x96x28x28, .f32⟩
  | .hbm, ⟨15, _⟩ => ⟨S_, .f32⟩
  | .hbm, ⟨16, _⟩ => ⟨S2x96x28x28, .f32⟩
  | .hbm, ⟨17, _⟩ => ⟨S2x96x28x28, .f32⟩
  | .hbm, ⟨18, _⟩ => ⟨S2x96x28x8x28x8, .f32⟩
  | .hbm, ⟨19, _⟩ => ⟨S_, .f32⟩
  | .hbm, ⟨20, _⟩ => ⟨S2x96x28x28, .f32⟩
  | .hbm, ⟨21, _⟩ => ⟨S_, .f32⟩
  | .hbm, ⟨22, _⟩ => ⟨S2x96x28x28, .f32⟩
  | .hbm, ⟨23, _⟩ => ⟨S2x96x28x28, .f32⟩
  | .hbm, ⟨24, _⟩ => ⟨S2x192x28x28, .f32⟩
  | .hbm, ⟨25, _⟩ => ⟨S2x28x28x192, .f32⟩
  | .hbm, ⟨26, _⟩ => ⟨S56x28x192, .f32⟩
  | .hbm, ⟨27, _⟩ => ⟨S2x224x224x96, .f32⟩
  | .hbm, ⟨28, _⟩ => ⟨S_, .i32⟩
  | .hbm, ⟨29, _⟩ => ⟨S_, .f32⟩
  | .hbm, ⟨30, _⟩ => ⟨S2x224x226x96, .f32⟩
  | .hbm, ⟨31, _⟩ => ⟨S2x4x24x28x8x28x8, .f32⟩
  | .hbm, ⟨32, _⟩ => ⟨S2x4x28x28x24x8x8, .f32⟩
  | .hbm, ⟨33, _⟩ => ⟨S2x4x784x24x64, .f32⟩
  | .hbm, ⟨34, _⟩ => ⟨S2x4x24x28x8x28x8, .f32⟩
  | .hbm, ⟨35, _⟩ => ⟨S2x4x28x28x24x8x8, .f32⟩
  | .hbm, ⟨36, _⟩ => ⟨S2x4x784x24x64, .f32⟩
  | .hbm, ⟨37, _⟩ => ⟨S2x4x24x28x8x28x8, .f32⟩
  | .hbm, ⟨38, _⟩ => ⟨S2x4x28x28x24x8x8, .f32⟩
  | .hbm, ⟨39, _⟩ => ⟨S2x4x784x24x64, .f32⟩
  | _, _ => ⟨S2x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Lepe.lean ====
abbrev S2x224x226x96 : Shape := ⟨4, ![2, 224, 226, 96]⟩
abbrev S2x4x224x224x24 : Shape := ⟨5, ![2, 4, 224, 224, 24]⟩
abbrev S96x1x3x3 : Shape := ⟨4, ![96, 1, 3, 3]⟩
abbrev S96 : Shape := ⟨1, ![96]⟩
abbrev S96x96 : Shape := ⟨2, ![96, 96]⟩
abbrev S96x9 : Shape := ⟨2, ![96, 9]⟩
abbrev S9x96 : Shape := ⟨2, ![9, 96]⟩
abbrev S1x96 : Shape := ⟨2, ![1, 96]⟩
abbrev S2x224x224x96 : Shape := ⟨4, ![2, 224, 224, 96]⟩
abbrev S1x28x226x96 : Shape := ⟨4, ![1, 28, 226, 96]⟩
abbrev S1x1x28x224x24 : Shape := ⟨5, ![1, 1, 28, 224, 24]⟩
abbrev S1x28x224x96 : Shape := ⟨4, ![1, 28, 224, 96]⟩
abbrev S28x224x24 : Shape := ⟨3, ![28, 224, 24]⟩
abbrev S28x224x96 : Shape := ⟨3, ![28, 224, 96]⟩
abbrev S28x226x96 : Shape := ⟨3, ![28, 226, 96]⟩
abbrev S1x1x226x96 : Shape := ⟨4, ![1, 1, 226, 96]⟩
abbrev S1x226x96 : Shape := ⟨3, ![1, 226, 96]⟩
abbrev S27x226x96 : Shape := ⟨3, ![27, 226, 96]⟩
abbrev S1x1x96 : Shape := ⟨3, ![1, 1, 96]⟩

abbrev nBuf : Space → Nat
  | .hbm => 12
  | .vmem => 20
  | .smem => 0
  | _ => 0

abbrev bufTy : (tb : Table) → Fin (tcTables nBuf tb) → BufTy
  | .hbm, ⟨0, _⟩ => ⟨S2x224x226x96, .f32⟩
  | .hbm, ⟨1, _⟩ => ⟨S2x4x224x224x24, .f32⟩
  | .hbm, ⟨2, _⟩ => ⟨S96x1x3x3, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x9, .f32⟩
  | .hbm, ⟨7, _⟩ => ⟨S9x96, .f32⟩
  | .hbm, ⟨8, _⟩ => ⟨S1x96, .f32⟩
  | .hbm, ⟨9, _⟩ => ⟨S96x96, .f32⟩
  | .hbm, ⟨10, _⟩ => ⟨S1x96, .f32⟩
  | .hbm, ⟨11, _⟩ => ⟨S2x224x224x96, .f32⟩
  | .local _ .vmem, ⟨0, _⟩ => ⟨S1x28x226x96, .f32⟩
  | .local _ .vmem, ⟨1, _⟩ => ⟨S1x28x226x96, .f32⟩
  | .local _ .vmem, ⟨2, _⟩ => ⟨S1x28x226x96, .f32⟩
  | .local _ .vmem, ⟨3, _⟩ => ⟨S1x28x226x96, .f32⟩
  | .local _ .vmem, ⟨4, _⟩ => ⟨S1x28x226x96, .f32⟩
  | .local _ .vmem, ⟨5, _⟩ => ⟨S1x28x226x96, .f32⟩
  | .local _ .vmem, ⟨6, _⟩ => ⟨S1x1x28x224x24, .f32⟩
  | .local _ .vmem, ⟨7, _⟩ => ⟨S1x1x28x224x24, .f32⟩
  | .local _ .vmem, ⟨8, _⟩ => ⟨S1x1x28x224x24, .f32⟩
  | .local _ .vmem, ⟨9, _⟩ => ⟨S1x1x28x224x24, .f32⟩
  | .local _ .vmem, ⟨10, _⟩ => ⟨S1x1x28x224x24, .f32⟩
  | .local _ .vmem, ⟨11, _⟩ => ⟨S1x1x28x224x24, .f32⟩
  | .local _ .vmem, ⟨12, _⟩ => ⟨S1x1x28x224x24, .f32⟩
  | .local _ .vmem, ⟨13, _⟩ => ⟨S1x1x28x224x24, .f32⟩
  | .local _ .vmem, ⟨14, _⟩ => ⟨S9x96, .f32⟩
  | .local _ .vmem, ⟨15, _⟩ => ⟨S1x96, .f32⟩
  | .local _ .vmem, ⟨16, _⟩ => ⟨S96x96, .f32⟩
  | .local _ .vmem, ⟨17, _⟩ => ⟨S1x96, .f32⟩
  | .local _ .vmem, ⟨18, _⟩ => ⟨S1x28x224x96, .f32⟩
  | .local _ .vmem, ⟨19, _⟩ => ⟨S1x28x224x96, .f32⟩
  | _, _ => ⟨S2x224x226x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x28x226x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x226x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x28x226x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x28x224x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x28x224x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x28x224x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x28x224x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S9x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S96x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x28x224x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== LepeRefIdeal.lean ====
abbrev S2x224x226x96 : Shape := ⟨4, ![2, 224, 226, 96]⟩
abbrev S2x4x224x224x24 : Shape := ⟨5, ![2, 4, 224, 224, 24]⟩
abbrev S96x1x3x3 : Shape := ⟨4, ![96, 1, 3, 3]⟩
abbrev S96 : Shape := ⟨1, ![96]⟩
abbrev S96x96 : Shape := ⟨2, ![96, 96]⟩
abbrev S2x4x24x224x224 : Shape := ⟨5, ![2, 4, 24, 224, 224]⟩
abbrev S2x96x224x224 : Shape := ⟨4, ![2, 96, 224, 224]⟩
abbrev S_ : Shape := ⟨0, ![]⟩
abbrev S2x226x226x96 : Shape := ⟨4, ![2, 226, 226, 96]⟩
abbrev S2x96x226x226 : Shape := ⟨4, ![2, 96, 226, 226]⟩
abbrev S96x1x1x1 : Shape := ⟨4, ![96, 1, 1, 1]⟩
abbrev S1x96x1x1 : Shape := ⟨4, ![1, 96, 1, 1]⟩
abbrev S96x2x224x224 : Shape := ⟨4, ![96, 2, 224, 224]⟩
abbrev S2x224x224x96 : Shape := ⟨4, ![2, 224, 224, 96]⟩

abbrev nBuf : Space → Nat
  | .hbm => 87
  | .vmem => 0
  | .smem => 0
  | _ => 0

abbrev bufTy : (tb : Table) → Fin (tcTables nBuf tb) → BufTy
  | .hbm, ⟨0, _⟩ => ⟨S2x224x226x96, .f32⟩
  | .hbm, ⟨1, _⟩ => ⟨S2x4x224x224x24, .f32⟩
  | .hbm, ⟨2, _⟩ => ⟨S96x1x3x3, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S2x4x24x224x224, .f32⟩
  | .hbm, ⟨7, _⟩ => ⟨S2x96x224x224, .f32⟩
  | .hbm, ⟨8, _⟩ => ⟨S_, .i32⟩
  | .hbm, ⟨9, _⟩ => ⟨S_, .f32⟩
  | .hbm, ⟨10, _⟩ => ⟨S2x226x226x96, .f32⟩
  | .hbm, ⟨11, _⟩ => ⟨S2x96x226x226, .f32⟩
  | .hbm, ⟨12, _⟩ => ⟨S2x96x224x224, .f32⟩
  | .hbm, ⟨13, _⟩ => ⟨S96x1x1x1, .f32⟩
  | .hbm, ⟨14, _⟩ => ⟨S96, .f32⟩
  | .hbm, ⟨15, _⟩ => ⟨S1x96x1x1, .f32⟩
  | .hbm, ⟨16, _⟩ => ⟨S2x96x224x224, .f32⟩
  | .hbm, ⟨17, _⟩ => ⟨S2x96x224x224, .f32⟩
  | .hbm, ⟨18, _⟩ => ⟨S_, .f32⟩
  | .hbm, ⟨19, _⟩ => ⟨S2x96x224x224, .f32⟩
  | .hbm, ⟨20, _⟩ => ⟨S2x96x224x224, .f32⟩
  | .hbm, ⟨21, _⟩ => ⟨S2x96x224x224, .f32⟩
  | .hbm, ⟨22, _⟩ => ⟨S96x1x1x1, .f32⟩
  | .hbm, ⟨23, _⟩ => ⟨S96, .f32⟩
  | .hbm, ⟨24, _⟩ => ⟨S1x96x1x1, .f32⟩
  | .hbm, ⟨25, _⟩ => ⟨S2x96x224x224, .f32⟩
  | .hbm, ⟨26, _⟩ => ⟨S2x96x224x224, .f32⟩
  | .hbm, ⟨27, _⟩ => ⟨S2x96x224x224, .f32⟩
  | .hbm, ⟨28, _⟩ => ⟨S2x96x224x224, .f32⟩
  | .hbm, ⟨29, _⟩ => ⟨S96x1x1x1, .f32⟩
  | .hbm, ⟨30, _⟩ => ⟨S96, .f32⟩
  | .hbm, ⟨31, _⟩ => ⟨S1x96x1x1, .f32⟩
  | .hbm, ⟨32, _⟩ => ⟨S2x96x224x224, .f32⟩
  | .hbm, ⟨33, _⟩ => ⟨S2x96x224x224, .f32⟩
  | .hbm, ⟨34, _⟩ => ⟨S2x96x224x224, .f32⟩
  | .hbm, ⟨35, _⟩ => ⟨S2x96x224x224, .f32⟩
  | .hbm, ⟨36, _⟩ => ⟨S96x1x1x1, .f32⟩
  | .hbm, ⟨37, _⟩ => ⟨S96, .f32⟩
  | .hbm, ⟨38, _⟩ => ⟨S1x96x1x1, .f32⟩
  | .hbm, ⟨39, _⟩ => ⟨S2x96x224x224, .f32⟩
  | .hbm, ⟨40, _⟩ => ⟨S2x96x224x224, .f32⟩
  | .hbm, ⟨41, _⟩ => ⟨S2x96x224x224, .f32⟩
  | .hbm, ⟨42, _⟩ => ⟨S2x96x224x224, .f32⟩
  | .hbm, ⟨43, _⟩ => ⟨S96x1x1x1, .f32⟩
  | .hbm, ⟨44, _⟩ => ⟨S96, .f32⟩
  | .hbm, ⟨45, _⟩ => ⟨S1x96x1x1, .f32⟩
  | .hbm, ⟨46, _⟩ => ⟨S2x96x224x224, .f32⟩
  | .hbm, ⟨47, _⟩ => ⟨S2x96x224x224, .f32⟩
  | .hbm, ⟨48, _⟩ => ⟨S2x96x224x224, .f32⟩
  | .hbm, ⟨49, _⟩ => ⟨S2x96x224x224, .f32⟩
  | .hbm, ⟨50, _⟩ => ⟨S96x1x1x1, .f32⟩
  | .hbm, ⟨51, _⟩ => ⟨S96, .f32⟩
  | .hbm, ⟨52, _⟩ => ⟨S1x96x1x1, .f32⟩
  | .hbm, ⟨53, _⟩ => ⟨S2x96x224x224, .f32⟩
  | .hbm, ⟨54, _⟩ => ⟨S2x96x224x224, .f32⟩
  | .hbm, ⟨55, _⟩ => ⟨S2x96x224x224, .f32⟩
  | .hbm, ⟨56, _⟩ => ⟨S2x96x224x224, .f32⟩
  | .hbm, ⟨57, _⟩ => ⟨S96x1x1x1, .f32⟩
  | .hbm, ⟨58, _⟩ => ⟨S96, .f32⟩
  | .hbm, ⟨59, _⟩ => ⟨S1x96x1x1, .f32⟩
  | .hbm, ⟨60, _⟩ => ⟨S2x96x224x224, .f32⟩
  | .hbm, ⟨61, _⟩ => ⟨S2x96x224x224, .f32⟩
  | .hbm, ⟨62, _⟩ => ⟨S2x96x224x224, .f32⟩
  | .hbm, ⟨63, _⟩ => ⟨S2x96x224x224, .f32⟩
  | .hbm, ⟨64, _⟩ => ⟨S96x1x1x1, .f32⟩
  | .hbm, ⟨65, _⟩ => ⟨S96, .f32⟩
  | .hbm, ⟨66, _⟩ => ⟨S1x96x1x1, .f32⟩
  | .hbm, ⟨67, _⟩ => ⟨S2x96x224x224, .f32⟩
  | .hbm, ⟨68, _⟩ => ⟨S2x96x224x224, .f32⟩
  | .hbm, ⟨69, _⟩ => ⟨S2x96x224x224, .f32⟩
  | .hbm, ⟨70, _⟩ => ⟨S2x96x224x224, .f32⟩
  | .hbm, ⟨71, _⟩ => ⟨S96x1x1x1, .f32⟩
  | .hbm, ⟨72, _⟩ => ⟨S96, .f32⟩
  | .hbm, ⟨73, _⟩ => ⟨S1x96x1x1, .f32⟩
  | .hbm, ⟨74, _⟩ => ⟨S2x96x224x224, .f32⟩
  | .hbm, ⟨75, _⟩ => ⟨S2x96x224x224, .f32⟩
  | .hbm, ⟨76, _⟩ => ⟨S2x96x224x224, .f32⟩
  | .hbm, ⟨77, _⟩ => ⟨S1x96x1x1, .f32⟩
  | .hbm, ⟨78, _⟩ => ⟨S2x96x224x224, .f32⟩
  | .hbm, ⟨79, _⟩ => ⟨S2x96x224x224, .f32⟩
  | .hbm, ⟨80, _⟩ => ⟨S2x96x224x224, .f32⟩
  | .hbm, ⟨81, _⟩ => ⟨S96x2x224x224, .f32⟩
  | .hbm, ⟨82, _⟩ => ⟨S2x96x224x224, .f32⟩
  | .hbm, ⟨83, _⟩ => ⟨S1x96x1x1, .f32⟩
  | .hbm, ⟨84, _⟩ => ⟨S2x96x224x224, .f32⟩
  | .hbm, ⟨85, _⟩ => ⟨S2x96x224x224, .f32⟩
  | .hbm, ⟨86, _⟩ => ⟨S2x224x224x96, .f32⟩
  | _, _ => ⟨S2x224x226x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩

abbrev nD : Nat := 1
abbrev τ : Topo := Topo.v7x

variable {F : FTy → Type} [FloatOps F]
-- ==== Route.lean ====
abbrev S56x28x192 : Shape := ⟨3, ![56, 28, 192]⟩
abbrev S1568x192 : Shape := ⟨2, ![1568, 192]⟩
abbrev S2x784x192 : Shape := ⟨3, ![2, 784, 192]⟩
abbrev S14x112x1 : Shape := ⟨3, ![14, 112, 1]⟩
abbrev S112x192 : Shape := ⟨2, ![112, 192]⟩
abbrev S1x784x192 : Shape := ⟨3, ![1, 784, 192]⟩
abbrev S1x112x1 : Shape := ⟨3, ![1, 112, 1]⟩
abbrev S112x96 : Shape := ⟨2, ![112, 96]⟩
abbrev S1x784x96 : Shape := ⟨3, ![1, 784, 96]⟩
abbrev S784x96 : Shape := ⟨2, ![784, 96]⟩
abbrev S112x784 : Shape := ⟨2, ![112, 784]⟩
abbrev S112 : Shape := ⟨1, ![112]⟩
abbrev S112x1 : Shape := ⟨2, ![112, 1]⟩
abbrev S2x784 : Shape := ⟨2, ![2, 784]⟩

abbrev nBuf : Space → Nat
  | .hbm => 7
  | .vmem => 8
  | .smem => 0
  | _ => 0

abbrev bufTy : (tb : Table) → Fin (tcTables nBuf tb) → BufTy
  | .hbm, ⟨0, _⟩ => ⟨S56x28x192, .f32⟩
  | .hbm, ⟨1, _⟩ => ⟨S1568x192, .f32⟩
  | .hbm, ⟨2, _⟩ => ⟨S2x784x192, .f32⟩
  | .hbm, ⟨3, _⟩ => ⟨S14x112x1, .i32⟩
  | .hbm, ⟨4, _⟩ => ⟨S14x112x1, .i32⟩
  | .hbm, ⟨5, _⟩ => ⟨S2x784, .i32⟩
  | .hbm, ⟨6, _⟩ => ⟨S2x784, .i32⟩
  | .local _ .vmem, ⟨0, _⟩ => ⟨S112x192, .f32⟩
  | .local _ .vmem, ⟨1, _⟩ => ⟨S112x192, .f32⟩
  | .local _ .vmem, ⟨2, _⟩ => ⟨S1x784x192, .f32⟩
  | .local _ .vmem, ⟨3, _⟩ => ⟨S1x784x192, .f32⟩
  | .local _ .vmem, ⟨4, _⟩ => ⟨S1x112x1, .i32⟩
  | .local _ .vmem, ⟨5, _⟩ => ⟨S1x112x1, .i32⟩
  | .local _ .vmem, ⟨6, _⟩ => ⟨S1x112x1, .i32⟩
  | .local _ .vmem, ⟨7, _⟩ => ⟨S1x112x1, .i32⟩
  | _, _ => ⟨S56x28x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S112x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x784x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouteIdeal.lean ====
variable {F : FTy → Type} [FloatOps F] [Named F]
def κ : String → Option EReal := fun
  | "mask" => some ⊥
  | _ => none
-- ==== RouteRefIdeal.lean ====
abbrev S56x28x192 : Shape := ⟨3, ![56, 28, 192]⟩
abbrev S2x784x192 : Shape := ⟨3, ![2, 784, 192]⟩
abbrev S2x784x96 : Shape := ⟨3, ![2, 784, 96]⟩
abbrev S2x96x784 : Shape := ⟨3, ![2, 96, 784]⟩
abbrev S2x784x784 : Shape := ⟨3, ![2, 784, 784]⟩
abbrev S2x784x2 : Shape := ⟨3, ![2, 784, 2]⟩
abbrev S2x784x1 : Shape := ⟨3, ![2, 784, 1]⟩
abbrev S2x784 : Shape := ⟨2, ![2, 784]⟩

abbrev nBuf : Space → Nat
  | .hbm => 12
  | .vmem => 0
  | .smem => 0
  | _ => 0

abbrev bufTy : (tb : Table) → Fin (tcTables nBuf tb) → BufTy
  | .hbm, ⟨0, _⟩ => ⟨S56x28x192, .f32⟩
  | .hbm, ⟨1, _⟩ => ⟨S2x784x192, .f32⟩
  | .hbm, ⟨2, _⟩ => ⟨S2x784x96, .f32⟩
  | .hbm, ⟨3, _⟩ => ⟨S2x784x96, .f32⟩
  | .hbm, ⟨4, _⟩ => ⟨S2x96x784, .f32⟩
  | .hbm, ⟨5, _⟩ => ⟨S2x784x784, .f32⟩
  | .hbm, ⟨6, _⟩ => ⟨S2x784x2, .f32⟩
  | .hbm, ⟨7, _⟩ => ⟨S2x784x2, .i32⟩
  | .hbm, ⟨8, _⟩ => ⟨S2x784x1, .i32⟩
  | .hbm, ⟨9, _⟩ => ⟨S2x784, .i32⟩
  | .hbm, ⟨10, _⟩ => ⟨S2x784x1, .i32⟩
  | .hbm, ⟨11, _⟩ => ⟨S2x784, .i32⟩
  | _, _ => ⟨S56x28x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_values : Ref sig .tc := ⟨.hbm, 6, rfl⟩
abbrev main_indices : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.AttnPay.lean ====
/-
  What one grid point of the attention's kernel writes: the rows of its 28 regions, two by two, each pair's rows by one and the
  same chain of operations on the pair's queries, keys and values.
-/
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

/-- A region's queries, scaled. -/
def query (z : Vec Ideal S1x1x24x64 .f32) : FVec Ideal S24x64 .f32 :=
  mulf (shapeCast S24x64 z shapeCasts_S1x1x24x64_S24x64) (broadcast S24x64 (Scalar.ofBits .f32 0x3DD105EC#32))

/-- A region's keys or values. -/
def tile (z : Vec Ideal S1x1x24x64 .f32) : FVec Ideal S24x64 .f32 := shapeCast S24x64 z shapeCasts_S1x1x24x64_S24x64

/-- The scores of a region's queries (columns) against the keys of two regions (rows). -/
def scores (q k0 k1 : FVec Ideal S24x64 .f32) : FVec Ideal S128x64 .f32 :=
  concatenate S128x64 0 [⟨S64x64, matmul dot_S24x64_S24x64_S64x64_0_0_1_1_n_n none k0 q (constant S64x64 .f32 0x00000000#32)⟩,
    ⟨S64x64, matmul dot_S24x64_S24x64_S64x64_0_0_1_1_n_n none k1 q (constant S64x64 .f32 0x00000000#32)⟩]
    concatenates_S64x64_S64x64_S128x64_d0

/-- The scores of a pair of regions side by side. -/
def pair (a b : FVec Ideal S128x64 .f32) : FVec Ideal S128x128 .f32 :=
  concatenate S128x128 1 [⟨S128x64, a⟩, ⟨S128x64, b⟩] concatenates_S128x64_S128x64_S128x128_d1

/-- The columns' maxima. -/
def tops (t : FVec Ideal S128x128 .f32) : FVec Ideal S1x128 .f32 :=
  shapeCast S1x128 (multiReduction .maximumf [0] S128 t 0xFF800000#32 reduces_S128x128_S128 (.inl rfl) rfl) shapeCasts_S128_S1x128

/-- One round: every column's maximum struck out. -/
def strike (t : FVec Ideal S128x128 .f32) : FVec Ideal S128x128 .f32 :=
  select (cmpf .oge t (broadcastTo S128x128 (tops t) broadcasts_S1x128_S128x128))
    (broadcast S128x128 (Named.named κ "mask" 0xF149F2CA#32)) t

/-- The rounds. -/
def rounds (t : FVec Ideal S128x128 .f32) : Nat → FVec Ideal S128x128 .f32
  | 0 => t
  | n + 1 => strike (rounds t n)

/-- The exponentials of the scores kept after the rounds, and 0 for the others. -/
def weights (t : FVec Ideal S128x128 .f32) : FVec Ideal S128x128 .f32 :=
  select (cmpf .oge t (broadcastTo S128x128 (tops (rounds t 15)) broadcasts_S1x128_S128x128))
    (exp (subf t (broadcastTo S128x128 (tops t) broadcasts_S1x128_S128x128)))
    (broadcast S128x128 (Scalar.ofBits .f32 0x00000000#32))

/-- The weights over their columns' sums. -/
def shares (t : FVec Ideal S128x128 .f32) : FVec Ideal S128x128 .f32 :=
  divf (weights t) (broadcastTo S128x128 (shapeCast S1x128
    (multiReduction .add [0] S128 (weights t) 0x00000000#32 reduces_S128x128_S128 (.inl rfl) rfl) shapeCasts_S128_S1x128)
    broadcasts_S1x128_S128x128)

/-- The values of two regions side by side. -/
def vals (v0 v1 : FVec Ideal S24x64 .f32) : FVec Ideal S24x128 .f32 :=
  concatenate S24x128 1 [⟨S24x64, v0⟩, ⟨S24x64, v1⟩] concatenates_S24x64_S24x64_S24x128_d1

/-- The rows of a pair's first region. -/
def rowsA (t : FVec Ideal S128x128 .f32) (v : FVec Ideal S24x128 .f32) : FVec Ideal S64x24 .f32 :=
  matmul dot_S128x64_S24x128_S64x24_0_1_1_0_n_n none (extractStridedSlice S128x64 ![0, 0] (shares t) slices_S128x128_o0_0_S128x64)
    v (constant S64x24 .f32 0x00000000#32)

/-- The rows of a pair's second region. -/
def rowsB (t : FVec Ideal S128x128 .f32) (v : FVec Ideal S24x128 .f32) : FVec Ideal S64x24 .f32 :=
  matmul dot_S128x64_S24x128_S64x24_0_1_1_0_n_n none (extractStridedSlice S128x64 ![0, 64] (shares t) slices_S128x128_o0_64_S128x64)
    v (constant S64x24 .f32 0x00000000#32)

/-- The rows of the pairs' regions on one another. -/
def stacked (a b : Fin 14 → FVec Ideal S64x24 .f32) : FVec Ideal S28x64x24 .f32 :=
  k0_pay2 (a 0) (b 0) (a 1) (b 1) (a 2) (b 2) (a 3) (b 3) (a 4) (b 4) (a 5) (b 5) (a 6) (b 6) (a 7) (b 7) (a 8) (b 8) (a 9) (b 9) (a 10) (b 10) (a 11) (b 11) (a 12) (b 12) (a 13) (b 13)

/-- Where the tables hold the word of a pair's first region. -/
def offA (i : grid0.Coords) (p : Fin 14) : Fin 2 → Nat :=
  ![k0_off1 i 0, (Scalar.indexCast (Scalar.addi (Scalar.muli (BitVec.ofNat 32 (i 1).val) 28#32) (BitVec.ofNat 32 (2 * p.val)))).toNat]

/-- Where the tables hold the word of a pair's second region. -/
def offB (i : grid0.Coords) (p : Fin 14) : Fin 2 → Nat :=
  ![k0_off1 i 0, (Scalar.indexCast (Scalar.addi (Scalar.addi (Scalar.muli (BitVec.ofNat 32 (i 1).val) 28#32)
    (BitVec.ofNat 32 (2 * p.val))) 1#32)).toNat]

/-- Both are inside the tables. -/
theorem off_inb : ∀ (i : grid0.Coords) (p : Fin 14) a,
    offA i p a + S1x1.size a ≤ S2x784.size a ∧ offB i p a + S1x1.size a ≤ S2x784.size a := by
  decide +kernel

/-- The number in a table at given offsets. -/
def num (tb : Memref sig .tc .smem S2x784 .i32) (c : Dev nD) (x : TbBuf0 (F := Ideal) c tb) (o : Fin 2 → Nat)
    (h : ∀ a, o a + S1x1.size a ≤ S2x784.size a) : BitVec 32 :=
  tb.view.readAt (Elt Ideal) (Rect.unit (s := S2x784) o S1x1.size h).toLoadRect x (Shape.Idx.first (numel1_S1x1.symm ▸ Nat.one_pos))

/-- Where a numbered region lies among the keys or values. -/
def place (w : BitVec 32) : Fin 4 → Nat := ![0, (Scalar.indexCast w).toNat, 0, 0]

/-- A numbered region is there. -/
abbrev There (w : BitVec 32) : Prop := ∀ a, place w a + S1x1x24x64.size a ≤ S1x784x24x64.size a

/-- A numbered region's keys or values. -/
def part (x : Vec Ideal S1x784x24x64 .f32) (w : BitVec 32) (h : There w) : FVec Ideal S24x64 .f32 :=
  tile (View.ld x (Rect.unit (s := S1x784x24x64) (place w) S1x1x24x64.size h))

/-- The place of a region of the point's own among its queries. -/
def own (j : Nat) : Fin 4 → Nat := ![0, (Scalar.indexCast (BitVec.ofNat 32 j)).toNat, 0, 0]

theorem own_inb : ∀ (p : Fin 14) a, own (2 * p.val) a + S1x1x24x64.size a ≤ S1x28x24x64.size a ∧
    own (2 * p.val + 1) a + S1x1x24x64.size a ≤ S1x28x24x64.size a := by
  decide +kernel

/-- What a point writes, from its queries, the keys and the values, and the numbers of the regions selected for the two
    regions of each pair. -/
def point (x0 : Vec Ideal S1x28x24x64 .f32) (x1 x2 : Vec Ideal S1x784x24x64 .f32) (wa wb wc wd : Fin 14 → BitVec 32)
    (ha : ∀ p, There (wa p)) (hb : ∀ p, There (wb p)) (hc : ∀ p, There (wc p)) (hd : ∀ p, There (wd p)) :
    FVec Ideal S1x1x8x224x24 .f32 :=
  let t := fun p : Fin 14 => pair
    (scores (query (View.ld x0 (Rect.unit (s := S1x28x24x64) (own (2 * p.val)) S1x1x24x64.size fun a => (own_inb p a).1)))
      (part x1 (wa p) (ha p)) (part x1 (wb p) (hb p)))
    (scores (query (View.ld x0 (Rect.unit (s := S1x28x24x64) (own (2 * p.val + 1)) S1x1x24x64.size fun a => (own_inb p a).2)))
      (part x1 (wc p) (hc p)) (part x1 (wd p) (hd p)))
  k0_pay3 (stacked (fun p => rowsA (t p) (vals (part x2 (wa p) (ha p)) (part x2 (wb p) (hb p))))
    (fun p => rowsB (t p) (vals (part x2 (wc p) (hc p)) (part x2 (wd p) (hd p)))))

end Cert.KernelIdeal.Hand
end
-- ==== Proof.AttnRun.lean ====
/-
  The contents of the attention's output block after a grid point are what the point writes.
-/
module

public import proofs.«01_k».proof.Proof.AttnPay

@[expose] public section

set_option maxRecDepth 131072

noncomputable section

namespace Cert.KernelIdeal.Hand

open Cert.KernelIdeal Cert.KernelIdeal.Gen Idealize.ShloMosaic Idealize.ShloMosaic.TcCoe

variable (m : (ℓ : Loc nD τ sig) → Buf (Elt Ideal) ℓ)

/-- The numbers a point finds in the first table for its pairs' first regions. -/
def wa (c : Dev nD) (i : grid0.Coords) (p : Fin 14) : BitVec 32 := num tbM0_0 c (tbl m 0) (offA i p) fun a => (off_inb i p a).1
/-- The second table's numbers for the first regions. -/
def wb (c : Dev nD) (i : grid0.Coords) (p : Fin 14) : BitVec 32 := num tbM0_1 c (tbl m 1) (offA i p) fun a => (off_inb i p a).1
/-- The first table's numbers for the second regions. -/
def wc (c : Dev nD) (i : grid0.Coords) (p : Fin 14) : BitVec 32 := num tbM0_0 c (tbl m 0) (offB i p) fun a => (off_inb i p a).2
/-- The second table's numbers for the second regions. -/
def wd (c : Dev nD) (i : grid0.Coords) (p : Fin 14) : BitVec 32 := num tbM0_1 c (tbl m 1) (offB i p) fun a => (off_inb i p a).2

set_option maxHeartbeats 4000000 in
/-- The output's block after a point, from what the staging buffers hold. -/
theorem outs_raw (hO : Ok m) (hH : Hyps m hO) (c : Dev nD) (t : Fin (cfgM m hO).N)
    (ha : ∀ p, There (wa m c (grid0.coords t) p)) (hb : ∀ p, There (wb m c (grid0.coords t) p))
    (hc : ∀ p, There (wc m c (grid0.coords t) p)) (hd : ∀ p, There (wd m c (grid0.coords t) p)) :
    outsAt0 m hO hH c t = point
      (View.read (Elt Ideal) (ms0_0 m hO t).view ((hs0_0 m hO t).unread (iblk m hO c 0 t)))
      (View.read (Elt Ideal) (ms0_1 m hO t).view ((hs0_1 m hO t).unread (iblk m hO c 1 t)))
      (View.read (Elt Ideal) (ms0_2 m hO t).view ((hs0_2 m hO t).unread (iblk m hO c 2 t)))
      (wa m c (grid0.coords t)) (wb m c (grid0.coords t)) (wc m c (grid0.coords t)) (wd m c (grid0.coords t)) ha hb hc hd := by
  unfold outsAt0
  unfold out0_A_3
  frame_out
  rfl

end Cert.KernelIdeal.Hand
end
-- ==== Proof.AttnMath.lean ====
/-
  Striking out the maximum of 128 scores fifteen times leaves the sixteenth largest on top, when the seventeen largest are
  distinct; so the softmax over the scores at or above it, applied to all 128 values, is the softmax over the sixteen largest,
  applied to their values.
-/
module

public import Idealize.ShloMosaic.PureOps.Ideal.Laws

@[expose] public section

noncomputable section

namespace Cert.AttnMath

open Idealize.ShloMosaic

/-- The largest of the scores. -/
def top (f : Fin 128 → EReal) : EReal := Finset.univ.fold max ⊥ f

/-- The scores with the largest struck out. -/
def strike (f : Fin 128 → EReal) (n : Fin 128) : EReal := if top f ≤ f n then ⊥ else f n

/-- The scores after some rounds. -/
def struck (f : Fin 128 → EReal) : Nat → Fin 128 → EReal
  | 0 => f
  | k + 1 => strike (struck f k)

/-- The exponential of a score kept by the rounds, less the largest, and 0 for another. -/
def weight (f : Fin 128 → EReal) (n : Fin 128) : EReal :=
  if top (struck f 15) ≤ f n then Ideal.exp (f n - top f) else 0

/-- The values in the proportions of the weights. -/
def attend (f v : Fin 128 → EReal) : EReal := ∑ n, Ideal.div (weight f n) (∑ n', weight f n') * v n

/-- The largest of sixteen scores. -/
def top16 (g : Fin 16 → EReal) : EReal := Finset.univ.fold max ⊥ g

/-- The softmax of sixteen scores applied to sixteen values. -/
def soft (g v : Fin 16 → EReal) : EReal :=
  ∑ i, Ideal.div (Ideal.exp (g i - top16 g)) (∑ j, Ideal.exp (g j - top16 g)) * v i

theorem fold_eq {n : Nat} (f : Fin n → EReal) (a : EReal) (i : Fin n) (hi : f i = a) (h : ∀ j, f j ≤ a) :
    Finset.univ.fold max ⊥ f = a := by
  refine le_antisymm ?_ ?_
  · rw [Finset.fold_max_le]
    exact ⟨bot_le, fun j _ => h j⟩
  · rw [Finset.le_fold_max]
    exact .inr ⟨i, Finset.mem_univ _, hi.ge⟩

section
variable (f : Fin 128 → EReal) (σ : Fin 128 ≃ Fin 128)
  (mono : ∀ i j : Fin 128, i < j → f (σ j) ≤ f (σ i))
  (strict : ∀ i j : Fin 128, j.val = i.val + 1 → j.val ≤ 16 → f (σ j) < f (σ i))

include mono in
theorem mono_le (i j : Fin 128) (h : i ≤ j) : f (σ j) ≤ f (σ i) := by
  rcases h.lt_or_eq with h | rfl
  · exact mono i j h
  · exact le_rfl

include mono strict in
/-- Past a rank of at most fifteen the scores are less. -/
theorem later (k i : Fin 128) (hk : k.val ≤ 15) (h : k < i) : f (σ i) < f (σ k) := by
  have h' : k.val < i.val := h
  exact (mono_le f σ mono ⟨k.val + 1, by omega⟩ i (by show k.val + 1 ≤ i.val; omega)).trans_lt
    (strict k ⟨k.val + 1, by omega⟩ rfl (by dsimp only; omega))

include mono in
/-- When the first ranks are struck out, the next is the largest. -/
theorem top_of (g : Fin 128 → EReal) (k : Fin 128) (h : ∀ i : Fin 128, g (σ i) = if i.val < k.val then ⊥ else f (σ i)) :
    top g = f (σ k) := by
  refine fold_eq g _ (σ k) (by rw [h, if_neg (by omega)]) fun j => ?_
  obtain ⟨i, rfl⟩ := σ.surjective j
  rw [h]
  split
  · exact bot_le
  · exact mono_le f σ mono k i (by show k.val ≤ i.val; omega)

include mono strict in
/-- The rounds strike out the first ranks, one by one. -/
theorem struck_eq (k : Nat) (hk : k ≤ 15) (i : Fin 128) : struck f k (σ i) = if i.val < k then ⊥ else f (σ i) := by
  induction k generalizing i with
  | zero => simp [struck]
  | succ k ih =>
    have ih := ih (by omega)
    have ht := top_of f σ mono (struck f k) ⟨k, by omega⟩ ih
    show strike (struck f k) (σ i) = _
    unfold strike
    rw [ht, ih]
    rcases Nat.lt_trichotomy i.val k with h | h | h
    · rw [if_pos h, if_pos (by omega : i.val < k + 1), ite_self]
    · rw [if_neg (by omega : ¬ i.val < k), if_pos (by omega : i.val < k + 1), if_pos (mono_le f σ mono i ⟨k, by omega⟩ (by show i.val ≤ k; omega))]
    · rw [if_neg (by omega : ¬ i.val < k), if_neg (by omega : ¬ i.val < k + 1), if_neg (not_le.mpr (later f σ mono strict ⟨k, by omega⟩ i (by dsimp only; omega) h))]

include mono strict in
/-- The weights: the sixteen largest scores' exponentials, and 0. -/
theorem weight_eq (i : Fin 128) : weight f (σ i) = if i.val < 16 then Ideal.exp (f (σ i) - f (σ 0)) else 0 := by
  have h0 : top f = f (σ 0) := top_of f σ mono f 0 fun i => by rw [if_neg (by show ¬ i.val < 0; omega)]
  have h15 := top_of f σ mono (struck f 15) ⟨15, by omega⟩ (struck_eq f σ mono strict 15 le_rfl)
  unfold weight
  rw [h15, h0]
  by_cases h : i.val < 16
  · rw [if_pos h, if_pos (mono_le f σ mono i _ (by show i.val ≤ 15; omega))]
  · rw [if_neg h, if_neg (not_le.mpr (later f σ mono strict _ i le_rfl (by show 15 < i.val; omega)))]

/-- A sum over all ranks of what is 0 past the sixteenth. -/
theorem sum16 (g : Fin 128 → EReal) (h : ∀ i : Fin 128, 16 ≤ i.val → g i = 0) : ∑ i, g i = ∑ i : Fin 16, g (i.castLE (by omega)) := by
  rw [Fin.sum_univ_add (a := 16) (b := 112) g]
  rw [Finset.sum_eq_zero (s := (Finset.univ : Finset (Fin 112))) fun i _ => h _ (by simp), add_zero]
  rfl

/-- An exponential is not negative. -/
theorem exp_nonneg (x : EReal) : 0 ≤ Ideal.exp x := by
  induction x with
  | bot => exact le_rfl
  | top => exact le_top
  | coe r => rw [Ideal.exp_coe]; exact_mod_cast (Real.exp_pos r).le

include mono strict in
/-- Attending after the rounds is the softmax of the sixteen largest. -/
theorem attend_eq (v : Fin 128 → EReal)
    (fin : f (σ 0) < ⊤) : attend f v = soft (fun i => f (σ (i.castLE (by omega)))) (fun i => v (σ (i.castLE (by omega)))) := by
  have h0 : top16 (fun i => f (σ (i.castLE (by omega)))) = f (σ 0) :=
    fold_eq _ _ 0 rfl fun j => mono_le f σ mono 0 _ (by show 0 ≤ j.val; omega)
  have hs : (∑ j : Fin 16, Ideal.exp (f (σ (j.castLE (by omega))) - f (σ 0))) ≠ 0 := by
    have h1 : Ideal.exp (f (σ 0) - f (σ 0)) = 1 := by
      have hb : f (σ 0) ≠ ⊥ := (bot_le.trans_lt (later f σ mono strict 0 1 (by simp) (by decide))).ne'
      rw [EReal.sub_self fin.ne hb]
      show ((Real.exp 0 : ℝ) : EReal) = 1
      simp
    intro h
    have := Finset.single_le_sum (f := fun j : Fin 16 => Ideal.exp (f (σ (j.castLE (by omega))) - f (σ 0)))
      (fun j _ => exp_nonneg _) (Finset.mem_univ 0)
    rw [h] at this
    exact absurd (h1 ▸ this : (1 : EReal) ≤ 0) (not_le.mpr zero_lt_one)
  unfold attend soft
  rw [h0, ← σ.sum_comp (fun n => weight f n), ← σ.sum_comp]
  simp only [weight_eq f σ mono strict]
  rw [sum16 (fun i => if i.val < 16 then Ideal.exp (f (σ i) - f (σ 0)) else 0) fun i h => if_neg (by omega)]
  have hi : ∀ i : Fin 16, (i.castLE (by omega) : Fin 128).val < 16 := fun i => i.isLt
  simp only [hi, if_true]
  rw [sum16 _ fun i h => by rw [if_neg (by omega), Ideal.div, if_neg hs, zero_mul, zero_mul]]
  refine Finset.sum_congr rfl fun i _ => ?_
  simp only [hi, if_true]

end
end Cert.AttnMath
end
-- ==== Proof.AttnSpec.lean ====
/-
  The attention's result, entry by entry: a query's scores against the keys of its region's two selected regions, and the
  selected regions' values attended to by them.
-/
module

public import proofs.«01_k».proof.Proof.AttnMath
public import Idealize.ShloMosaic.Lib.Pointwise

@[expose] public section

noncomputable section

namespace Cert.AttnSpec

open Idealize.ShloMosaic Cert.AttnMath

abbrev Tab : Shape := ⟨4, ![8, 784, 24, 64]⟩
abbrev Sel : Shape := ⟨2, ![2, 784]⟩
abbrev Out : Shape := ⟨5, ![2, 4, 224, 224, 24]⟩

/-- The region a number names. -/
def reg (w : BitVec 32) : Fin 784 := ⟨w.toNat % 784, Nat.mod_lt _ (by omega)⟩

/-- The number naming the region of the `n`th of 128 keys: the first 64 are the first selected region's. -/
def pick (i0 i1 : BitVec 32) (n : Fin 128) : BitVec 32 := if n.val < 64 then i0 else i1

/-- A key's or value's place in its region. -/
def place (n : Fin 128) : Fin 64 := ⟨n.val % 64, by omega⟩

variable (q k v : Vec Ideal Tab .f32) (i0 i1 : IVec Sel 32)

/-- The `n`th key's or value's region, for a region of a batch and head. -/
def sel (h : Fin 8) (r : Fin 784) (n : Fin 128) : Fin 784 :=
  reg (pick (i0 (ix2 ⟨h.val / 4, by omega⟩ r)) (i1 (ix2 ⟨h.val / 4, by omega⟩ r)) n)

/-- A region's query against its `n`th key. -/
def score (h : Fin 8) (r : Fin 784) (x : Fin 64) (n : Fin 128) : EReal :=
  ∑ d : Fin 24, k (ix4 h (sel i0 i1 h r n) d (place n)) * (q (ix4 h r d x) * Ideal.ofBits .f32 0x3DD105EC#32)

/-- A channel of a region's `n`th value. -/
def value (h : Fin 8) (r : Fin 784) (d : Fin 24) (n : Fin 128) : EReal := v (ix4 h (sel i0 i1 h r n) d (place n))

/-- The result, pixel by pixel. -/
def out : Vec Ideal Out .f32 := fun y =>
  have h0 : (y 0).val < 2 := (y 0).isLt
  have h1 : (y 1).val < 4 := (y 1).isLt
  have h2 : (y 2).val < 224 := (y 2).isLt
  have h3 : (y 3).val < 224 := (y 3).isLt
  let h : Fin 8 := ⟨(y 0).val * 4 + (y 1).val, by omega⟩
  let r : Fin 784 := ⟨(y 2).val / 8 * 28 + (y 3).val / 8, by omega⟩
  attend (score q k i0 i1 h r ⟨(y 2).val % 8 * 8 + (y 3).val % 8, by omega⟩) (value v i0 i1 h r (y 4))

end Cert.AttnSpec
end
-- ==== Proof.AttnPoint.lean ====
/-
  What one grid point of the attention's kernel writes, entry by entry: the values of a region's two selected regions attended
  to by the scores of its query.
-/
module

public import proofs.«01_k».proof.Proof.AttnPay
public import proofs.«01_k».proof.Proof.AttnSpec

@[expose] public section

set_option maxRecDepth 16384

noncomputable section

namespace Cert.KernelIdeal.Hand

open Cert.KernelIdeal Cert.KernelIdeal.Gen Cert.AttnMath Idealize.ShloMosaic Idealize.ShloMosaic.TcCoe

theorem neg_inf : Ideal.ofBits .f32 0xFF800000#32 = ⊥ := by simp [Ideal.ofBits, Ideal.ieee]

variable (t : FVec Ideal S128x128 .f32)

/-- A column of scores. -/
abbrev col (x : Fin 128) (n : Fin 128) : EReal := t (ix2 n x)

/-- A column's maximum. -/
theorem tops_apply (x : Fin 128) : tops t (ix2 0 x) = top (col t x) := by
  pointwise [tops]
  rw [neg_inf]
  rfl

/-- A round strikes out each column's maximum. -/
theorem strike_apply (n x : Fin 128) : Hand.strike t (ix2 n x) = AttnMath.strike (col t x) n := by
  pointwise [Hand.strike]
  rw [tops_apply]
  rfl

/-- So do the rounds. -/
theorem rounds_apply (k : Nat) (x : Fin 128) : col (rounds t k) x = struck (col t x) k := by
  induction k with
  | zero => rfl
  | succ k ih =>
    funext n
    show Hand.strike (rounds t k) (ix2 n x) = AttnMath.strike (struck (col t x) k) n
    rw [strike_apply, ih]

/-- A column's weights over their sum. -/
theorem shares_apply (n x : Fin 128) :
    shares t (ix2 n x) = Ideal.div (weight (col t x) n) (∑ n', weight (col t x) n') := by
  pointwise [shares, weights]
  rw [tops_apply, tops_apply, rounds_apply]
  rfl

variable (v : FVec Ideal S24x128 .f32)

/-- A row of a pair's first region. -/
theorem rowsA_apply (x : Fin 64) (d : Fin 24) :
    rowsA t v (ix2 x d) = attend (col t ⟨x.val, by omega⟩) (fun n => v (ix2 d n)) := by
  pointwise [rowsA]
  simp only [shares_apply]
  rfl

/-- A row of a pair's second region. -/
theorem rowsB_apply (x : Fin 64) (d : Fin 24) :
    rowsB t v (ix2 x d) = attend (col t ⟨64 + x.val, by omega⟩) (fun n => v (ix2 d n)) := by
  pointwise [rowsB]
  simp only [shares_apply]
  rfl

/-- The stacked rows, at the pairs' first regions. -/
theorem stacked_even (a b : Fin 14 → FVec Ideal S64x24 .f32) (p : Fin 14) (x : Fin 64) (d : Fin 24) :
    stacked a b (ix3 ⟨2 * p.val, by omega⟩ x d) = a p (ix2 x d) := by
  rcases p with ⟨p, hp⟩
  interval_cases p <;> pointwise [stacked, k0_pay2]

/-- The stacked rows, at the pairs' second regions. -/
theorem stacked_odd (a b : Fin 14 → FVec Ideal S64x24 .f32) (p : Fin 14) (x : Fin 64) (d : Fin 24) :
    stacked a b (ix3 ⟨2 * p.val + 1, by omega⟩ x d) = b p (ix2 x d) := by
  rcases p with ⟨p, hp⟩
  interval_cases p <;> pointwise [stacked, k0_pay2]

/-- The block written, from the stacked rows. -/
theorem pay3_apply (z : FVec Ideal S28x64x24 .f32) (j : Fin 28) (a e : Fin 8) (d : Fin 24) :
    k0_pay3 z (ix5 0 0 a ⟨8 * j.val + e.val, by omega⟩ d) = z (ix3 j ⟨a.val * 8 + e.val, by omega⟩ d) := by
  pointwise [k0_pay3]

variable (x0 : Vec Ideal S1x28x24x64 .f32) (x1 x2 : Vec Ideal S1x784x24x64 .f32)

/-- A region's scores against the keys of two numbered regions. -/
def scoreOf (j : Fin 28) (w0 w1 : BitVec 32) (x : Fin 64) (n : Fin 128) : EReal :=
  ∑ d : Fin 24, x1 (ix4 0 (AttnSpec.reg (AttnSpec.pick w0 w1 n)) d (AttnSpec.place n)) * (x0 (ix4 0 j d x) * Ideal.ofBits .f32 0x3DD105EC#32)

/-- The values of two numbered regions. -/
def valueOf (w0 w1 : BitVec 32) (d : Fin 24) (n : Fin 128) : EReal :=
  x2 (ix4 0 (AttnSpec.reg (AttnSpec.pick w0 w1 n)) d (AttnSpec.place n))

/-- A numbered region's keys or values are there, at an index. -/
theorem part_apply (w : BitVec 32) (h : There w) (d : Fin 24) (n : Fin 64) : part x1 w h (ix2 d n) = x1 (ix4 0 (AttnSpec.reg w) d n) := by
  have hw : w.toNat + 1 ≤ 784 := h 1
  pointwise [part, tile, place]
  congr 1
  funext i
  apply Fin.ext
  match i with
  | ⟨0, _⟩ => rfl
  | ⟨1, _⟩ => show w.toNat = w.toNat % 784; omega
  | ⟨2, _⟩ => rfl
  | ⟨3, _⟩ => rfl

/-- The values of two numbered regions side by side, at an index. -/
theorem vals_apply (w0 w1 : BitVec 32) (h0 : There w0) (h1 : There w1) (d : Fin 24) (n : Fin 128) :
    vals (part x2 w0 h0) (part x2 w1 h1) (ix2 d n) = valueOf x2 w0 w1 d n := by
  pointwise [vals]
  unfold valueOf AttnSpec.pick AttnSpec.place
  by_cases hn : n.val < 64
  · rw [dif_pos hn, if_pos hn, part_apply]
    congr 2
    exact Fin.ext (by dsimp only; omega)
  · rw [dif_neg hn, if_neg hn, part_apply]
    congr 2
    exact Fin.ext (by dsimp only; omega)

/-- The scores of a region's queries, at an index. -/
theorem scores_apply (j : Fin 28) (q : FVec Ideal S24x64 .f32)
    (hq : ∀ d x, q (ix2 d x) = x0 (ix4 0 j d x) * Ideal.ofBits .f32 0x3DD105EC#32)
    (w0 w1 : BitVec 32) (h0 : There w0) (h1 : There w1) (n : Fin 128) (x : Fin 64) :
    scores q (part x1 w0 h0) (part x1 w1 h1) (ix2 n x) = scoreOf x0 x1 j w0 w1 x n := by
  pointwise [scores]
  unfold scoreOf AttnSpec.pick AttnSpec.place
  by_cases hn : n.val < 64
  · rw [dif_pos hn, if_pos hn]
    refine Finset.sum_congr rfl fun d _ => ?_
    rw [part_apply, hq]
    congr 3
    exact Fin.ext (by dsimp only; omega)
  · rw [dif_neg hn, if_neg hn]
    refine Finset.sum_congr rfl fun d _ => ?_
    rw [part_apply, hq]
    congr 3
    exact Fin.ext (by dsimp only; omega)

/-- A pair's scores, in the first region's columns. -/
theorem pair_left (a b : FVec Ideal S128x64 .f32) (x : Fin 64) : col (pair a b) ⟨x.val, by omega⟩ = fun n => a (ix2 n x) := by
  funext n
  show pair a b _ = _
  pointwise [pair]

/-- A pair's scores, in the second region's columns. -/
theorem pair_right (a b : FVec Ideal S128x64 .f32) (x : Fin 64) : col (pair a b) ⟨64 + x.val, by omega⟩ = fun n => b (ix2 n x) := by
  funext n
  show pair a b _ = _
  pointwise [pair]

/-- The queries of the region read at a place, at an index. -/
theorem query_apply (j : Fin 28) (o : Fin 4 → Nat) (ho : o = ![0, j.val, 0, 0]) (h : ∀ a, o a + S1x1x24x64.size a ≤ S1x28x24x64.size a) (d : Fin 24)
    (x : Fin 64) : query (View.ld x0 (Rect.unit (s := S1x28x24x64) o S1x1x24x64.size h)) (ix2 d x)
      = x0 (ix4 0 j d x) * Ideal.ofBits .f32 0x3DD105EC#32 := by
  subst ho
  pointwise [query]

theorem own_even : ∀ p : Fin 14, own (2 * p.val) = ![0, 2 * p.val, 0, 0] := by decide +kernel
theorem own_odd : ∀ p : Fin 14, own (2 * p.val + 1) = ![0, 2 * p.val + 1, 0, 0] := by decide +kernel

variable (wa wb wc wd : Fin 14 → BitVec 32) (ha : ∀ p, There (wa p)) (hb : ∀ p, There (wb p)) (hc : ∀ p, There (wc p))
  (hd : ∀ p, There (wd p)) (p : Fin 14) (a e : Fin 8) (d : Fin 24)

/-- What a point writes for a pair's first region. -/
theorem point_even :
    point x0 x1 x2 wa wb wc wd ha hb hc hd (ix5 0 0 a ⟨8 * (2 * p.val) + e.val, by omega⟩ d)
      = attend (scoreOf x0 x1 ⟨2 * p.val, by omega⟩ (wa p) (wb p) ⟨a.val * 8 + e.val, by omega⟩) (valueOf x2 (wa p) (wb p) d) := by
  unfold point
  dsimp only
  refine (pay3_apply _ ⟨2 * p.val, by omega⟩ a e d).trans ?_
  rw [stacked_even]
  rw [rowsA_apply]
  refine congrArg₂ attend ?_ (funext fun n => vals_apply x2 _ _ _ _ d n)
  refine (pair_left _ _ ⟨a.val * 8 + e.val, by omega⟩).trans (funext fun n => ?_)
  exact scores_apply x0 x1 ⟨2 * p.val, by omega⟩ _ (fun d x => query_apply x0 _ _ (own_even p) _ d x) _ _ _ _ n _

/-- What a point writes for a pair's second region. -/
theorem point_odd :
    point x0 x1 x2 wa wb wc wd ha hb hc hd (ix5 0 0 a ⟨8 * (2 * p.val + 1) + e.val, by omega⟩ d)
      = attend (scoreOf x0 x1 ⟨2 * p.val + 1, by omega⟩ (wc p) (wd p) ⟨a.val * 8 + e.val, by omega⟩) (valueOf x2 (wc p) (wd p) d) := by
  unfold point
  dsimp only
  refine (pay3_apply _ ⟨2 * p.val + 1, by omega⟩ a e d).trans ?_
  rw [stacked_odd]
  rw [rowsB_apply]
  refine congrArg₂ attend ?_ (funext fun n => vals_apply x2 _ _ _ _ d n)
  refine (pair_right _ _ ⟨a.val * 8 + e.val, by omega⟩).trans (funext fun n => ?_)
  exact scores_apply x0 x1 ⟨2 * p.val + 1, by omega⟩ _ (fun d x => query_apply x0 _ _ (own_odd p) _ d x) _ _ _ _ n _

end Cert.KernelIdeal.Hand
end
-- ==== Proof.HypsKernelIdeal.lean ====
/-
  The attention's idealized kernel finds only numbers of regions in its tables when they hold nothing else, so every region it loads
  is there.
-/
module

public import proofs.«01_k».proof.Proof.Gen.KernelIdeal.Frame

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F] [Named F] (m : (ℓ : Loc nD τ sig) → Buf (Elt F) ℓ)

/-- A number below 784 names a region that is there. -/
theorem there (w : BitVec 32) (h : w.toNat < 784) :
    ∀ a, (![0, (Scalar.indexCast w).toNat, 0, 0] : Fin 4 → Nat) a + S1x1x24x64.size a ≤ S1x784x24x64.size a := by
  intro a
  match a with
  | ⟨0, _⟩ => exact (by decide : 0 + 1 ≤ 1)
  | ⟨1, _⟩ => show w.toNat + 1 ≤ 784; omega
  | ⟨2, _⟩ => exact (by decide : 0 + 24 ≤ 24)
  | ⟨3, _⟩ => exact (by decide : 0 + 64 ≤ 64)

variable (h0 : ∀ (c : Dev nD) (y : S2x784.Idx), (m ((c : Thread nD τ).loc main_arg3) y).toNat < 784)
  (h1 : ∀ (c : Dev nD) (y : S2x784.Idx), (m ((c : Thread nD τ).loc main_arg4) y).toNat < 784)

/-- A word read off the first table is one of its words. -/
theorem read0 (c : Dev nD) (x : TbBuf0 (F := F) c tbM0_0) (hx : ∀ y : S2x784.Idx, BitVec.toNat (x y) < 784) (o : Fin 2 → Nat)
    (h : ∀ a, o a + S1x1.size a ≤ S2x784.size a) :
    BitVec.toNat (tbM0_0.view.readAt (Elt F) (Rect.unit (s := S2x784) o S1x1.size h).toLoadRect x
      (Shape.Idx.first (numel1_S1x1.symm ▸ Nat.one_pos))) < 784 := by
  rw [View.readAt_apply, View.read_apply]
  exact hx _

include h0 in
/-- A word of the first table. -/
theorem word0 (o : Fin 2 → Nat) (h : ∀ a, o a + S1x1.size a ≤ S2x784.size a) :
    (tbM0_0.view.readAt (Elt F) (Rect.unit (s := S2x784) o S1x1.size h).toLoadRect (tbl m 0)
      (Shape.Idx.first (numel1_S1x1.symm ▸ Nat.one_pos))).toNat < 784 :=
  read0 0 _ (h0 0) o h

/-- A word read off the second table is one of its words. -/
theorem read1 (c : Dev nD) (x : TbBuf0 (F := F) c tbM0_1) (hx : ∀ y : S2x784.Idx, BitVec.toNat (x y) < 784) (o : Fin 2 → Nat)
    (h : ∀ a, o a + S1x1.size a ≤ S2x784.size a) :
    BitVec.toNat (tbM0_1.view.readAt (Elt F) (Rect.unit (s := S2x784) o S1x1.size h).toLoadRect x
      (Shape.Idx.first (numel1_S1x1.symm ▸ Nat.one_pos))) < 784 := by
  rw [View.readAt_apply, View.read_apply]
  exact hx _

include h1 in
/-- A word of the second table. -/
theorem word1 (o : Fin 2 → Nat) (h : ∀ a, o a + S1x1.size a ≤ S2x784.size a) :
    (tbM0_1.view.readAt (Elt F) (Rect.unit (s := S2x784) o S1x1.size h).toLoadRect (tbl m 1)
      (Shape.Idx.first (numel1_S1x1.symm ▸ Nat.one_pos))).toNat < 784 :=
  read1 0 _ (h1 0) o h

include h0 h1 in
/-- So every region loaded is there. -/
theorem hyps (hO : Ok m) : Hyps m hO := by
  intro c t
  repeat' apply And.intro
  all_goals first
    | exact there _ (word0 m h0 _ _)
    | exact there _ (word1 m h1 _ _)

end Cert.KernelIdeal.Hand
end
-- ==== Proof.AttnKer.lean ====
/-
  The attention call's result array, read off its run: what each grid point writes back is its block of the function of
  `AttnSpec.lean`, and the blocks tile the array.
-/
module

public import proofs.«01_k».proof.Proof.AttnRun
public import proofs.«01_k».proof.Proof.AttnPoint
public import proofs.«01_k».proof.Proof.HypsKernelIdeal
public import Idealize.ShloMosaic.Lib.Pipeline.Covers

@[expose] public section

set_option maxRecDepth 16384

noncomputable section

namespace Cert.KernelIdeal.Hand

open Cert.KernelIdeal Cert.KernelIdeal.Gen Cert.AttnMath Idealize.ShloMosaic Idealize.ShloMosaic.TcCoe

/-- The tables' offsets over the grid's points and pairs: batch and region. -/
theorem offs : ∀ (t : Fin grid0.N) (p : Fin 14), offA (grid0.coords t) p = ![t.val / 112, t.val % 28 * 28 + 2 * p.val]
    ∧ offB (grid0.coords t) p = ![t.val / 112, t.val % 28 * 28 + (2 * p.val + 1)] := by decide +kernel

/-- A number read off the first table, by its coordinates. -/
theorem num0 (c : Dev nD) (x : TbBuf0 (F := Ideal) c tbM0_0) (o : Fin 2 → Nat) (h : ∀ a, o a + S1x1.size a ≤ S2x784.size a) (b : Fin 2)
    (r : Fin 784) (ho : o = ![b.val, r.val]) : num tbM0_0 c x o h = (x : S2x784.Idx → BitVec 32) (ix2 b r) := by
  subst ho
  unfold num
  rw [View.readAt_apply, View.read_apply]
  refine congrArg (x : S2x784.Idx → BitVec 32) (funext fun a => Fin.ext ?_)
  match a with
  | ⟨0, _⟩ => rfl
  | ⟨1, _⟩ => rfl

/-- A number read off the second table, by its coordinates. -/
theorem num1 (c : Dev nD) (x : TbBuf0 (F := Ideal) c tbM0_1) (o : Fin 2 → Nat) (h : ∀ a, o a + S1x1.size a ≤ S2x784.size a) (b : Fin 2)
    (r : Fin 784) (ho : o = ![b.val, r.val]) : num tbM0_1 c x o h = (x : S2x784.Idx → BitVec 32) (ix2 b r) := by
  subst ho
  unfold num
  rw [View.readAt_apply, View.read_apply]
  refine congrArg (x : S2x784.Idx → BitVec 32) (funext fun a => Fin.ext ?_)
  match a with
  | ⟨0, _⟩ => rfl
  | ⟨1, _⟩ => rfl

variable (m : (ℓ : Loc nD τ sig) → Buf (Elt Ideal) ℓ)

/-- The arrays a device is launched on. -/
abbrev qM (c : Dev nD) : Vec Ideal AttnSpec.Tab .f32 := m ((c : Thread nD τ).loc main_arg0)
abbrev kM (c : Dev nD) : Vec Ideal AttnSpec.Tab .f32 := m ((c : Thread nD τ).loc main_arg1)
abbrev vM (c : Dev nD) : Vec Ideal AttnSpec.Tab .f32 := m ((c : Thread nD τ).loc main_arg2)
abbrev i0M (c : Dev nD) : IVec AttnSpec.Sel 32 := m ((c : Thread nD τ).loc main_arg3)
abbrev i1M (c : Dev nD) : IVec AttnSpec.Sel 32 := m ((c : Thread nD τ).loc main_arg4)

variable (hO : Ok m) (hH : Hyps m hO) (c : Dev nD) (t : Fin grid0.N)

theorem maps : ∀ t : Fin grid0.N, cc0_transform_0 (grid0.coords t) = ![t.val / 28, t.val % 28, 0, 0]
    ∧ cc0_transform_1 (grid0.coords t) = ![t.val / 28, 0, 0, 0] ∧ cc0_transform_2 (grid0.coords t) = ![t.val / 28, 0, 0, 0]
    ∧ cc0_transform_3 (grid0.coords t) = ![t.val / 112, t.val / 28 % 4, t.val % 28, 0, 0] := by decide +kernel

/-- The windows' block indices over the grid's points: batch and head, and row of regions. -/
theorem idx : (pcfg0.win (adm m hO) 0).index t = ![t.val / 28, t.val % 28, 0, 0]
    ∧ (pcfg0.win (adm m hO) 1).index t = ![t.val / 28, 0, 0, 0] ∧ (pcfg0.win (adm m hO) 2).index t = ![t.val / 28, 0, 0, 0]
    ∧ (pcfg0.win (adm m hO) 3).index t = ![t.val / 112, t.val / 28 % 4, t.val % 28, 0, 0] := maps t

/-- A point's batch and head. -/
def head (t : Fin grid0.N) : Fin 8 := ⟨t.val / 28, by have : t.val < 224 := t.isLt; omega⟩

/-- A point's queries. -/
theorem blk0 (j : Fin 28) (d : Fin 24) (x : Fin 64) :
    iblk m hO c 0 t (ix4 0 j d x) = qM m c (ix4 (head t) ⟨t.val % 28 * 28 + j.val, by omega⟩ d x) := by
  unfold head
  blk_ext [iblk, V]
  · exact congrFun (idx m hO t).1 0
  · exact congrArg (· * 28 + j.val) (congrFun (idx m hO t).1 1)
  · exact (congrArg (· * 24 + d.val) (congrFun (idx m hO t).1 2)).trans (by simp)
  · exact (congrArg (· * 64 + x.val) (congrFun (idx m hO t).1 3)).trans (by simp)

/-- A point's keys. -/
theorem blk1 (r : Fin 784) (d : Fin 24) (x : Fin 64) : iblk m hO c 1 t (ix4 0 r d x) = kM m c (ix4 (head t) r d x) := by
  unfold head
  blk_ext [iblk, V]
  · exact congrFun (idx m hO t).2.1 0
  · exact (congrArg (· * 784 + r.val) (congrFun (idx m hO t).2.1 1)).trans (by simp)
  · exact (congrArg (· * 24 + d.val) (congrFun (idx m hO t).2.1 2)).trans (by simp)
  · exact (congrArg (· * 64 + x.val) (congrFun (idx m hO t).2.1 3)).trans (by simp)

/-- A point's values. -/
theorem blk2 (r : Fin 784) (d : Fin 24) (x : Fin 64) : iblk m hO c 2 t (ix4 0 r d x) = vM m c (ix4 (head t) r d x) := by
  unfold head
  blk_ext [iblk, V]
  · exact congrFun (idx m hO t).2.2.1 0
  · exact (congrArg (· * 784 + r.val) (congrFun (idx m hO t).2.2.1 1)).trans (by simp)
  · exact (congrArg (· * 24 + d.val) (congrFun (idx m hO t).2.2.1 2)).trans (by simp)
  · exact (congrArg (· * 64 + x.val) (congrFun (idx m hO t).2.2.1 3)).trans (by simp)

/-- The numbers a point finds for its pairs. -/
theorem nums (p : Fin 14) :
    wa m c (grid0.coords t) p = i0M m c (ix2 ⟨(head t).val / 4, by omega⟩ ⟨t.val % 28 * 28 + 2 * p.val, by omega⟩)
    ∧ wb m c (grid0.coords t) p = i1M m c (ix2 ⟨(head t).val / 4, by omega⟩ ⟨t.val % 28 * 28 + 2 * p.val, by omega⟩)
    ∧ wc m c (grid0.coords t) p = i0M m c (ix2 ⟨(head t).val / 4, by omega⟩ ⟨t.val % 28 * 28 + (2 * p.val + 1), by omega⟩)
    ∧ wd m c (grid0.coords t) p = i1M m c (ix2 ⟨(head t).val / 4, by omega⟩ ⟨t.val % 28 * 28 + (2 * p.val + 1), by omega⟩) := by
  obtain rfl : c = 0 := Subsingleton.elim _ _
  have e : t.val / 112 = t.val / 28 / 4 := by omega
  have hA : ∀ h, offA (grid0.coords t) p = ![(⟨(head t).val / 4, h⟩ : Fin 2).val, t.val % 28 * 28 + 2 * p.val] :=
    fun _ => (offs t p).1.trans (by rw [e]; rfl)
  have hB : ∀ h, offB (grid0.coords t) p = ![(⟨(head t).val / 4, h⟩ : Fin 2).val, t.val % 28 * 28 + (2 * p.val + 1)] :=
    fun _ => (offs t p).2.trans (by rw [e]; rfl)
  exact ⟨num0 0 _ _ _ _ _ (hA _), num1 0 _ _ _ _ _ (hA _), num0 0 _ _ _ _ _ (hB _), num1 0 _ _ _ _ _ (hB _)⟩

/-- The output's block after a point, from the point's blocks. -/
theorem outs (ha : ∀ p, There (wa m c (grid0.coords t) p)) (hb : ∀ p, There (wb m c (grid0.coords t) p))
    (hc : ∀ p, There (wc m c (grid0.coords t) p)) (hd : ∀ p, There (wd m c (grid0.coords t) p)) :
    outsAt0 m hO hH c t = point (iblk m hO c 0 t) (iblk m hO c 1 t) (iblk m hO c 2 t)
      (wa m c (grid0.coords t)) (wb m c (grid0.coords t)) (wc m c (grid0.coords t)) (wd m c (grid0.coords t)) ha hb hc hd := by
  have e0 : View.read (Elt Ideal) (ms0_0 m hO t).view ((hs0_0 m hO t).unread (iblk m hO c 0 t)) = iblk m hO c 0 t :=
    Memref.IsWhole.read_unread _ _
  have e1 : View.read (Elt Ideal) (ms0_1 m hO t).view ((hs0_1 m hO t).unread (iblk m hO c 1 t)) = iblk m hO c 1 t :=
    Memref.IsWhole.read_unread _ _
  have e2 : View.read (Elt Ideal) (ms0_2 m hO t).view ((hs0_2 m hO t).unread (iblk m hO c 2 t)) = iblk m hO c 2 t :=
    Memref.IsWhole.read_unread _ _
  have e := outs_raw m hO hH c t ha hb hc hd
  rw [e0, e1, e2] at e
  exact e

/-- A region's scores at a point are its scores in the arrays. -/
theorem scoreOf_eq (j : Fin 28) (w0 w1 : BitVec 32) (x : Fin 64) (r : Fin 784) (hr : r.val = t.val % 28 * 28 + j.val)
    (h0 : w0 = i0M m c (ix2 ⟨(head t).val / 4, by omega⟩ r)) (h1 : w1 = i1M m c (ix2 ⟨(head t).val / 4, by omega⟩ r)) :
    scoreOf (iblk m hO c 0 t) (iblk m hO c 1 t) j w0 w1 x
      = AttnSpec.score (qM m c) (kM m c) (i0M m c) (i1M m c) (head t) r x := by
  funext n
  subst h0 h1
  unfold scoreOf AttnSpec.score
  refine Finset.sum_congr rfl fun d _ => ?_
  rw [blk0, blk1, ← (Fin.ext hr : r = ⟨t.val % 28 * 28 + j.val, by omega⟩)]
  rfl

/-- A region's values at a point are its values in the arrays. -/
theorem valueOf_eq (w0 w1 : BitVec 32) (d : Fin 24) (r : Fin 784)
    (h0 : w0 = i0M m c (ix2 ⟨(head t).val / 4, by omega⟩ r)) (h1 : w1 = i1M m c (ix2 ⟨(head t).val / 4, by omega⟩ r)) :
    valueOf (iblk m hO c 2 t) w0 w1 d = AttnSpec.value (vM m c) (i0M m c) (i1M m c) (head t) r d := by
  funext n
  subst h0 h1
  unfold valueOf AttnSpec.value
  rw [blk2]
  rfl

/-- The result at an index given by its region and query. -/
theorem out_at (q k v : Vec Ideal AttnSpec.Tab .f32) (i0 i1 : IVec AttnSpec.Sel 32) (y : AttnSpec.Out.Idx) (h : Fin 8) (r : Fin 784)
    (x : Fin 64) (d : Fin 24) (hh : h.val = (y 0).val * 4 + (y 1).val) (hr : r.val = (y 2).val / 8 * 28 + (y 3).val / 8)
    (hx : x.val = (y 2).val % 8 * 8 + (y 3).val % 8) (hd : d.val = (y 4).val) :
    attend (AttnSpec.score q k i0 i1 h r x) (AttnSpec.value v i0 i1 h r d) = AttnSpec.out q k v i0 i1 y := by
  unfold AttnSpec.out
  dsimp only
  have b0 : (y 0).val < 2 := (y 0).isLt
  have b1 : (y 1).val < 4 := (y 1).isLt
  have b2 : (y 2).val < 224 := (y 2).isLt
  have b3 : (y 3).val < 224 := (y 3).isLt
  have eh : h = ⟨(y 0).val * 4 + (y 1).val, by omega⟩ := Fin.ext hh
  have er : r = ⟨(y 2).val / 8 * 28 + (y 3).val / 8, by omega⟩ := Fin.ext hr
  have ex : x = ⟨(y 2).val % 8 * 8 + (y 3).val % 8, by omega⟩ := Fin.ext hx
  have ed : d = y 4 := Fin.ext hd
  rw [eh, er, ex, ed]

/-- The output's blocks tile the array. -/
theorem covers : ((cfgM m hO).win 3).Covers := by
  refine Pipeline.Window.covers_of_index_surj _ rfl (fun a => ?_) fun β => ?_
  · match a with
    | ⟨0, _⟩ => exact (by decide : 0 < 1)
    | ⟨1, _⟩ => exact (by decide : 0 < 1)
    | ⟨2, _⟩ => exact (by decide : 0 < 8)
    | ⟨3, _⟩ => exact (by decide : 0 < 224)
    | ⟨4, _⟩ => exact (by decide : 0 < 24)
  have b0 : (β (0 : Fin 5)).val < 2 := lt_of_lt_of_eq (β (0 : Fin 5)).isLt (by show (2 + 1 - 1) / 1 = 2; rfl)
  have b1 : (β (1 : Fin 5)).val < 4 := lt_of_lt_of_eq (β (1 : Fin 5)).isLt (by show (4 + 1 - 1) / 1 = 4; rfl)
  have b2 : (β (2 : Fin 5)).val < 28 := lt_of_lt_of_eq (β (2 : Fin 5)).isLt (by show (224 + 8 - 1) / 8 = 28; rfl)
  have b3 : (β (3 : Fin 5)).val < 1 := lt_of_lt_of_eq (β (3 : Fin 5)).isLt (by show (224 + 224 - 1) / 224 = 1; rfl)
  have b4 : (β (4 : Fin 5)).val < 1 := lt_of_lt_of_eq (β (4 : Fin 5)).isLt (by show (24 + 24 - 1) / 24 = 1; rfl)
  refine ⟨⟨(β (0 : Fin 5)).val * 112 + (β (1 : Fin 5)).val * 28 + (β (2 : Fin 5)).val, by show _ < 224; omega⟩, fun a => ?_⟩
  refine (congrFun (idx m hO _).2.2.2 a).trans ?_
  match a with
  | ⟨0, _⟩ => show ((β (0 : Fin 5)).val * 112 + (β (1 : Fin 5)).val * 28 + (β (2 : Fin 5)).val) / 112 = (β (0 : Fin 5)).val; omega
  | ⟨1, _⟩ => show ((β (0 : Fin 5)).val * 112 + (β (1 : Fin 5)).val * 28 + (β (2 : Fin 5)).val) / 28 % 4 = (β (1 : Fin 5)).val; omega
  | ⟨2, _⟩ => show ((β (0 : Fin 5)).val * 112 + (β (1 : Fin 5)).val * 28 + (β (2 : Fin 5)).val) % 28 = (β (2 : Fin 5)).val; omega
  | ⟨3, _⟩ => show 0 = (β (3 : Fin 5)).val; omega
  | ⟨4, _⟩ => show 0 = (β (4 : Fin 5)).val; omega

/-- What a point writes is its part of the result. -/
theorem point_out (ha : ∀ p, There (wa m c (grid0.coords t) p)) (hb : ∀ p, There (wb m c (grid0.coords t) p))
    (hc : ∀ p, There (wc m c (grid0.coords t) p)) (hd : ∀ p, There (wd m c (grid0.coords t) p)) (y : S1x1x8x224x24.Idx)
    (z : AttnSpec.Out.Idx) (z0 : (z 0).val = t.val / 112) (z1 : (z 1).val = t.val / 28 % 4)
    (z2 : (z 2).val = t.val % 28 * 8 + (y 2).val) (z3 : (z 3).val = (y 3).val) (z4 : (z 4).val = (y 4).val) :
    point (iblk m hO c 0 t) (iblk m hO c 1 t) (iblk m hO c 2 t) (wa m c (grid0.coords t)) (wb m c (grid0.coords t))
      (wc m c (grid0.coords t)) (wd m c (grid0.coords t)) ha hb hc hd y
      = AttnSpec.out (qM m c) (kM m c) (vM m c) (i0M m c) (i1M m c) z := by
  idx_vars y
  have h2 := y2.isLt
  have h3 := y3.isLt
  obtain rfl : y0 = 0 := Subsingleton.elim _ _
  obtain rfl : y1 = 0 := Subsingleton.elim _ _
  change (z 2).val = t.val % 28 * 8 + y2.val at z2
  change (z 3).val = y3.val at z3
  change (z 4).val = y4.val at z4
  have ht : t.val < 224 := t.isLt
  have hn := nums m c t ⟨y3.val / 16, by omega⟩
  by_cases he : y3.val / 8 % 2 = 0
  · have e : y3 = ⟨8 * (2 * (⟨y3.val / 16, by omega⟩ : Fin 14).val) + (⟨y3.val % 8, by omega⟩ : Fin 8).val, by dsimp only; omega⟩ :=
      Fin.ext (by dsimp only; omega)
    rw [e]
    refine (point_even _ _ _ _ _ _ _ ha hb hc hd _ _ _ _).trans ?_
    rw [scoreOf_eq m hO c t _ _ _ _ _ rfl hn.1 hn.2.1, valueOf_eq m hO c t _ _ _ _ hn.1 hn.2.1]
    refine out_at _ _ _ _ _ z _ _ _ _ ?_ ?_ ?_ ?_ <;> simp only [head, z0, z1, z2, z3, z4] <;> omega
  · have e : y3 = ⟨8 * (2 * (⟨y3.val / 16, by omega⟩ : Fin 14).val + 1) + (⟨y3.val % 8, by omega⟩ : Fin 8).val, by dsimp only; omega⟩ :=
      Fin.ext (by dsimp only; omega)
    rw [e]
    refine (point_odd _ _ _ _ _ _ _ ha hb hc hd _ _ _ _).trans ?_
    rw [scoreOf_eq m hO c t _ _ _ _ _ rfl hn.2.2.1 hn.2.2.2, valueOf_eq m hO c t _ _ _ _ hn.2.2.1 hn.2.2.2]
    refine out_at _ _ _ _ _ z _ _ _ _ ?_ ?_ ?_ ?_ <;> simp only [head, z0, z1, z2, z3, z4] <;> omega

/-- The result array after the run. -/
theorem arr3 (h0 : ∀ (c : Dev nD) (y : S2x784.Idx), (m ((c : Thread nD τ).loc main_arg3) y).toNat < 784)
    (h1 : ∀ (c : Dev nD) (y : S2x784.Idx), (m ((c : Thread nD τ).loc main_arg4) y).toNat < 784) :
    (dats m hO hH 0 c).arrAt 3 (cfgM m hO).N = AttnSpec.out (qM m c) (kM m c) (vM m c) (i0M m c) (i1M m c) := by
  refine (dats m hO hH 0 c).arrAt_eq_of_covers 3 _ (covers m hO) fun t hf y => ?_
  have ha : ∀ p, There (wa m c (grid0.coords t) p) := fun p => there _ (word0 m h0 _ _)
  have hb : ∀ p, There (wb m c (grid0.coords t) p) := fun p => there _ (word1 m h1 _ _)
  have hc : ∀ p, There (wc m c (grid0.coords t) p) := fun p => there _ (word0 m h0 _ _)
  have hd : ∀ p, There (wd m c (grid0.coords t) p) := fun p => there _ (word1 m h1 _ _)
  blk_simp
  rw [after0_3, outs m hO hH c t ha hb hc hd]
  refine point_out m hO c t ha hb hc hd y _ ?_ ?_ ?_ ?_ ?_
  all_goals blk_simp
  · exact congrFun (idx m hO t).2.2.2 0
  · exact congrFun (idx m hO t).2.2.2 1
  · exact congrArg (· * 8 + (y (2 : Fin 5)).val) (congrFun (idx m hO t).2.2.2 2)
  · exact (congrArg (· * 224 + (y (3 : Fin 5)).val) (congrFun (idx m hO t).2.2.2 3)).trans (by simp)
  · exact (congrArg (· * 24 + (y (4 : Fin 5)).val) (congrFun (idx m hO t).2.2.2 4)).trans (by simp)

end Cert.KernelIdeal.Hand
end
-- ==== Proof.AttnGather.lean ====
/-
  The attention's reference, its two gathers read index by index: the rows of the selected regions, and the values at
  the positions a top-k gives.
-/
module

public import proofs.«01_k».proof.Proof.Gen.ReferenceIdeal.Run
public import proofs.«01_k».proof.Proof.AttnSpec

@[expose] public section

set_option maxRecDepth 16384

noncomputable section

namespace Cert.ReferenceIdeal.Hand

open Cert.ReferenceIdeal Cert.ReferenceIdeal.Gen Cert.AttnSpec Idealize.ShloMosaic Idealize.ShloMosaic.TcCoe Idealize.SL.Sem

/-- The gather of regions, at an index: a row of the region that the start index names. -/
theorem regions_apply (x : FVec Ideal S2x4x784x64x24 .f32) (g : IVec S2x4x784x2x1 32) (b : Fin 2) (a : Fin 4) (r : Fin 784)
    (p : Fin 2) (t : Fin 64) (d : Fin 24) (hg : (g (ix5 b a r p 0)).toInt.toNat < 784) :
    Host.gather gather_S2x4x784x64x24_S2x4x784x2x1_S2x4x784x2x64x24_45_2_01_01_2_4_1116424 x g (ix6 b a r p t d)
      = x (ix5 b a ⟨(g (ix5 b a r p 0)).toInt.toNat, hg⟩ t d) := by
  unfold Host.gather
  refine congrArg x (funext fun e => Fin.ext ?_)
  have hs : GatherDims.siIdx gather_S2x4x784x64x24_S2x4x784x2x1_S2x4x784x2x64x24_45_2_01_01_2_4_1116424 (ix6 b a r p t d) ⟨0, by decide⟩
      = ix5 b a r p 0 := by
    funext e
    match e with
    | ⟨0, _⟩ => rfl
    | ⟨1, _⟩ => rfl
    | ⟨2, _⟩ => rfl
    | ⟨3, _⟩ => rfl
    | ⟨4, _⟩ => rfl
  match e with
  | ⟨0, _⟩ => exact (Nat.zero_add _).trans rfl
  | ⟨1, _⟩ => exact (Nat.zero_add _).trans rfl
  | ⟨2, _⟩ =>
    show min (g (GatherDims.siIdx gather_S2x4x784x64x24_S2x4x784x2x1_S2x4x784x2x64x24_45_2_01_01_2_4_1116424 (ix6 b a r p t d) ⟨0, by decide⟩)).toInt.toNat 783 + 0 + 0 = _
    rw [hs]
    exact Nat.min_eq_left (by omega)
  | ⟨3, _⟩ => exact (Nat.zero_add _).trans rfl
  | ⟨4, _⟩ => exact (Nat.zero_add _).trans rfl

/-- The gather of values, at an index: the value at the position that the start index gives. -/
theorem values_apply (x : FVec Ideal S2x4x784x128x24 .f32) (g : IVec S2x4x784x64x16x1 32) (b : Fin 2) (a : Fin 4) (r : Fin 784)
    (t : Fin 64) (i : Fin 16) (d : Fin 24) (hg : (g (ix6 b a r t i 0)).toInt.toNat < 128) :
    Host.gather gather_S2x4x784x128x24_S2x4x784x64x16x1_S2x4x784x64x16x24_5_3_012_012_3_5_111124 x g (ix6 b a r t i d)
      = x (ix5 b a r ⟨(g (ix6 b a r t i 0)).toInt.toNat, hg⟩ d) := by
  unfold Host.gather
  refine congrArg x (funext fun e => Fin.ext ?_)
  have hs : GatherDims.siIdx gather_S2x4x784x128x24_S2x4x784x64x16x1_S2x4x784x64x16x24_5_3_012_012_3_5_111124 (ix6 b a r t i d) ⟨0, by decide⟩
      = ix6 b a r t i 0 := by
    funext e
    match e with
    | ⟨0, _⟩ => rfl
    | ⟨1, _⟩ => rfl
    | ⟨2, _⟩ => rfl
    | ⟨3, _⟩ => rfl
    | ⟨4, _⟩ => rfl
    | ⟨5, _⟩ => rfl
  match e with
  | ⟨0, _⟩ => exact (Nat.zero_add _).trans rfl
  | ⟨1, _⟩ => exact (Nat.zero_add _).trans rfl
  | ⟨2, _⟩ => exact (Nat.zero_add _).trans rfl
  | ⟨3, _⟩ =>
    show min (g (GatherDims.siIdx gather_S2x4x784x128x24_S2x4x784x64x16x1_S2x4x784x64x16x24_5_3_012_012_3_5_111124 (ix6 b a r t i d) ⟨0, by decide⟩)).toInt.toNat 127 + 0 + 0 = _
    rw [hs]
    exact Nat.min_eq_left (by omega)
  | ⟨4, _⟩ => exact (Nat.zero_add _).trans rfl

end Cert.ReferenceIdeal.Hand
end
-- ==== Proof.AttnSort.lean ====
/-
  A stable sort of 128 scores, greatest first, and the first of them by it: what a top-k along the last axis reads.
-/
module

public import Idealize.ShloMosaic.Lib.Pointwise
public import Idealize.ShloMosaic.Lib.SortFacts

@[expose] public section

noncomputable section

namespace Cert.AttnSort

open Idealize.ShloMosaic

section Order
variable {n : Nat} (f : Fin n → Ideal .f32)

/-- Whether the first of two positions' scores is the greater. -/
def before (k k' : Fin n) : Bool := FloatOps.cmpfTotal .gt (f k) (f k') == 1#1

theorem before_iff (k k' : Fin n) : before f k k' = true ↔ (f k' : EReal) < f k := by
  unfold before
  rw [beq_iff_eq]
  exact Ideal.cmp_ogt_eq_one (f k : EReal) (f k')

/-- The position of the score that comes `i`th, greatest first. -/
def rank : Fin n ≃ Fin n :=
  Equiv.ofBijective (sortedFrom (before f)) ⟨sortedFrom_injective _, sortedFrom_surjective _⟩

theorem rank_eq (i : Fin n) : rank f i = sortedFrom (before f) i := rfl

/-- Scores do not increase along the order. -/
theorem rank_mono (i j : Fin n) (h : i < j) : (f (rank f j) : EReal) ≤ f (rank f i) := by
  have e := sortedFrom_noInversion (before f) (before f) (fun a b hab => by
      rw [← Bool.not_eq_true, before_iff]
      exact not_lt.mpr (le_of_lt ((before_iff f a b).1 hab))) (fun _ _ h => h) (fun a b c hab hbc => by
      rw [← Bool.not_eq_true, before_iff, not_lt] at hab hbc ⊢
      exact le_trans hab hbc) i j h
  rw [← Bool.not_eq_true, before_iff, not_lt] at e
  rw [rank_eq, rank_eq]
  exact e

end Order

/-- The arrays of scores: by batch, head, region, query and key. -/
abbrev Full : Shape := ⟨5, ![2, 4, 784, 64, 128]⟩
/-- The arrays of the first `K` of them. -/
abbrev First (K : Nat) : Shape := ⟨5, ![2, 4, 784, 64, K]⟩

variable (s : Full.Idx → Ideal .f32) {K : Nat} (hK : K ≤ 128) (h : Full.Slices (fun _ => 0) (First K))
  (b : Fin 2) (a : Fin 4) (r : Fin 784) (x : Fin 64) (i : Fin K)

/-- A query's scores. -/
def row : Fin 128 → Ideal .f32 := fun n => s (ix5 b a r x n)

theorem along_eq (n m : Fin 128) : (Function.update (β := fun e : Fin 5 => Fin (Full.size e)) (ix5 b a r x n) 4 m) = ix5 b a r x m := by
  funext e
  match e with
  | ⟨0, _⟩ => exact Function.update_of_ne (fun h => absurd (congrArg Fin.val h) (by simp)) _ _
  | ⟨1, _⟩ => exact Function.update_of_ne (fun h => absurd (congrArg Fin.val h) (by simp)) _ _
  | ⟨2, _⟩ => exact Function.update_of_ne (fun h => absurd (congrArg Fin.val h) (by simp)) _ _
  | ⟨3, _⟩ => exact Function.update_of_ne (fun h => absurd (congrArg Fin.val h) (by simp)) _ _
  | ⟨4, _⟩ => exact Function.update_self _ _ _

theorem cut_eq (hK : K ≤ 128) (h : Full.Slices (fun _ => 0) (First K)) : (fun e => ⟨0 + (ix5 b a r x i (e.cast h.1.symm)).val,
      Nat.lt_of_lt_of_le (Nat.add_lt_add_left (ix5 b a r x i _).isLt _) (h.2 e)⟩ : Full.Idx) = ix5 b a r x (i.castLE hK) := by
  funext e
  match e with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)
  | ⟨4, _⟩ => exact Fin.ext (Nat.zero_add _)

/-- What the sort carries to a place is read at the position the order gives that place. -/
theorem carried {β : Type} (y : Full.Idx → β) (p : Fin 128) (p' : Fin 128) (hp : p' = p) :
    y (Function.update (β := fun e : Fin 5 => Fin (Full.size e)) (ix5 b a r x p) 4 (sortedFrom
      (fun k k' : Fin 128 => FloatOps.cmpfTotal (F := Ideal) .gt
          (s (Function.update (β := fun e : Fin 5 => Fin (Full.size e)) (ix5 b a r x p) 4 k))
          (s (Function.update (β := fun e : Fin 5 => Fin (Full.size e)) (ix5 b a r x p) 4 k')) == 1#1) p'))
      = y (ix5 b a r x (rank (row s b a r x) p)) := by
  subst hp
  rw [rank_eq]
  refine congrArg y ((along_eq b a r x _ _).trans (congrArg (ix5 b a r x) (congrArg (sortedFrom · _) ?_)))
  exact funext fun k => funext fun k' => congrArg₂ (fun u w : Ideal .f32 => FloatOps.cmpfTotal (F := Ideal) .gt u w == 1#1)
    (congrArg s (along_eq b a r x _ _)) (congrArg s (along_eq b a r x _ _))

/-- A top-k's scores. -/
theorem topK_scores : (Host.topK (First K) 4 (FloatOps.cmpfTotal .gt) s h).1 (ix5 b a r x i)
    = s (ix5 b a r x (rank (row s b a r x) (i.castLE hK))) := by
  unfold Host.topK Host.sort2
  simp only [dif_pos (show 4 < Full.rank by decide)]
  unfold extractStridedSlice
  dsimp only
  rw [cut_eq b a r x i hK h]
  exact carried s b a r x s _ _ (Fin.ext (Nat.zero_add _))

/-- A top-k's positions. -/
theorem topK_places : (Host.topK (First K) 4 (FloatOps.cmpfTotal .gt) s h).2 (ix5 b a r x i)
    = BitVec.ofNat 32 (rank (row s b a r x) (i.castLE hK)).val := by
  unfold Host.topK Host.sort2
  simp only [dif_pos (show 4 < Full.rank by decide)]
  unfold extractStridedSlice
  dsimp only
  rw [cut_eq b a r x i hK h]
  exact carried s b a r x (fun e => iotaInDim Full 32 ⟨4, by decide⟩ e) _ _ (Fin.ext (Nat.zero_add _))

end Cert.AttnSort
end
-- ==== Proof.AttnRef.lean ====
/-
  The attention's reference read index by index: a query's scores, their sixteen greatest, those scores' softmax, and the
  values it weighs.
-/
module

public import proofs.«01_k».proof.Proof.AttnGather
public import proofs.«01_k».proof.Proof.AttnSort
public import Idealize.ShloMosaic.Lib.KernelVsHost
public import Idealize.ShloMosaic.Lib.WordCmp

@[expose] public section

set_option maxRecDepth 16384

noncomputable section

namespace Cert.ReferenceIdeal.Hand

open Cert.ReferenceIdeal Cert.ReferenceIdeal.Gen Cert.AttnSpec Cert.AttnSort Cert.AttnMath Idealize.ShloMosaic Idealize.ShloMosaic.TcCoe Idealize.SL.Sem

section Words
variable (w : BitVec 32)

/-- A number below `2³¹` read signed. -/
theorem toInt_of_lt {n : Nat} (hn : n ≤ 1024) (hw : w.toNat < n) : w.toInt = (w.toNat : ℤ) := by
  rw [BitVec.toInt_eq_toNat_of_lt (by omega)]

/-- A number that isn't negative is left as it is. -/
theorem wrap_eq {n : Nat} (hn : n ≤ 1024) (hw : w.toNat < n) (z : BitVec 32) :
    (if IntOp.cmpi .slt w 0#32 = 1#1 then z else w) = w := by
  rw [if_neg]
  intro h
  have := IntOp.cmpi_slt.1 h
  rw [toInt_of_lt w hn hw] at this
  exact absurd this (by simp)
end Words

section Values
variable (q k v : FVec Ideal S8x784x24x64 .f32) (i0 i1 : IVec S2x784 32)

/-- A table by batch and head, place-major. -/
def rows : FVec Ideal S2x4x784x64x24 .f32 := shapeCast _ (transpose S8x784x64x24 [0, 1, 3, 2] q
  transposes_S8x784x24x64_S8x784x64x24_0_1_3_2) shapeCasts_S8x784x64x24_S2x4x784x64x24

theorem rows_apply (b : Fin 2) (a : Fin 4) (r : Fin 784) (t : Fin 64) (d : Fin 24) :
    rows q (ix5 b a r t d) = q (ix4 ⟨b.val * 4 + a.val, by omega⟩ r d t) := by
  unfold rows
  pointwise

/-- The selected regions' numbers. -/
def numbers : IVec S2x4x784x2x1x1 32 := broadcastInDim S2x4x784x2x1x1 ![0, 1, 2, 3] bcast_S2x4x784x2_S2x4x784x2x1x1_0_1_2_3
  (broadcastInDim S2x4x784x2 ![0, 1, 2, 3] bcast_S2x1x784x2_S2x4x784x2_0_1_2_3 (broadcastInDim S2x1x784x2 ![0, 2, 3]
    bcast_S2x784x2_S2x1x784x2_0_2_3 (concatenate S2x784x2 2 [⟨S2x784x1, (broadcastInDim S2x784x1 ![0, 1] bcast_S2x784_S2x784x1_0_1 i0)⟩,
      ⟨S2x784x1, (broadcastInDim S2x784x1 ![0, 1] bcast_S2x784_S2x784x1_0_1 i1)⟩] concatenates_S2x784x1_S2x784x1_S2x784x2_d2)))

theorem numbers_apply (b : Fin 2) (a : Fin 4) (r : Fin 784) (p : Fin 2) (y z : Fin 1) :
    numbers i0 i1 (ix6 b a r p y z) = if p.val < 1 then i0 (ix2 b r) else i1 (ix2 b r) := by
  unfold numbers
  pointwise
  by_cases h : p.val < 1
  · rw [dif_pos h, if_pos h]
  · rw [dif_neg h, if_neg h]

/-- The numbers, one added up when negative. -/
def starts : IVec S2x4x784x2x1 32 := shapeCast _ (select (cmpi .slt (numbers i0 i1) (broadcastInDim S2x4x784x2x1x1 ![] bcast_S_S2x4x784x2x1x1
  (constantI S_ 32 0#32))) (addi (numbers i0 i1) (broadcastInDim S2x4x784x2x1x1 ![] bcast_S_S2x4x784x2x1x1 (constantI S_ 32 784#32)))
    (numbers i0 i1)) shapeCasts_S2x4x784x2x1x1_S2x4x784x2x1

variable (h0 : ∀ y, (i0 y).toNat < 784) (h1 : ∀ y, (i1 y).toNat < 784)
include h0 h1

theorem starts_apply (b : Fin 2) (a : Fin 4) (r : Fin 784) (p : Fin 2) (y : Fin 1) :
    starts i0 i1 (ix5 b a r p y) = if p.val < 1 then i0 (ix2 b r) else i1 (ix2 b r) := by
  unfold starts
  pointwise
  rw [numbers_apply]
  refine wrap_eq _ (n := 784) (by omega) ?_ _
  by_cases h : p.val < 1
  · rw [if_pos h]; exact h0 _
  · rw [if_neg h]; exact h1 _

/-- The start index of a key is its region. -/
theorem starts_sel (b : Fin 2) (a : Fin 4) (r : Fin 784) (n : Fin 128) :
    (starts i0 i1 (ix5 b a r ⟨n.val / 64, by omega⟩ 0)).toInt.toNat = (sel i0 i1 ⟨b.val * 4 + a.val, by omega⟩ r n).val := by
  have hb : (⟨(b.val * 4 + a.val) / 4, by omega⟩ : Fin 2) = b := Fin.ext (by show (b.val * 4 + a.val) / 4 = b.val; omega)
  rw [starts_apply i0 i1 h0 h1]
  unfold sel reg pick
  rw [hb]
  by_cases h : n.val < 64
  · rw [if_pos h, if_pos (show n.val / 64 < 1 by omega), toInt_of_lt _ (by omega) (h0 _), Int.toNat_natCast]
    exact (Nat.mod_eq_of_lt (h0 _)).symm
  · rw [if_neg h, if_neg (show ¬n.val / 64 < 1 by omega), toInt_of_lt _ (by omega) (h1 _), Int.toNat_natCast]
    exact (Nat.mod_eq_of_lt (h1 _)).symm

omit h0 h1 in
/-- The rows of the regions that start indices name. -/
theorem picked_apply (x : FVec Ideal S2x4x784x64x24 .f32) (g : IVec S2x4x784x2x1 32) (b : Fin 2) (a : Fin 4) (r : Fin 784) (n : Fin 128)
    (d : Fin 24) (z : Fin 784) (hg : (g (ix5 b a r ⟨n.val / 64, by omega⟩ 0)).toInt.toNat = z.val) :
    shapeCast S2x4x784x128x24 (Host.gather gather_S2x4x784x64x24_S2x4x784x2x1_S2x4x784x2x64x24_45_2_01_01_2_4_1116424
      (shapeCast S2x4x784x64x24 (broadcastInDim S2x4x1x784x64x24 ![0, 1, 3, 4, 5] bcast_S2x4x784x64x24_S2x4x1x784x64x24_0_1_3_4_5 x)
        shapeCasts_S2x4x1x784x64x24_S2x4x784x64x24) g) shapeCasts_S2x4x784x2x64x24_S2x4x784x128x24 (ix5 b a r n d)
      = x (ix5 b a z (place n) d) := by
  pointwise
  rw [regions_apply _ _ b a r ⟨n.val / 64, by omega⟩ ⟨n.val % 64, by omega⟩ d (by rw [hg]; exact z.isLt)]
  have e : (⟨(g (ix5 b a r ⟨n.val / 64, by omega⟩ 0)).toInt.toNat, by rw [hg]; exact z.isLt⟩ : Fin 784) = z := Fin.ext hg
  rw [e]
  pointwise
  rfl

omit h0 h1 in
/-- The rows of a table's selected regions. -/
def both : FVec Ideal S2x4x784x128x24 .f32 := shapeCast _ (Host.gather
  gather_S2x4x784x64x24_S2x4x784x2x1_S2x4x784x2x64x24_45_2_01_01_2_4_1116424 (shapeCast _ (broadcastInDim S2x4x1x784x64x24 ![0, 1, 3, 4, 5]
    bcast_S2x4x784x64x24_S2x4x1x784x64x24_0_1_3_4_5 (rows k)) shapeCasts_S2x4x1x784x64x24_S2x4x784x64x24) (starts i0 i1))
  shapeCasts_S2x4x784x2x64x24_S2x4x784x128x24

theorem both_apply (b : Fin 2) (a : Fin 4) (r : Fin 784) (n : Fin 128) (d : Fin 24) :
    both k i0 i1 (ix5 b a r n d) = k (ix4 ⟨b.val * 4 + a.val, by omega⟩ (sel i0 i1 ⟨b.val * 4 + a.val, by omega⟩ r n) d (place n)) := by
  unfold both
  rw [picked_apply _ _ b a r n d _ (starts_sel i0 i1 h0 h1 b a r n), rows_apply]

omit h0 h1 in
/-- A query's scores. -/
def scores : FVec Ideal S2x4x784x64x128 .f32 := Host.dotGeneral dot_S2x4x784x64x24_S2x4x784x128x24_S2x4x784x64x128_4_4_3_3_012_012 none
  (mulf (rows q) (broadcastInDim S2x4x784x64x24 ![] bcast_S_S2x4x784x64x24 (constant S_ .f32 0x3DD105EC#32))) (both k i0 i1)

theorem scores_row (b : Fin 2) (a : Fin 4) (r : Fin 784) (t : Fin 64) :
    row (scores q k i0 i1) b a r t = score q k i0 i1 ⟨b.val * 4 + a.val, by omega⟩ r t := by
  funext n
  unfold row scores score
  pointwise
  refine Finset.sum_congr rfl fun d _ => ?_
  rw [rows_apply, both_apply k i0 i1 h0 h1, mul_comm]

end Values

end Cert.ReferenceIdeal.Hand
end
-- ==== Proof.AttnSoft.lean ====
/-
  The attention's reference, its softmax and its result's layout read index by index.
-/
module

public import proofs.«01_k».proof.Proof.AttnGather
public import proofs.«01_k».proof.Proof.AttnSpec
public import Idealize.ShloMosaic.Lib.KernelVsHost

@[expose] public section

set_option maxRecDepth 16384

noncomputable section

namespace Cert.ReferenceIdeal.Hand

open Cert.ReferenceIdeal Cert.ReferenceIdeal.Gen Cert.AttnSpec Cert.AttnMath Idealize.ShloMosaic Idealize.ShloMosaic.TcCoe Idealize.SL.Sem

section Softmax
variable (g : FVec Ideal S2x4x784x64x16 .f32) (u : FVec Ideal S2x4x784x64x16x24 .f32)

/-- The greatest of a query's sixteen scores. -/
def greatest : FVec Ideal S2x4x784x64x16 .f32 := broadcastInDim S2x4x784x64x16 ![0, 1, 2, 3, 4] bcast_S2x4x784x64x1_S2x4x784x64x16_0_1_2_3_4
  (broadcastInDim S2x4x784x64x1 ![0, 1, 2, 3] bcast_S2x4x784x64_S2x4x784x64x1_0_1_2_3 (maximumf (broadcastInDim S2x4x784x64 ![]
    bcast_S_S2x4x784x64 (constant S_ .f32 0xFF800000#32)) (Host.reduce FloatOps.maximumf g (constant S_ .f32 0xFF800000#32)
      reducesTo_S2x4x784x64x16_S2x4x784x64_d4 h_S_)))

/-- A maximum over a query's sixteen scores. -/
theorem max_apply (c : FVec Ideal S_ .f32) (b : Fin 2) (a : Fin 4) (r : Fin 784) (t : Fin 64) :
    Host.reduce FloatOps.maximumf g c reducesTo_S2x4x784x64x16_S2x4x784x64_d4 h_S_ (ix4 b a r t)
      = Finset.univ.fold (max : EReal → EReal → EReal) (c (Shape.Idx.first h_S_)) fun i : Fin 16 => g (ix5 b a r t i) := by
  rw [Host.reduce_eq_fold_single FloatOps.maximumf g c _ (a := 4) ⟨by decide, by decide, by decide⟩]
  refine congrArg (fun f => Finset.fold (max : EReal → EReal → EReal) _ f Finset.univ) (funext fun i => congrArg g (funext fun e => Fin.ext ?_))
  match e with
  | ⟨0, _⟩ => rfl
  | ⟨1, _⟩ => rfl
  | ⟨2, _⟩ => rfl
  | ⟨3, _⟩ => rfl
  | ⟨4, _⟩ => rfl

theorem bottom (y : S_.Idx) : (constant S_ .f32 0xFF800000#32 : FVec Ideal S_ .f32) y = (⊥ : EReal) := by
  pointwise
  simp [Ideal.ofBits, Ideal.ieee]

/-- A number per query, repeated for its sixteen scores. -/
theorem spread_apply (c : FVec Ideal S_ .f32) (hc : ∀ y, c y = (⊥ : EReal)) (m : FVec Ideal S2x4x784x64 .f32)
    (b : Fin 2) (a : Fin 4) (r : Fin 784) (t : Fin 64) (i : Fin 16) :
    broadcastInDim S2x4x784x64x16 ![0, 1, 2, 3, 4] bcast_S2x4x784x64x1_S2x4x784x64x16_0_1_2_3_4
      (broadcastInDim S2x4x784x64x1 ![0, 1, 2, 3] bcast_S2x4x784x64_S2x4x784x64x1_0_1_2_3 (maximumf (broadcastInDim S2x4x784x64 ![]
        bcast_S_S2x4x784x64 c) m)) (ix5 b a r t i) = m (ix4 b a r t) := by
  pointwise
  rw [hc]
  exact max_eq_right bot_le

theorem greatest_apply (b : Fin 2) (a : Fin 4) (r : Fin 784) (t : Fin 64) (i : Fin 16) :
    greatest g (ix5 b a r t i) = top16 fun j => g (ix5 b a r t j) := by
  unfold greatest top16
  rw [spread_apply _ bottom, max_apply, bottom]

/-- The scores' exponentials. -/
def powers : FVec Ideal S2x4x784x64x16 .f32 := Host.exp (subf g (greatest g))

theorem powers_apply (b : Fin 2) (a : Fin 4) (r : Fin 784) (t : Fin 64) (i : Fin 16) :
    powers g (ix5 b a r t i) = Ideal.exp (g (ix5 b a r t i) - top16 fun j => g (ix5 b a r t j)) := by
  unfold powers
  pointwise
  rw [greatest_apply]

/-- The values weighed by the scores' softmax. -/
def weighed : FVec Ideal S2x4x784x64x24 .f32 := Host.dotGeneral dot_S2x4x784x64x16_S2x4x784x64x16x24_S2x4x784x64x24_4_4_n_5_0123_0123 none
  (Host.divf (powers g) (broadcastInDim S2x4x784x64x16 ![0, 1, 2, 3, 4] bcast_S2x4x784x64x1_S2x4x784x64x16_0_1_2_3_4
    (broadcastInDim S2x4x784x64x1 ![0, 1, 2, 3] bcast_S2x4x784x64_S2x4x784x64x1_0_1_2_3 (Host.reduceAdd (powers g) (constant S_ .f32 0x00000000#32)
      reducesTo_S2x4x784x64x16_S2x4x784x64_d4 h_S_)))) u

theorem weighed_apply (b : Fin 2) (a : Fin 4) (r : Fin 784) (t : Fin 64) (d : Fin 24) :
    weighed g u (ix5 b a r t d) = soft (fun i => g (ix5 b a r t i)) fun i => u (ix6 b a r t i d) := by
  unfold weighed soft
  pointwise
  simp only [powers_apply]

/-- The result's layout: regions placed in the image. -/
def laid (x : FVec Ideal S2x4x784x64x24 .f32) : FVec Ideal S2x4x224x224x24 .f32 := shapeCast _ (transpose S2x4x28x8x28x8x24 [0, 1, 2, 4, 3, 5, 6]
  (shapeCast S2x4x28x28x8x8x24 x shapeCasts_S2x4x784x64x24_S2x4x28x28x8x8x24) transposes_S2x4x28x28x8x8x24_S2x4x28x8x28x8x24_0_1_2_4_3_5_6)
    shapeCasts_S2x4x28x8x28x8x24_S2x4x224x224x24

theorem laid_apply (x : FVec Ideal S2x4x784x64x24 .f32) (b : Fin 2) (a : Fin 4) (y z : Fin 224) (d : Fin 24) :
    laid x (ix5 b a y z d) = x (ix5 b a ⟨y.val / 8 * 28 + z.val / 8, by omega⟩ ⟨y.val % 8 * 8 + z.val % 8, by omega⟩ d) := by
  unfold laid
  pointwise

end Softmax

end Cert.ReferenceIdeal.Hand
end
-- ==== Proof.AttnTop.lean ====
/-
  The attention's reference: its result is `AttnSpec.out` where each query's scores have sixteen greatest.
-/
module

public import proofs.«01_k».proof.Proof.AttnRef
public import proofs.«01_k».proof.Proof.AttnSoft

@[expose] public section

set_option maxRecDepth 16384

noncomputable section

namespace Cert.ReferenceIdeal.Hand

open Cert.ReferenceIdeal Cert.ReferenceIdeal.Gen Cert.AttnSpec Cert.AttnSort Cert.AttnMath Idealize.ShloMosaic Idealize.ShloMosaic.TcCoe Idealize.SL.Sem

/-- A query's scores have sixteen greatest, in one order, and none is `+∞`. -/
def Distinct (f : Fin 128 → EReal) : Prop :=
  (∀ i j : Fin 128, j.val = i.val + 1 → j.val ≤ 16 → f (rank f j) < f (rank f i)) ∧ f (rank f 0) < ⊤

section Values
variable (s : FVec Ideal S2x4x784x64x128 .f32) (u : FVec Ideal S2x4x784x128x24 .f32)

/-- The greatest scores. -/
def kept : FVec Ideal S2x4x784x64x16 .f32 := (Host.topK S2x4x784x64x16 4 (FloatOps.cmpfTotal .gt) s sliceFits_S2x4x784x64x128_S2x4x784x64x16).1

theorem kept_apply (b : Fin 2) (a : Fin 4) (r : Fin 784) (t : Fin 64) (i : Fin 16) :
    kept s (ix5 b a r t i) = row s b a r t (rank (row s b a r t) (i.castLE (by omega))) :=
  topK_scores s (by omega) _ b a r t i

/-- Their positions. -/
def wide : IVec S2x4x784x64x16x1 32 := broadcastInDim S2x4x784x64x16x1 ![0, 1, 2, 3, 4] bcast_S2x4x784x64x16_S2x4x784x64x16x1_0_1_2_3_4
  ((Host.topK S2x4x784x64x16 4 (FloatOps.cmpfTotal .gt) s sliceFits_S2x4x784x64x128_S2x4x784x64x16).2)

theorem wide_apply (b : Fin 2) (a : Fin 4) (r : Fin 784) (t : Fin 64) (i : Fin 16) (z : Fin 1) :
    wide s (ix6 b a r t i z) = BitVec.ofNat 32 (rank (row s b a r t) (i.castLE (by omega))).val := by
  unfold wide
  generalize hp : (Host.topK S2x4x784x64x16 4 (FloatOps.cmpfTotal .gt) s sliceFits_S2x4x784x64x128_S2x4x784x64x16).2 = p
  have e : p (ix5 b a r t i) = BitVec.ofNat 32 (rank (row s b a r t) (i.castLE (by omega))).val := by
    subst hp
    exact topK_places s (by omega) _ b a r t i
  pointwise
  exact e

/-- The positions, one added up when negative. -/
def spots : IVec S2x4x784x64x16x1 32 := select (cmpi .slt (wide s) (broadcastInDim S2x4x784x64x16x1 ![] bcast_S_S2x4x784x64x16x1
  (constantI S_ 32 0#32))) (addi (wide s) (broadcastInDim S2x4x784x64x16x1 ![] bcast_S_S2x4x784x64x16x1 (constantI S_ 32 128#32))) (wide s)

theorem spots_apply (b : Fin 2) (a : Fin 4) (r : Fin 784) (t : Fin 64) (i : Fin 16) (z : Fin 1) :
    (spots s (ix6 b a r t i z)).toInt.toNat = (rank (row s b a r t) (i.castLE (by omega))).val := by
  unfold spots
  pointwise
  rw [wide_apply]
  generalize rank (row s b a r t) (i.castLE (by omega)) = p
  have hp : (BitVec.ofNat 32 p.val).toNat = p.val := by
    rw [BitVec.toNat_ofNat]
    exact Nat.mod_eq_of_lt (by omega)
  have e := wrap_eq (BitVec.ofNat 32 p.val) (n := 128) (by omega) (by omega) (IntOp.addi (BitVec.ofNat 32 p.val) 128#32)
  refine (congrArg (fun w : BitVec 32 => w.toInt.toNat) e).trans ?_
  show (BitVec.ofNat 32 p.val).toInt.toNat = p.val
  rw [toInt_of_lt (n := 128) _ (by omega) (by omega), Int.toNat_natCast, hp]

/-- The values at the positions that start indices give. -/
theorem taken_apply (g : IVec S2x4x784x64x16x1 32) (b : Fin 2) (a : Fin 4) (r : Fin 784) (t : Fin 64) (i : Fin 16) (d : Fin 24) (p : Fin 128)
    (hg : (g (ix6 b a r t i 0)).toInt.toNat = p.val) :
    Host.gather gather_S2x4x784x128x24_S2x4x784x64x16x1_S2x4x784x64x16x24_5_3_012_012_3_5_111124
      (shapeCast S2x4x784x128x24 (broadcastInDim S2x4x784x1x128x24 ![0, 1, 2, 4, 5] bcast_S2x4x784x128x24_S2x4x784x1x128x24_0_1_2_4_5 u)
        shapeCasts_S2x4x784x1x128x24_S2x4x784x128x24) g (ix6 b a r t i d) = u (ix5 b a r p d) := by
  rw [values_apply _ _ b a r t i d (by rw [hg]; exact p.isLt)]
  have e : (⟨(g (ix6 b a r t i 0)).toInt.toNat, by rw [hg]; exact p.isLt⟩ : Fin 128) = p := Fin.ext hg
  rw [e]
  pointwise

/-- The values at the greatest scores. -/
def chosen : FVec Ideal S2x4x784x64x16x24 .f32 := Host.gather gather_S2x4x784x128x24_S2x4x784x64x16x1_S2x4x784x64x16x24_5_3_012_012_3_5_111124
  (shapeCast _ (broadcastInDim S2x4x784x1x128x24 ![0, 1, 2, 4, 5] bcast_S2x4x784x128x24_S2x4x784x1x128x24_0_1_2_4_5 u)
    shapeCasts_S2x4x784x1x128x24_S2x4x784x128x24) (spots s)

theorem chosen_apply (b : Fin 2) (a : Fin 4) (r : Fin 784) (t : Fin 64) (i : Fin 16) (d : Fin 24) :
    chosen s u (ix6 b a r t i d) = u (ix5 b a r (rank (row s b a r t) (i.castLE (by omega))) d) :=
  taken_apply u (spots s) b a r t i d _ (spots_apply s b a r t i 0)

end Values

section Result
variable (q k v : FVec Ideal S8x784x24x64 .f32) (i0 i1 : IVec S2x784 32)

/-- The reference's result. -/
def result : FVec Ideal S2x4x224x224x24 .f32 :=
  laid (weighed (kept (scores q k i0 i1)) (chosen (scores q k i0 i1) (both v i0 i1)))

/-- The reference's result, entry by entry. -/
theorem result_eq (h0 : ∀ y, (i0 y).toNat < 784) (h1 : ∀ y, (i1 y).toNat < 784)
    (hd : ∀ h r t, Distinct (score q k i0 i1 h r t)) : result q k v i0 i1 = out q k v i0 i1 := by
  funext y
  idx_vars y
  unfold result
  rw [laid_apply, weighed_apply]
  simp only [kept_apply, chosen_apply, scores_row q k i0 i1 h0 h1, both_apply v i0 i1 h0 h1]
  generalize hr : (⟨y2.val / 8 * 28 + y3.val / 8, by omega⟩ : Fin 784) = r
  generalize ht : (⟨y2.val % 8 * 8 + y3.val % 8, by omega⟩ : Fin 64) = t
  obtain ⟨hs, hf⟩ := hd ⟨y0.val * 4 + y1.val, by omega⟩ r t
  have e := attend_eq (score q k i0 i1 ⟨y0.val * 4 + y1.val, by omega⟩ r t) (rank (score q k i0 i1 ⟨y0.val * 4 + y1.val, by omega⟩ r t))
    (rank_mono _) hs (value v i0 i1 ⟨y0.val * 4 + y1.val, by omega⟩ r y4) hf
  refine Eq.trans ?_ (e.symm.trans ?_)
  · rfl
  · subst hr ht
    rfl

variable (m : (ℓ : Loc nD τ sig) → Buf (Elt Ideal) ℓ) (ρ : Dev nD → PrngReg)

/-- The arrays a device is launched on. -/
abbrev qM (c : Dev nD) : Vec Ideal Tab .f32 := m ((c.tc : Thread nD τ).loc main_arg0)
abbrev kM (c : Dev nD) : Vec Ideal Tab .f32 := m ((c.tc : Thread nD τ).loc main_arg1)
abbrev vM (c : Dev nD) : Vec Ideal Tab .f32 := m ((c.tc : Thread nD τ).loc main_arg2)
abbrev i0M (c : Dev nD) : IVec Sel 32 := m ((c.tc : Thread nD τ).loc main_arg3)
abbrev i1M (c : Dev nD) : IVec Sel 32 := m ((c.tc : Thread nD τ).loc main_arg4)

/-- The reference's run ends with its result's function of the arguments. -/
theorem res_eq (c : Dev nD) : Value.res_main_v38 (F := Ideal) m c = result (qM m c) (kM m c) (vM m c) (i0M m c) (i1M m c) := by
  unfold Value.res_main_v38 result laid weighed powers greatest kept chosen spots wide scores both starts numbers rows
  rfl

end Result

end Cert.ReferenceIdeal.Hand
end
-- ==== Proof.AttnRange.lean ====
/-
  The first precondition read back: every number names a region.
-/
module

public import proofs.«01_k».proof.Pre_in_range
public import Idealize.ShloMosaic.Lib.ReduceAll
public import Idealize.ShloMosaic.Lib.Pointwise

@[expose] public section

noncomputable section

namespace Cert.AttnRange

open Idealize.ShloMosaic

/-- A word that is at least 0 and below 784, read signed, is below 784. -/
theorem lt_of_range (w : BitVec 32) (h0 : IntOp.cmpi .sge w 0#32 = 1#1) (h1 : IntOp.cmpi .slt w 784#32 = 1#1) : w.toNat < 784 := by
  have a := IntOp.cmpi_sge.1 h0
  have b := IntOp.cmpi_slt.1 h1
  have z : (0#32).toInt = 0 := by decide
  have n : (784#32).toInt = 784 := by decide
  rw [z] at a
  rw [n] at b
  have := BitVec.toInt_eq_toNat_cond w
  have := w.isLt
  split at * <;> omega

/-- The two arrays' range checks, all 1. -/
theorem range_of_all {s t u : Shape} {axes : List (Fin s.rank)} [Subsingleton t.Idx] (i0 i1 : IVec s 32) (z n z' n' : IVec s 32)
    (hz : ∀ y, z y = 0#32) (hn : ∀ y, n y = 784#32) (hz' : ∀ y, z' y = 0#32) (hn' : ∀ y, n' y = 784#32) (o : IVec u 1)
    (h : s.ReducesTo axes t) (hu : 0 < u.numel) (j : t.Idx)
    (e : Host.reduce IntOp.andi (andi (andi (andi (cmpi .sge i0 z) (cmpi .slt i0 n)) (cmpi .sge i1 z')) (cmpi .slt i1 n')) o h hu j = 1#1) :
    (∀ y, (i0 y).toNat < 784) ∧ ∀ y, (i1 y).toNat < 784 := by
  have p : ∀ y, (IntOp.cmpi .sge (i0 y) 0#32 = 1#1 ∧ IntOp.cmpi .slt (i0 y) 784#32 = 1#1)
      ∧ IntOp.cmpi .sge (i1 y) 0#32 = 1#1 ∧ IntOp.cmpi .slt (i1 y) 784#32 = 1#1 := fun y => by
    have q := Host.reduce_andi_all _ _ _ _ j e y
    obtain ⟨q, q3⟩ := IntOp.andi_eq_one.1 q
    obtain ⟨q, q2⟩ := IntOp.andi_eq_one.1 q
    obtain ⟨q0, q1⟩ := IntOp.andi_eq_one.1 q
    exact ⟨⟨(congrArg _ (hz y)).symm.trans q0, (congrArg _ (hn y)).symm.trans q1⟩, (congrArg _ (hz' y)).symm.trans q2, (congrArg _ (hn' y)).symm.trans q3⟩
  exact ⟨fun y => lt_of_range _ (p y).1.1 (p y).1.2, fun y => lt_of_range _ (p y).2.1 (p y).2.2⟩

section
open Cert.Pre_in_range
variable [Facts] {F : FTy → Type} [FloatOps F] (a0 a1 a2 : FVec F S8x784x24x64 .f32) (i0 i1 : IVec S2x784 32)

/-- Every number of two arrays that the precondition holds of is below 784. -/
theorem in_range (h : fn a0 a1 a2 i0 i1 = fun _ => 1#1) : (∀ y, (i0 y).toNat < 784) ∧ ∀ y, (i1 y).toNat < 784 :=
  range_of_all i0 i1 _ _ _ _ (fun _ => rfl) (fun _ => rfl) (fun _ => rfl) (fun _ => rfl) _ _ _ (fun e => e.elim0) (congrFun h _)
end

end Cert.AttnRange
end
-- ==== Proof.AttnDistinct.lean ====
/-
  The second precondition read back: every number names a region, and each query's scores have sixteen greatest, in one
  order, none of them `+∞`.
-/
module

public import proofs.«01_k».proof.Pre_distinct
public import proofs.«01_k».proof.Proof.AttnRange
public import proofs.«01_k».proof.Proof.AttnTop

@[expose] public section

set_option maxRecDepth 16384

noncomputable section

namespace Cert.AttnDistinct

open Idealize.ShloMosaic Cert.AttnSpec Cert.AttnSort Cert.ReferenceIdeal.Hand
open Cert.Pre_distinct Cert.Pre_distinct.Facts

section
variable [Facts] (s : FVec Ideal S2x4x784x64x128 .f32)

/-- The seventeen greatest scores. -/
def tops : FVec Ideal S2x4x784x64x17 .f32 := (Host.topK S2x4x784x64x17 4 (FloatOps.cmpfTotal .gt) s sliceFits_S2x4x784x64x128_S2x4x784x64x17).1

theorem tops_apply (b : Fin 2) (a : Fin 4) (r : Fin 784) (t : Fin 64) (i : Fin 17) :
    tops s (ix5 b a r t i) = row s b a r t (rank (row s b a r t) (i.castLE (by omega))) :=
  topK_scores s (by omega) _ b a r t i

/-- Whether each of the sixteen greatest is greater than the next. -/
def falls : IVec S2x4x784x64x16 1 := cmpf .ogt
  (extractStridedSlice S2x4x784x64x16 ![0, 0, 0, 0, 0] (tops s) slices_S2x4x784x64x17_S2x4x784x64x16_0_0_0_0_0)
  (extractStridedSlice S2x4x784x64x16 ![0, 0, 0, 0, 1] (tops s) slices_S2x4x784x64x17_S2x4x784x64x16_0_0_0_0_1)

theorem falls_apply (b : Fin 2) (a : Fin 4) (r : Fin 784) (t : Fin 64) (i : Fin 16) (h : falls s (ix5 b a r t i) = 1#1) :
    (tops s (ix5 b a r t ⟨1 + i.val, by omega⟩) : EReal) < tops s (ix5 b a r t ⟨i.val, by omega⟩) := by
  unfold falls at h
  generalize tops s = T at h ⊢
  have e : Ideal.cmp .ogt (T (ix5 b a r t ⟨i.val, by omega⟩)) (T (ix5 b a r t ⟨1 + i.val, by omega⟩)) = 1#1 := by
    refine Eq.trans ?_ h
    symm
    pointwise
  exact Ideal.cmp_ogt_eq_one _ _ |>.1 e

/-- Whether the greatest is below `+∞`. -/
def ends : IVec S2x4x784x64 1 := cmpf .olt
  (shapeCast S2x4x784x64 (extractStridedSlice S2x4x784x64x1 ![0, 0, 0, 0, 0] (tops s) slices_S2x4x784x64x17_S2x4x784x64x1_0_0_0_0_0)
    shapeCasts_S2x4x784x64x1_S2x4x784x64) (broadcastInDim S2x4x784x64 ![] bcast_S_S2x4x784x64 (constant S_ .f32 0x7F800000#32))

theorem ends_apply (b : Fin 2) (a : Fin 4) (r : Fin 784) (t : Fin 64) (h : ends s (ix4 b a r t) = 1#1) :
    (tops s (ix5 b a r t 0) : EReal) < ⊤ := by
  unfold ends at h
  generalize tops s = T at h ⊢
  have z : Ideal.ofBits .f32 0x7F800000#32 = ⊤ := by simp [Ideal.ofBits, Ideal.ieee]
  have e : Ideal.cmp .olt (T (ix5 b a r t 0)) (Ideal.ofBits .f32 0x7F800000#32) = 1#1 := by
    refine Eq.trans ?_ h
    symm
    pointwise
  rw [z] at e
  exact Ideal.cmp_olt_eq_one _ _ |>.1 e

/-- A query's scores under both checks. -/
theorem row_distinct (hf : ∀ y, falls s y = 1#1) (he : ∀ y, ends s y = 1#1) (b : Fin 2) (a : Fin 4) (r : Fin 784) (t : Fin 64) :
    Distinct (row s b a r t) := by
  refine ⟨fun i j hij hj => ?_, ?_⟩
  · have p := falls_apply s b a r t ⟨i.val, by omega⟩ (hf _)
    rw [tops_apply, tops_apply] at p
    have ei : (⟨i.val, by omega⟩ : Fin 17).castLE (by omega) = i := rfl
    have ej : (⟨1 + i.val, by omega⟩ : Fin 17).castLE (by omega) = j := Fin.ext (by show 1 + i.val = j.val; omega)
    rw [ei, ej] at p
    exact p
  · have p := ends_apply s b a r t (he _)
    rw [tops_apply] at p
    exact p
end

section
variable [Facts] (q k v : FVec Ideal S8x784x24x64 .f32) (i0 i1 : IVec S2x784 32)

/-- The precondition: the numbers' range check and the two checks of the scores. -/
theorem fn_eq : fn q k v i0 i1 = andi (andi
    (Host.reduce IntOp.andi (andi (andi (andi (cmpi .sge i0 (broadcastInDim S2x784 ![] bcast_S_S2x784 (constantI S_ 32 0#32)))
      (cmpi .slt i0 (broadcastInDim S2x784 ![] bcast_S_S2x784 (constantI S_ 32 784#32))))
      (cmpi .sge i1 (broadcastInDim S2x784 ![] bcast_S_S2x784 (constantI S_ 32 0#32))))
      (cmpi .slt i1 (broadcastInDim S2x784 ![] bcast_S_S2x784 (constantI S_ 32 784#32)))) (constantI S_ 1 1#1) reducesTo_S2x784_S_d0_1 h_S_)
    (Host.reduce IntOp.andi (falls (scores q k i0 i1)) (constantI S_ 1 1#1) reducesTo_S2x4x784x64x16_S_d0_1_2_3_4 h_S_))
    (Host.reduce IntOp.andi (ends (scores q k i0 i1)) (constantI S_ 1 1#1) reducesTo_S2x4x784x64_S_d0_1_2_3 h_S_) := by
  unfold falls ends tops scores both starts numbers rows fn fn_part1 fn_part2 fn_take_along_axis
  rfl

/-- What the precondition says of the arrays it holds of. -/
theorem distinct (h : fn q k v i0 i1 = fun _ => 1#1) :
    (∀ y, (i0 y).toNat < 784) ∧ (∀ y, (i1 y).toNat < 784) ∧ ∀ g r t, Distinct (score q k i0 i1 g r t) := by
  rw [fn_eq] at h
  have e := congrFun h fun e => e.elim0
  obtain ⟨e, e2⟩ := IntOp.andi_eq_one.1 e
  obtain ⟨e0, e1⟩ := IntOp.andi_eq_one.1 e
  obtain ⟨h0, h1⟩ := AttnRange.range_of_all i0 i1 _ _ _ _ (fun _ => rfl) (fun _ => rfl) (fun _ => rfl) (fun _ => rfl) _ _ _ _ e0
  refine ⟨h0, h1, fun g r t => ?_⟩
  have p := row_distinct (scores q k i0 i1) (fun y => Host.reduce_andi_all _ _ _ _ _ e1 y) (fun y => Host.reduce_andi_all _ _ _ _ _ e2 y)
    ⟨g.val / 4, by omega⟩ ⟨g.val % 4, by omega⟩ r t
  rw [scores_row q k i0 i1 h0 h1] at p
  have eg : (⟨g.val / 4 * 4 + g.val % 4, by omega⟩ : Fin 8) = g := Fin.ext (by show g.val / 4 * 4 + g.val % 4 = g.val; omega)
  rw [eg] at p
  exact p
end

end Cert.AttnDistinct
end
-- ==== Proof.AttnClaims.lean ====
/-
  The attention call's claims: where the selected regions are regions, its program runs and leaves its arguments;
  where moreover each query's scores have sixteen greatest, its result is its reference's.
-/
module

public import proofs.«01_k».proof.Defs
public import proofs.«01_k».proof.Proof.HypsKernel
public import proofs.«01_k».proof.Proof.AttnKer
public import proofs.«01_k».proof.Proof.AttnTop
public import proofs.«01_k».proof.Proof.AttnRange
public import proofs.«01_k».proof.Proof.AttnDistinct
public import proofs.«01_k».proof.Proof.Gen.Pre_in_range
public import proofs.«01_k».proof.Proof.Gen.Pre_distinct
public import Idealize.ShloMosaic.Lib.Quiescent

@[expose] public section

noncomputable section

namespace Cert.AttnClaims

open Idealize.ShloMosaic Idealize.ShloMosaic.TcCoe Idealize.SL.Sem

/-- The program runs, leaves its arguments and ends quiescent, where the selected regions are regions. -/
theorem frame_bits : quiescent_Kernel (hKernel := Cert.Kernel.Gen.facts) (hPre_in_range := Cert.Pre_in_range.Gen.facts) := fun m ρ h =>
  Cert.Kernel.Gen.frame m ρ trivial (Cert.Kernel.Hand.hyps m (fun c => (Cert.AttnRange.in_range _ _ _ _ _ (h c)).1)
    (fun c => (Cert.AttnRange.in_range _ _ _ _ _ (h c)).2) trivial)

/-- So it does over the extended reals. -/
theorem frame_ideal :
    quiescent_KernelIdeal (hKernelIdeal := Cert.KernelIdeal.Gen.facts) (hPre_in_range := Cert.Pre_in_range.Gen.facts) := fun m ρ h =>
  Cert.KernelIdeal.Gen.frame m ρ trivial (Cert.KernelIdeal.Hand.hyps m (fun c => (Cert.AttnRange.in_range _ _ _ _ _ (h c)).1)
    (fun c => (Cert.AttnRange.in_range _ _ _ _ _ (h c)).2) trivial)

/-- So it does under the precondition of the value claim. -/
theorem frame_distinct : quiescent_KernelIdeal_pre_distinct (hKernelIdeal := Cert.KernelIdeal.Gen.facts)
    (hPre_distinct := Cert.Pre_distinct.Gen.facts) := fun m ρ h =>
  Cert.KernelIdeal.Gen.frame m ρ trivial (Cert.KernelIdeal.Hand.hyps m (fun c => (Cert.AttnDistinct.distinct _ _ _ _ _ (h c)).1)
    (fun c => (Cert.AttnDistinct.distinct _ _ _ _ _ (h c)).2.1) trivial)

/-- The reference runs, leaves its arguments and ends quiescent. -/
theorem frame_ref : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So it does under the precondition of the value claim. -/
theorem frame_ref_distinct : quiescent_ReferenceIdeal_pre_distinct (hReferenceIdeal := Cert.ReferenceIdeal.Gen.facts)
    (hPre_distinct := Cert.Pre_distinct.Gen.facts) := fun m ρ _ => frame_ref m ρ trivial

/-- The mask's name stands for `-∞`. -/
theorem mask : preserves_Kernel_KernelIdeal :=
  IdealRules.named_const.statement Cert.KernelIdeal.κ "mask" .f32 0xF149F2CA#32 ⊥ rfl

section Kernel
open Cert.KernelIdeal Cert.KernelIdeal.Gen Cert.KernelIdeal.Hand
variable (m : (ℓ : Loc nD τ sig) → Buf (Elt Ideal) ℓ) (ρ : Dev nD → PrngReg)

/-- The kernel's run ends with the attention of its arguments in its result's array. -/
theorem result (h0 : ∀ (c : Dev nD) (y : S2x784.Idx), (m ((c : Thread nD τ).loc main_arg3) y).toNat < 784)
    (h1 : ∀ (c : Dev nD) (y : S2x784.Idx), (m ((c : Thread nD τ).loc main_arg4) y).toNat < 784) :
    θ_run defs (onTc (τ := τ) (main (F := Ideal))) ⟨m, fun _ => 0, ρ⟩ (fun r => ∀ c : Dev nD,
      r.2.mem ((c.tc : Thread nD τ).loc main_v0) = AttnSpec.out (qM m c) (kM m c) (vM m c) (i0M m c) (i1M m c)) :=
  have hO : Ok m := trivial
  (θ_run defs _ _).mono (fun _ h c => ((h c).1 3).trans (arr3 m hO (hyps m h0 h1 hO) c h0 h1))
    (run_main m ρ hO (hyps m h0 h1 hO))

end Kernel

/-- The kernel's result array is the reference's. -/
theorem value : algebraic_KernelIdeal_ReferenceIdeal_pre_distinct (hKernelIdeal := Cert.KernelIdeal.Gen.facts)
    (hReferenceIdeal := Cert.ReferenceIdeal.Gen.facts) (hPre_distinct := Cert.Pre_distinct.Gen.facts) := by
  intro m ρ m' ρ' hpre hagree
  have hp := fun c => Cert.AttnDistinct.distinct _ _ _ _ _ (hpre c)
  refine ⟨fun c => AttnSpec.out (Cert.KernelIdeal.Hand.qM m c) (Cert.KernelIdeal.Hand.kM m c) (Cert.KernelIdeal.Hand.vM m c)
    (Cert.KernelIdeal.Hand.i0M m c) (Cert.KernelIdeal.Hand.i1M m c), ?_, ?_⟩
  · have hO : Cert.KernelIdeal.Gen.Ok m := trivial
    refine (θ_run Cert.KernelIdeal.defs _ _).mono (fun r h c => ⟨h.1 c, h.2 c⟩)
      (θ_run_and (result m ρ (fun c => (hp c).1) (fun c => (hp c).2.1))
        (Cert.KernelIdeal.Gen.unchanged m ρ hO
          (Cert.KernelIdeal.Hand.hyps m (fun c => (hp c).1) (fun c => (hp c).2.1) hO)))
  · refine (θ_run Cert.ReferenceIdeal.defs _ _).mono (fun r h c => ?_) (Cert.ReferenceIdeal.Value.run (F := Ideal) m' ρ')
    obtain ⟨h0, ha⟩ := h c
    obtain ⟨e0, e1, e2, e3, e4⟩ := hagree c
    have e0' : Cert.ReferenceIdeal.Hand.qM m' c = Cert.KernelIdeal.Hand.qM m c := e0
    have e1' : Cert.ReferenceIdeal.Hand.kM m' c = Cert.KernelIdeal.Hand.kM m c := e1
    have e2' : Cert.ReferenceIdeal.Hand.vM m' c = Cert.KernelIdeal.Hand.vM m c := e2
    have e3' : Cert.ReferenceIdeal.Hand.i0M m' c = Cert.KernelIdeal.Hand.i0M m c := e3
    have e4' : Cert.ReferenceIdeal.Hand.i1M m' c = Cert.KernelIdeal.Hand.i1M m c := e4
    rw [Cert.ReferenceIdeal.Hand.res_eq, e0', e1', e2', e3', e4',
      Cert.ReferenceIdeal.Hand.result_eq _ _ _ _ _ (hp c).1 (hp c).2.1 (hp c).2.2] at h0
    exact ⟨h0, ha⟩

end Cert.AttnClaims

end
-- ==== Proof.QkvSpec.lean ====
/-
  The functions that the projection call and its reference are both shown to compute, over the extended reals: the
  projection of one pixel onto one output channel, and the arrays made of it (the regions' channel-major blocks, the
  zero-padded rows, the regions' means).
-/
module

public import Idealize.ShloMosaic.Lib.Pipeline.ValueKit
public import Idealize.ShloMosaic.Lib.Pointwise

@[expose] public section

set_option maxRecDepth 16384

noncomputable section

namespace Cert.QkvSpec

open Idealize.ShloMosaic

abbrev X := (⟨4, ![2, 224, 224, 96]⟩ : Shape)
abbrev Wt := (⟨2, ![288, 96]⟩ : Shape)
abbrev Bi := (⟨1, ![288]⟩ : Shape)
abbrev Seq := (⟨5, ![2, 4, 784, 24, 64]⟩ : Shape)
abbrev Rows := (⟨4, ![2, 224, 226, 96]⟩ : Shape)
abbrev Means := (⟨3, ![56, 28, 192]⟩ : Shape)

variable (x : Vec Ideal X .f32) (W : Vec Ideal Wt .f32) (b : Vec Ideal Bi .f32)

/-- Pixel `(h, w)` of image `n` projected onto output channel `o`. -/
def proj (n : Fin 2) (h w : Fin 224) (o : Fin 288) : EReal :=
  (∑ k : Fin 96, x (ix4 n h w k) * W (ix2 o k)) + b (ix1 o)

/-- The projection depends on the coordinates' values alone. -/
theorem proj_congr {n n' : Fin 2} {h h' w w' : Fin 224} {o o' : Fin 288} (e0 : n.val = n'.val) (e1 : h.val = h'.val)
    (e2 : w.val = w'.val) (e3 : o.val = o'.val) : proj x W b n h w o = proj x W b n' h' w' o' := by
  rw [Fin.ext e0, Fin.ext e1, Fin.ext e2, Fin.ext e3]

/-- The 96 channels from `off` on, by head, region, channel of the head and pixel of the region. -/
def seq (off : Nat) (ho : off + 96 ≤ 288) : Vec Ideal Seq .f32 := fun i =>
  have h1 : (i 1).val < 4 := (i 1).isLt
  have h2 : (i 2).val < 784 := (i 2).isLt
  have h3 : (i 3).val < 24 := (i 3).isLt
  have h4 : (i 4).val < 64 := (i 4).isLt
  proj x W b (i 0) ⟨(i 2).val / 28 * 8 + (i 4).val / 8, by omega⟩ ⟨(i 2).val % 28 * 8 + (i 4).val % 8, by omega⟩
    ⟨off + (24 * (i 1).val + (i 3).val), by omega⟩

/-- The value channels of every pixel, a zero column before and after each row. -/
def rows : Vec Ideal Rows .f32 := fun i =>
  have h3 : (i 3).val < 96 := (i 3).isLt
  if h : 1 ≤ (i 2).val ∧ (i 2).val < 225 then proj x W b (i 0) (i 1) ⟨(i 2).val - 1, by omega⟩ ⟨192 + (i 3).val, by omega⟩ else 0

/-- The sum of one channel over the pixels of a region. -/
def regionSum (n : Fin 2) (i j : Fin 28) (o : Fin 288) : EReal :=
  ∑ p : Fin 8, ∑ q : Fin 8, proj x W b n ⟨i.val * 8 + p.val, by omega⟩ ⟨j.val * 8 + q.val, by omega⟩ o

/-- The regions' means of the query and key channels. -/
def means : Vec Ideal Means .f32 := fun i =>
  have h0 : (i 0).val < 56 := (i 0).isLt
  have h1 : (i 1).val < 28 := (i 1).isLt
  have h2 : (i 2).val < 192 := (i 2).isLt
  Ideal.div (regionSum x W b ⟨(i 0).val / 28, by omega⟩ ⟨(i 0).val % 28, by omega⟩ ⟨(i 1).val, h1⟩ ⟨(i 2).val, by omega⟩)
    (Ideal.ofBits .f32 0x42800000#32)

end Cert.QkvSpec

end
-- ==== Proof.QkvKer.lean ====
/-
  The projection call's five result arrays, read off its run: what each grid point writes back is its block of the
  functions of `QkvSpec.lean`, and the blocks tile the arrays.
-/
module

public import proofs.«01_k».proof.Proof.Gen.QkvIdeal.Value
public import proofs.«01_k».proof.Proof.QkvSpec

@[expose] public section

set_option maxRecDepth 16384

noncomputable section

namespace Cert.QkvIdeal.Hand

open Cert.QkvIdeal Cert.QkvIdeal.Gen Cert.QkvSpec Idealize.ShloMosaic Idealize.ShloMosaic.TcCoe Idealize.SL.Sem

variable (m : (ℓ : Loc nD τ sig) → Buf (Elt Ideal) ℓ) (ρ : Dev nD → PrngReg)

section Payloads
variable (v0 : Vec Ideal S1x8x224x96 .f32) (v3 : Vec Ideal S96x288 .f32) (v6 : Vec Ideal S1x288 .f32)

/-- The product of a band of eight image rows with the weights, at a pixel and a channel. -/
theorem pay6_apply (r : Fin 1792) (o : Fin 288) :
    k0_pay6 v0 v3 v6 (ix2 r o)
      = (∑ k : Fin 96, v0 (ix4 0 ⟨r.val / 224, by omega⟩ ⟨r.val % 224, by omega⟩ k) * v3 (ix2 k o)) + v6 (ix2 0 o) := by
  pointwise [k0_pay6]

/-- The same regrouped by region. -/
theorem pay9_apply (j : Fin 28) (o : Fin 288) (p : Fin 64) :
    k0_pay9 v0 v3 v6 (ix3 j o p) = k0_pay6 v0 v3 v6 (ix2 ⟨p.val / 8 * 224 + j.val * 8 + p.val % 8, by omega⟩ o) := by
  pointwise [k0_pay9, k0_pay7]

/-- Indices of equal coordinates are equal. -/
theorem ix3_congr {a b c : Nat} {p p' : Fin a} {q q' : Fin b} {r r' : Fin c} (h0 : p.val = p'.val) (h1 : q.val = q'.val)
    (h2 : r.val = r'.val) : ix3 p q r = ix3 p' q' r' := by
  rw [Fin.ext h0, Fin.ext h1, Fin.ext h2]

/-- A head's slice of the regrouped product, at an index. -/
theorem head_at (v : Vec Ideal S28x288x64 .f32) (off : Fin 3 → Nat) (ho : S28x288x64.Slices off S28x24x64)
    (hc : S28x24x64.ShapeCasts S1x1x28x24x64) (x : S1x1x28x24x64.Idx) (j : Fin 28) (o : Fin 288) (p : Fin 64)
    (hj : j.val = off 0 + (x 2).val) (hoo : o.val = off 1 + (x 3).val) (hp : p.val = off 2 + (x 4).val) :
    shapeCast S1x1x28x24x64 (extractStridedSlice S28x24x64 off v ho) hc x = v (ix3 j o p) := by
  idx_vars x
  pointwise
  exact congrArg v (ix3_congr hj.symm hoo.symm hp.symm)

theorem ld0 : View.ld v0 r0_0 = v0 := View.ld_unit_lit _ _ (by decide)
theorem ld1 : View.ld v3 r0_1 = v3 := View.ld_unit_lit _ _ (by decide)
theorem ld2 : View.ld v6 r0_2 = v6 := View.ld_unit_lit _ _ (by decide)

variable (y : S1x4x28x24x64.Idx) (j : Fin 28) (o : Fin 288) (p : Fin 64) (hj : j.val = (y 2).val) (hp : p.val = (y 4).val)
include hj hp

/-- The query block of a grid point, at an index. -/
theorem out3 (ho : o.val = 0 + (24 * (y 1).val + (y 3).val)) : out0_3 v0 v3 v6 y = k0_pay9 v0 v3 v6 (ix3 j o p) := by
  unfold_out out0_3
  canon_tiles x h
  all_goals (
    rw [ld0, ld1, ld2]
    try simp only [k0_pay1, k0_pay19, k0_pay13, k0_pay12]
    refine head_at _ _ _ _ _ _ _ _ ?_ ?_ ?_ <;> simp <;> omega)

/-- The key block of a grid point, at an index. -/
theorem out4 (ho : o.val = 96 + (24 * (y 1).val + (y 3).val)) : out0_4 v0 v3 v6 y = k0_pay9 v0 v3 v6 (ix3 j o p) := by
  unfold_out out0_4
  canon_tiles x h
  all_goals (
    rw [ld0, ld1, ld2]
    try simp only [k0_pay1, k0_pay19, k0_pay13, k0_pay12]
    refine head_at _ _ _ _ _ _ _ _ ?_ ?_ ?_ <;> simp <;> omega)

/-- The value block of a grid point, at an index. -/
theorem out5 (ho : o.val = 192 + (24 * (y 1).val + (y 3).val)) : out0_5 v0 v3 v6 y = k0_pay9 v0 v3 v6 (ix3 j o p) := by
  unfold_out out0_5
  canon_tiles x h
  all_goals (
    rw [ld0, ld1, ld2]
    try simp only [k0_pay1, k0_pay19, k0_pay13, k0_pay12]
    refine head_at _ _ _ _ _ _ _ _ ?_ ?_ ?_ <;> simp <;> omega)

end Payloads

/-- A sum over the indices that drop to `(j, o)` when axes 0 and 2 go is a double sum along those axes. -/
theorem reduce02 (h : S8x28x8x288.Reduces [0, 2] S28x288) (v : S8x28x8x288.Idx → EReal) (j : Fin 28) (o : Fin 288) :
    Ideal.reduceAdd h v (ix2 j o) = ∑ p : Fin 8, ∑ q : Fin 8, v (ix4 p j q o) := by
  refine (Finset.sum_filter_eq_sum_of_fiber _ (fun k : Fin 8 × Fin 8 => ix4 k.1 j k.2 o)
    (fun _ _ e => Prod.ext (congrFun e 0) (congrFun e 2)) (fun i => ⟨fun e => ⟨(i 0, i 2), ?_⟩, ?_⟩) v).trans
    (by simp only [Fintype.sum_prod_type])
  · funext a
    apply Fin.ext
    match a with
    | ⟨0, _⟩ => rfl
    | ⟨1, _⟩ => exact (congrArg Fin.val (congrFun e 0)).symm
    | ⟨2, _⟩ => rfl
    | ⟨3, _⟩ => exact (congrArg Fin.val (congrFun e 1)).symm
  · rintro ⟨k, rfl⟩
    funext a
    apply Fin.ext
    match a with
    | ⟨0, _⟩ => rfl
    | ⟨1, _⟩ => rfl

/-- The padded rows of a grid point, at an index. -/
theorem out6 (v0 : Vec Ideal S1x8x224x96 .f32) (v3 : Vec Ideal S96x288 .f32) (v6 : Vec Ideal S1x288 .f32) (y : S1x8x226x96.Idx) :
    out0_6 v0 v3 v6 y = if h : 1 ≤ (y 2).val ∧ (y 2).val < 225 then
      k0_pay6 v0 v3 v6 (ix2 ⟨(y 1).val * 224 + ((y 2).val - 1), by have h1 : (y 1).val < 8 := (y 1).isLt; omega⟩
        ⟨192 + (y 3).val, by have h3 : (y 3).val < 96 := (y 3).isLt; omega⟩) else 0 := by
  unfold_out out0_6
  frame_out
  idx_vars y
  pointwise [k0_pay5]
  have h2 := y2.isLt
  by_cases h : 1 ≤ y2.val ∧ y2.val < 225
  · rw [dif_neg (by omega), dif_pos (by omega), dif_pos h]
  · rw [dif_neg h]
    by_cases h' : y2.val < 1
    · rw [dif_pos h']
    · rw [dif_neg h', dif_neg (by omega)]

/-- The means of a grid point, at an index. -/
theorem out7 (v0 : Vec Ideal S1x8x224x96 .f32) (v3 : Vec Ideal S96x288 .f32) (v6 : Vec Ideal S1x288 .f32) (j : Fin 28) (o : Fin 192) :
    out0_7 v0 v3 v6 (ix3 0 j o) = Ideal.div (∑ p : Fin 8, ∑ q : Fin 8,
      k0_pay6 v0 v3 v6 (ix2 ⟨p.val * 224 + (j.val * 8 + q.val), by omega⟩ ⟨o.val, by omega⟩)) (Ideal.ofBits .f32 0x42800000#32) := by
  unfold_out out0_7
  frame_out
  pointwise [k0_pay8, k0_pay7]
  rw [reduce02]
  pointwise
  simp only [Nat.add_assoc]

/-- The windows' block indices over the grid's points: image and band of rows. -/
theorem idx : ∀ t : Fin grid0.N, win0_0.index t = ![t.val / 28, t.val % 28, 0, 0] ∧ win0_1.index t = ![0, 0] ∧ win0_2.index t = ![0, 0]
    ∧ win0_3.index t = ![t.val / 28, 0, t.val % 28, 0, 0] ∧ win0_4.index t = ![t.val / 28, 0, t.val % 28, 0, 0]
    ∧ win0_5.index t = ![t.val / 28, 0, t.val % 28, 0, 0] ∧ win0_6.index t = ![t.val / 28, t.val % 28, 0, 0]
    ∧ win0_7.index t = ![t.val, 0, 0] := by decide +kernel

/-- The arrays a device is launched on. -/
abbrev xM (c : Dev nD) : Vec Ideal X .f32 := m ((c : Thread nD τ).loc main_arg0)
abbrev wM (c : Dev nD) : Vec Ideal Wt .f32 := m ((c : Thread nD τ).loc main_arg1)
abbrev bM (c : Dev nD) : Vec Ideal Bi .f32 := m ((c : Thread nD τ).loc main_arg2)

/-- A grid point's product is the projection of its pixels. -/
theorem blk (c : Dev nD) (t : Fin cfg0.N) (r : Fin 1792) (o : Fin 288) :
    k0_pay6 (iblk m c 0 t) (iblk m c 1 t) (iblk m c 2 t) (ix2 r o)
      = proj (xM m c) (wM m c) (bM m c) ⟨t.val / 28, by have : t.val < 56 := t.isLt; omega⟩
          ⟨t.val % 28 * 8 + r.val / 224, by have := r.isLt; omega⟩ ⟨r.val % 224, by omega⟩ o := by
  rw [pay6_apply]
  have e1 : ∀ k : Fin 96, iblk m c 1 t (ix2 k o) = m ((c : Thread nD τ).loc main_arg1) (ix2 o k) := by
    intro k
    show V m c main_v0 _ = _
    entry_read
    pointwise
    blk_ext [idx t]
  have e2 : iblk m c 2 t (ix2 0 o) = m ((c : Thread nD τ).loc main_arg2) (ix1 o) := by
    show V m c main_v1 _ = _
    entry_read
    pointwise
    blk_ext [idx t]
  have e0 : ∀ k : Fin 96, iblk m c 0 t (ix4 0 ⟨r.val / 224, by omega⟩ ⟨r.val % 224, by omega⟩ k)
      = m ((c : Thread nD τ).loc main_arg0) (ix4 ⟨t.val / 28, by have : t.val < 56 := t.isLt; omega⟩
          ⟨t.val % 28 * 8 + r.val / 224, by have := r.isLt; omega⟩ ⟨r.val % 224, by omega⟩ k) := by
    intro k
    blk_ext [iblk, V, idx t]
  simp only [e0, e1, e2]
  rfl

/-- A grid point's regrouped product at an index of one of its head blocks is the regrouped projection there. -/
theorem seq_at (c : Dev nD) (t : Fin cfg0.N) (off : Nat) (ho : off + 96 ≤ 288) (i : Seq.Idx) (j : Fin 28) (o : Fin 288) (p : Fin 64)
    (h0 : (i 0).val = t.val / 28) (h2 : (i 2).val = t.val % 28 * 28 + j.val) (h3 : o.val = off + (24 * (i 1).val + (i 3).val))
    (h4 : (i 4).val = p.val) :
    k0_pay9 (iblk m c 0 t) (iblk m c 1 t) (iblk m c 2 t) (ix3 j o p) = seq (xM m c) (wM m c) (bM m c) off ho i := by
  rw [pay9_apply, blk]
  refine proj_congr _ _ _ ?_ ?_ ?_ ?_ <;> dsimp only <;> omega

/-- The query array after the run. -/
theorem arr3 (c : Dev nD) : (dats m 0 c).arrAt 3 cfg0.N = seq (xM m c) (wM m c) (bM m c) 0 (by decide) := by
  refine (dats m 0 c).arrAt_eq_of_covers 3 _ (by decide +kernel) fun t hf y => ?_
  have h1 : (y 1).val < 4 := (y 1).isLt
  have h3 : (y 3).val < 24 := (y 3).isLt
  blk_simp
  rw [after0_3, out3 _ _ _ _ ⟨(y 2).val, (y 2).isLt⟩ ⟨0 + (24 * (y 1).val + (y 3).val), by omega⟩ ⟨(y 4).val, (y 4).isLt⟩ rfl rfl rfl]
  refine seq_at m c t 0 _ _ _ _ _ ?_ ?_ ?_ ?_ <;> blk_simp [idx t]

/-- The key array after the run. -/
theorem arr4 (c : Dev nD) : (dats m 0 c).arrAt 4 cfg0.N = seq (xM m c) (wM m c) (bM m c) 96 (by decide) := by
  refine (dats m 0 c).arrAt_eq_of_covers 4 _ (by decide +kernel) fun t hf y => ?_
  have h1 : (y 1).val < 4 := (y 1).isLt
  have h3 : (y 3).val < 24 := (y 3).isLt
  blk_simp
  rw [after0_4, out4 _ _ _ _ ⟨(y 2).val, (y 2).isLt⟩ ⟨96 + (24 * (y 1).val + (y 3).val), by omega⟩ ⟨(y 4).val, (y 4).isLt⟩ rfl rfl rfl]
  refine seq_at m c t 96 _ _ _ _ _ ?_ ?_ ?_ ?_ <;> blk_simp [idx t]

/-- The value array after the run. -/
theorem arr5 (c : Dev nD) : (dats m 0 c).arrAt 5 cfg0.N = seq (xM m c) (wM m c) (bM m c) 192 (by decide) := by
  refine (dats m 0 c).arrAt_eq_of_covers 5 _ (by decide +kernel) fun t hf y => ?_
  have h1 : (y 1).val < 4 := (y 1).isLt
  have h3 : (y 3).val < 24 := (y 3).isLt
  blk_simp
  rw [after0_5, out5 _ _ _ _ ⟨(y 2).val, (y 2).isLt⟩ ⟨192 + (24 * (y 1).val + (y 3).val), by omega⟩ ⟨(y 4).val, (y 4).isLt⟩ rfl rfl rfl]
  refine seq_at m c t 192 _ _ _ _ _ ?_ ?_ ?_ ?_ <;> blk_simp [idx t]

/-- The padded rows after the run. -/
theorem arr6 (c : Dev nD) : (dats m 0 c).arrAt 6 cfg0.N = rows (xM m c) (wM m c) (bM m c) := by
  refine (dats m 0 c).arrAt_eq_of_covers 6 _ (by decide +kernel) fun t hf y => ?_
  have h1 : (y 1).val < 8 := (y 1).isLt
  have h2 : (y 2).val < 226 := (y 2).isLt
  have h3 : (y 3).val < 96 := (y 3).isLt
  blk_simp
  rw [after0_6, out6]
  unfold rows
  have e2 : (((cfg0.win 6).blk t).view.emb y 2).val = (y 2).val := by blk_simp [idx t]
  by_cases h : 1 ≤ (y 2).val ∧ (y 2).val < 225
  · rw [dif_pos h, dif_pos (by rw [e2]; exact h), blk]
    refine proj_congr _ _ _ ?_ ?_ ?_ ?_ <;> blk_simp [idx t] <;> dsimp only <;> omega
  · rw [dif_neg h, dif_neg (by rw [e2]; exact h)]

/-- The regions' means after the run. -/
theorem arr7 (c : Dev nD) : (dats m 0 c).arrAt 7 cfg0.N = means (xM m c) (wM m c) (bM m c) := by
  refine (dats m 0 c).arrAt_eq_of_covers 7 _ (by decide +kernel) fun t hf y => ?_
  blk_simp
  rw [after0_7]
  have ey : y = ix3 0 (⟨(y 1).val, (y 1).isLt⟩ : Fin 28) (⟨(y 2).val, (y 2).isLt⟩ : Fin 192) := by
    funext a
    apply Fin.ext
    match a with
    | ⟨0, _⟩ => have : (y 0).val < 1 := (y 0).isLt; show (y 0).val = 0; omega
    | ⟨1, _⟩ => rfl
    | ⟨2, _⟩ => rfl
  rw [ey, out7, ← ey]
  unfold means regionSum
  have h1 : (y 1).val < 28 := (y 1).isLt
  have ht : t.val < 56 := t.isLt
  refine congrArg (Ideal.div · _) (Finset.sum_congr rfl fun p _ => Finset.sum_congr rfl fun q _ => ?_)
  rw [blk]
  have := p.isLt
  have := q.isLt
  refine proj_congr _ _ _ ?_ ?_ ?_ ?_ <;> blk_simp [idx t] <;> dsimp only <;> omega

end Cert.QkvIdeal.Hand

end
-- ==== Proof.QkvRef.lean ====
/-
  The projection's reference, read index by index: its five results are the functions of `QkvSpec.lean`.
-/
module

public import proofs.«01_k».proof.Proof.Gen.QkvRefIdeal.Run
public import Idealize.ShloMosaic.Lib.KernelVsHost
public import proofs.«01_k».proof.Proof.QkvSpec

@[expose] public section

set_option maxRecDepth 16384

noncomputable section

namespace Cert.QkvRefIdeal.Hand

open Cert.QkvRefIdeal Cert.QkvRefIdeal.Gen Cert.QkvSpec Idealize.ShloMosaic Idealize.ShloMosaic.TcCoe Idealize.SL.Sem

variable (m : (ℓ : Loc nD τ sig) → Buf (Elt Ideal) ℓ) (ρ : Dev nD → PrngReg)

variable (x : Vec Ideal X .f32) (W : Vec Ideal Wt .f32) (b : Vec Ideal Bi .f32)

/-- `l` holds the projected channels, channel-major. -/
def IsProj (l : FVec Ideal S2x288x224x224 .f32) : Prop :=
  ∀ (n : Fin 2) (o : Fin 288) (h w : Fin 224), l (ix4 n o h w) = proj x W b n h w o

/-- The reference's product plus bias holds them. -/
theorem isProj (x : FVec Ideal S2x224x224x96 .f32) (W : FVec Ideal S288x96 .f32) (b : FVec Ideal S288 .f32) : IsProj x W b (addf (F := Ideal) (φ := .f32) (transpose S2x288x224x224 [1, 0, 2, 3]
      (Host.dotGeneral (F := Ideal) dot_S288x96_S2x96x224x224_S288x2x224x224_1_1_0_023_n_n none W
        (transpose S2x96x224x224 [0, 3, 1, 2] x transposes_S2x224x224x96_S2x96x224x224_0_3_1_2)) transposes_S288x2x224x224_S2x288x224x224_1_0_2_3)
    (broadcastInDim S2x288x224x224 ![0, 1, 2, 3] bcast_S1x288x1x1_S2x288x224x224_0_1_2_3 (broadcastInDim S1x288x1x1 ![1] bcast_S288_S1x288x1x1_1 b))) := by
  intro n o h w
  unfold proj
  pointwise
  simp only [mul_comm]

variable {x W b} {l : FVec Ideal S2x288x224x224 .f32}

/-- Read at coordinates of the same values. -/
theorem IsProj.at (hl : IsProj x W b l) {n n' : Fin 2} {h h' w w' : Fin 224} {o o' : Fin 288} (e0 : n.val = n'.val) (e1 : h.val = h'.val)
    (e2 : w.val = w'.val) (e3 : o.val = o'.val) : l (ix4 n o h w) = proj x W b n' h' w' o' := by
  rw [hl, proj_congr x W b e0 e1 e2 e3]

/-- The reference's relabelling of channels and pixels by head and region. -/
theorem seq_eq (hl : IsProj x W b l) (off : Nat) (ho : off + 96 ≤ 288) (hs : S2x288x224x224.Slices ![0, off, 0, 0] S2x96x224x224) :
    shapeCast S2x4x784x24x64 (transpose S2x4x28x28x24x8x8 [0, 1, 3, 5, 2, 4, 6] (shapeCast S2x4x24x28x8x28x8
      (extractStridedSlice S2x96x224x224 ![0, off, 0, 0] l hs) shapeCasts_S2x96x224x224_S2x4x24x28x8x28x8)
        transposes_S2x4x24x28x8x28x8_S2x4x28x28x24x8x8_0_1_3_5_2_4_6) shapeCasts_S2x4x28x28x24x8x8_S2x4x784x24x64
      = seq x W b off ho := by
  funext i
  idx_vars i
  pointwise
  refine hl.at ?_ ?_ ?_ ?_
  · rfl
  · rfl
  · rfl
  · show off + (i1.val * 24 + i3.val) = off + (24 * i1.val + i3.val)
    omega

/-- The reference's padded rows. -/
theorem rows_eq (hl : IsProj x W b l) (z : Vec Ideal S_ .f32) (hz : z = fun _ => 0) :
    pad S2x224x226x96 ![0, 0, 1, 0] ![0, 0, 1, 0] ![0, 0, 0, 0] (transpose S2x224x224x96 [0, 2, 3, 1]
      (extractStridedSlice S2x96x224x224 ![0, 192, 0, 0] l slices_S2x288x224x224_S2x96x224x224_0_192_0_0)
        transposes_S2x96x224x224_S2x224x224x96_0_2_3_1) z pads_S2x224x224x96_S2x224x226x96_000_000_110_000 h_S_ = rows x W b := by
  funext i
  idx_vars i
  pointwise [hz]
  change _ = (if h : 1 ≤ i2.val ∧ i2.val < 225 then proj x W b i0 i1 ⟨i2.val - 1, by omega⟩ ⟨192 + i3.val, by omega⟩ else 0)
  by_cases h : 1 ≤ i2.val ∧ i2.val < 225
  · rw [dif_pos (by omega), dif_pos h]
    exact hl.at rfl rfl rfl rfl
  · rw [dif_neg (by omega), dif_neg h]

/-- The sum over the indices that drop to `(n, o, i, j)` when axes 3 and 5 go is a double sum along those axes. -/
theorem reduce35 (h : S2x96x28x8x28x8.ReducesTo [3, 5] S2x96x28x28) (v : S2x96x28x8x28x8.Idx → EReal) (z : EReal)
    (n : Fin 2) (o : Fin 96) (i j : Fin 28) :
    Ideal.hostReduceAdd h v z (ix4 n o i j) = z + ∑ p : Fin 8, ∑ q : Fin 8, v (ix6 n o i p j q) := by
  refine congrArg (z + ·) ((Finset.sum_filter_eq_sum_of_fiber _ (fun k : Fin 8 × Fin 8 => ix6 n o i k.1 j k.2)
    (fun _ _ e => Prod.ext (congrFun e 3) (congrFun e 5)) (fun w => ⟨fun e => ⟨(w 3, w 5), ?_⟩, ?_⟩) v).trans
    (by simp only [Fintype.sum_prod_type]))
  · funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl

/-- The reference's region means of the channels from `off` on. -/
def mean (l : FVec Ideal S2x288x224x224 .f32) (off : Nat) (hs : S2x288x224x224.Slices ![0, off, 0, 0] S2x96x224x224) : FVec Ideal S2x96x28x28 .f32 :=
  Host.divf (Host.reduceAdd (shapeCast S2x96x28x8x28x8 (extractStridedSlice S2x96x224x224 ![0, off, 0, 0] l hs)
      shapeCasts_S2x96x224x224_S2x96x28x8x28x8) (constant (F := Ideal) S_ .f32 0x00000000#32) reducesTo_S2x96x28x8x28x8_S2x96x28x28_d3_5 h_S_)
    (broadcastInDim S2x96x28x28 ![] bcast_S_S2x96x28x28 (constant (F := Ideal) S_ .f32 0x42800000#32))

/-- They are the regions' sums of the projection over 64. -/
theorem mean_apply (hl : IsProj x W b l) (off : Nat) (hs : S2x288x224x224.Slices ![0, off, 0, 0] S2x96x224x224) (n : Fin 2) (o : Fin 96) (i j : Fin 28)
    (o' : Fin 288) (ho : o'.val = off + o.val) :
    mean l off hs (ix4 n o i j) = Ideal.div (regionSum x W b n i j o') (Ideal.ofBits .f32 0x42800000#32) := by
  unfold mean
  pointwise
  rw [reduce35]
  pointwise
  unfold regionSum
  refine congrArg (Ideal.div · _) (Finset.sum_congr rfl fun p _ => Finset.sum_congr rfl fun q _ => ?_)
  exact hl.at rfl rfl rfl ho.symm

/-- The reference's region means, the query channels before the key channels. -/
theorem means_eq (q k : FVec Ideal S2x96x28x28 .f32)
    (hq : ∀ (n : Fin 2) (o : Fin 96) (i j : Fin 28) (o' : Fin 288), o'.val = 0 + o.val →
      q (ix4 n o i j) = Ideal.div (regionSum x W b n i j o') (Ideal.ofBits .f32 0x42800000#32))
    (hk : ∀ (n : Fin 2) (o : Fin 96) (i j : Fin 28) (o' : Fin 288), o'.val = 96 + o.val →
      k (ix4 n o i j) = Ideal.div (regionSum x W b n i j o') (Ideal.ofBits .f32 0x42800000#32)) :
    shapeCast S56x28x192 (transpose S2x28x28x192 [0, 2, 3, 1] (concatenate S2x192x28x28 1
      [⟨S2x96x28x28, q⟩, ⟨S2x96x28x28, k⟩] concatenates_S2x96x28x28_S2x96x28x28_S2x192x28x28_d1)
        transposes_S2x192x28x28_S2x28x28x192_0_2_3_1) shapeCasts_S2x28x28x192_S56x28x192 = means x W b := by
  funext i
  idx_vars i
  pointwise
  unfold means
  by_cases h : i2.val < 96
  · rw [dif_pos h]
    exact hq _ _ _ _ _ (by simp)
  · rw [dif_neg h]
    exact hk _ _ _ _ _ (by show i2.val = 96 + (i2.val - 96); omega)

/-- The arrays a device is launched on. -/
abbrev xM (c : Dev nD) : Vec Ideal X .f32 := m ((c.tc : Thread nD τ).loc main_arg0)
abbrev wM (c : Dev nD) : Vec Ideal Wt .f32 := m ((c.tc : Thread nD τ).loc main_arg1)
abbrev bM (c : Dev nD) : Vec Ideal Bi .f32 := m ((c.tc : Thread nD τ).loc main_arg2)

/-- The reference's run: each result array at its function of the arguments, which are unchanged. -/
theorem run : θ_run defs (onTc (τ := τ) (main (F := Ideal))) ⟨m, fun _ => 0, ρ⟩ fun r => ∀ c : Dev nD,
      r.2.mem ((c.tc : Thread nD τ).loc main_v24) = seq (xM m c) (wM m c) (bM m c) 0 (by decide)
      ∧ r.2.mem ((c.tc : Thread nD τ).loc main_v27) = seq (xM m c) (wM m c) (bM m c) 96 (by decide)
      ∧ r.2.mem ((c.tc : Thread nD τ).loc main_v30) = seq (xM m c) (wM m c) (bM m c) 192 (by decide)
      ∧ r.2.mem ((c.tc : Thread nD τ).loc main_v21) = rows (xM m c) (wM m c) (bM m c)
      ∧ r.2.mem ((c.tc : Thread nD τ).loc main_v19) = means (xM m c) (wM m c) (bM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (seq_eq (isProj (xM m c) (wM m c) (bM m c)) 0 (by decide) _), (h c).2.1.trans (seq_eq (isProj (xM m c) (wM m c) (bM m c)) 96 (by decide) _),
      (h c).2.2.1.trans (seq_eq (isProj (xM m c) (wM m c) (bM m c)) 192 (by decide) _),
      (h c).2.2.2.1.trans (rows_eq (isProj (xM m c) (wM m c) (bM m c)) _ (by funext i; pointwise; exact sitofp_zero)),
      (h c).2.2.2.2.1.trans (means_eq _ _ (mean_apply (isProj (xM m c) (wM m c) (bM m c)) 0 _) (mean_apply (isProj (xM m c) (wM m c) (bM m c)) 96 _)), (h c).2.2.2.2.2⟩)
    (Value.run (F := Ideal) m ρ)

end Cert.QkvRefIdeal.Hand

end
-- ==== Proof.QkvClaims.lean ====
/-
  The projection call's claims: its program and its reference run and leave their arguments, and from equal arguments end
  with equal results.
-/
module

public import proofs.«01_k».proof.Defs
public import proofs.«01_k».proof.Proof.Gen.Qkv.Frame
public import proofs.«01_k».proof.Proof.QkvKer
public import proofs.«01_k».proof.Proof.QkvRef
public import Idealize.ShloMosaic.Lib.Quiescent

@[expose] public section

noncomputable section

namespace Cert.QkvClaims

open Cert.QkvSpec Idealize.ShloMosaic Idealize.ShloMosaic.TcCoe Idealize.SL.Sem

/-- The reference runs, leaves its arguments and ends quiescent. -/
theorem frame_ref : quiescent_QkvRefIdeal (hQkvRefIdeal := Cert.QkvRefIdeal.Gen.facts) := fun m ρ _ =>
  (θ_run Cert.QkvRefIdeal.defs _ _).mono
    (fun r h => ⟨fun c => (h c).2.2.2.2.2, Idealize.ShloMosaic.sem_eq_zero_of_no_sems (by decide) r.2⟩)
    (Cert.QkvRefIdeal.Value.run (F := Ideal) m ρ)

/-- The kernel's five result arrays are the reference's. -/
theorem value : algebraic_QkvIdeal_QkvRefIdeal (hQkvIdeal := Cert.QkvIdeal.Gen.facts) (hQkvRefIdeal := Cert.QkvRefIdeal.Gen.facts) := by
  intro m ρ m' ρ' _ hagree
  refine ⟨fun c => seq (Cert.QkvIdeal.Hand.xM m c) (Cert.QkvIdeal.Hand.wM m c) (Cert.QkvIdeal.Hand.bM m c) 0 (by decide),
    fun c => seq (Cert.QkvIdeal.Hand.xM m c) (Cert.QkvIdeal.Hand.wM m c) (Cert.QkvIdeal.Hand.bM m c) 96 (by decide),
    fun c => seq (Cert.QkvIdeal.Hand.xM m c) (Cert.QkvIdeal.Hand.wM m c) (Cert.QkvIdeal.Hand.bM m c) 192 (by decide),
    fun c => rows (Cert.QkvIdeal.Hand.xM m c) (Cert.QkvIdeal.Hand.wM m c) (Cert.QkvIdeal.Hand.bM m c),
    fun c => means (Cert.QkvIdeal.Hand.xM m c) (Cert.QkvIdeal.Hand.wM m c) (Cert.QkvIdeal.Hand.bM m c), ?_, ?_⟩
  · refine (θ_run Cert.QkvIdeal.defs _ _).mono (fun r h c => ?_) (Cert.QkvIdeal.Value.run_blocks (F := Ideal) m ρ)
    obtain ⟨h3, h4, h5, h6, h7, ha⟩ := h c
    exact ⟨h3.trans (Cert.QkvIdeal.Hand.arr3 m c), h4.trans (Cert.QkvIdeal.Hand.arr4 m c), h5.trans (Cert.QkvIdeal.Hand.arr5 m c),
      h6.trans (Cert.QkvIdeal.Hand.arr6 m c), h7.trans (Cert.QkvIdeal.Hand.arr7 m c), ha⟩
  · refine (θ_run Cert.QkvRefIdeal.defs _ _).mono (fun r h c => ?_) (Cert.QkvRefIdeal.Hand.run m' ρ')
    obtain ⟨h0, h1, h2, h3, h4, ha⟩ := h c
    obtain ⟨e0, e1, e2⟩ := hagree c
    have ex : Cert.QkvRefIdeal.Hand.xM m' c = Cert.QkvIdeal.Hand.xM m c := e0
    have ew : Cert.QkvRefIdeal.Hand.wM m' c = Cert.QkvIdeal.Hand.wM m c := e1
    have eb : Cert.QkvRefIdeal.Hand.bM m' c = Cert.QkvIdeal.Hand.bM m c := e2
    rw [ex, ew, eb] at h0 h1 h2 h3 h4
    exact ⟨h0, h1, h2, h3, h4, ha⟩

end Cert.QkvClaims

end
-- ==== Proof.LepeSpec.lean ====
/-
  What the last call computes, index by index: a 3×3 depthwise sum over the padded rows added to the attention's heads,
  then projected.
-/
module

public import Idealize.ShloMosaic.Lib.Pipeline.ValueKit
public import Idealize.ShloMosaic.Lib.Pointwise

@[expose] public section

set_option maxRecDepth 16384

noncomputable section

namespace Cert.LepeSpec

open Idealize.ShloMosaic

abbrev Rows := (⟨4, ![2, 224, 226, 96]⟩ : Shape)
abbrev Heads := (⟨5, ![2, 4, 224, 224, 24]⟩ : Shape)
abbrev Taps := (⟨4, ![96, 1, 3, 3]⟩ : Shape)
abbrev Bi := (⟨1, ![96]⟩ : Shape)
abbrev Wt := (⟨2, ![96, 96]⟩ : Shape)
abbrev Out := (⟨4, ![2, 224, 224, 96]⟩ : Shape)

variable (v : Vec Ideal Rows .f32) (a : Vec Ideal Heads .f32) (wl : Vec Ideal Taps .f32) (bl : Vec Ideal Bi .f32)
  (wo : Vec Ideal Wt .f32) (bo : Vec Ideal Bi .f32)

/-- Channel `k` of the padded image: one zero row before the first and one after the last, `r` counting from the first zero row. -/
def pix (n : Fin 2) (r : Nat) (c : Fin 226) (k : Fin 96) : EReal :=
  if h : 1 ≤ r ∧ r < 225 then v (ix4 n ⟨r - 1, by omega⟩ c k) else 0

/-- Tap `(dy, dx)` of the depthwise sum at a pixel. -/
def tap (n : Fin 2) (h w : Fin 224) (k : Fin 96) (dy dx : Fin 3) : EReal :=
  pix v n (h.val + dy.val) ⟨dx.val + w.val, by omega⟩ k * wl (ix4 k 0 dy dx)

/-- The heads' channel, the depthwise sum and its bias. -/
def mix (n : Fin 2) (h w : Fin 224) (k : Fin 96) : EReal :=
  a (ix5 n ⟨k.val / 24, by omega⟩ h w ⟨k.val % 24, by omega⟩) + tap v wl n h w k 0 0 + tap v wl n h w k 0 1 + tap v wl n h w k 0 2
    + tap v wl n h w k 1 0 + tap v wl n h w k 1 1 + tap v wl n h w k 1 2
    + tap v wl n h w k 2 0 + tap v wl n h w k 2 1 + tap v wl n h w k 2 2 + bl (ix1 k)

/-- The projected result at a pixel and channel. -/
def res (n : Fin 2) (h w : Fin 224) (o : Fin 96) : EReal :=
  (∑ k : Fin 96, mix v a wl bl n h w k * wo (ix2 o k)) + bo (ix1 o)

/-- It depends on the coordinates' values alone. -/
theorem res_congr {n n' : Fin 2} {h h' w w' : Fin 224} {o o' : Fin 96} (e0 : n.val = n'.val) (e1 : h.val = h'.val)
    (e2 : w.val = w'.val) (e3 : o.val = o'.val) : res v a wl bl wo bo n h w o = res v a wl bl wo bo n' h' w' o' := by
  rw [Fin.ext e0, Fin.ext e1, Fin.ext e2, Fin.ext e3]

/-- The result array. -/
def out : Vec Ideal Out .f32 := fun i => res v a wl bl wo bo (i 0) (i 1) (i 2) (i 3)

end Cert.LepeSpec

end
-- ==== Proof.LepeKer.lean ====
/-
  The last call's result array, read off its run: what each grid point writes back is its block of `LepeSpec.out`.
-/
module

public import proofs.«01_k».proof.Proof.Gen.LepeIdeal.Value
public import proofs.«01_k».proof.Proof.LepeSpec

@[expose] public section

set_option maxRecDepth 16384

noncomputable section

namespace Cert.LepeIdeal.Hand

open Cert.LepeIdeal Cert.LepeIdeal.Gen Cert.LepeSpec Idealize.ShloMosaic Idealize.ShloMosaic.TcCoe Idealize.SL.Sem

variable (m : (ℓ : Loc nD τ sig) → Buf (Elt Ideal) ℓ) (ρ : Dev nD → PrngReg)

section Payloads

/-- A band of rows moved down by one, a given row before it. -/
def up (q : Vec Ideal S28x226x96 .f32) (p : Vec Ideal S1x226x96 .f32) (r : Fin 28) (c : Fin 226) (k : Fin 96) : EReal :=
  if h : r.val < 1 then p (ix3 ⟨r.val, h⟩ c k) else q (ix3 ⟨r.val - 1, by omega⟩ c k)

/-- The first five taps added to the heads. -/
theorem pay7_apply (v8 : Vec Ideal S28x224x96 .f32) (v10 : Vec Ideal S28x226x96 .f32) (v16 : Vec Ideal S1x226x96 .f32)
    (a b c d e : Vec Ideal S1x96 .f32) (r : Fin 28) (w : Fin 224) (k : Fin 96) :
    k0_pay7 v8 v10 v16 a b c d e (ix3 r w k)
      = v8 (ix3 r w k) + up v10 v16 r ⟨w.val, by omega⟩ k * a (ix2 0 k) + up v10 v16 r ⟨1 + w.val, by omega⟩ k * b (ix2 0 k)
        + up v10 v16 r ⟨2 + w.val, by omega⟩ k * c (ix2 0 k) + v10 (ix3 r ⟨w.val, by omega⟩ k) * d (ix2 0 k)
        + v10 (ix3 r ⟨1 + w.val, by omega⟩ k) * e (ix2 0 k) := by
  pointwise [k0_pay7]
  rfl

/-- The sixth tap. -/
theorem pay8_apply (v10 : Vec Ideal S28x226x96 .f32) (f : Vec Ideal S1x96 .f32) (r : Fin 28) (w : Fin 224) (k : Fin 96) :
    k0_pay8 v10 f (ix3 r w k) = v10 (ix3 r ⟨2 + w.val, by omega⟩ k) * f (ix2 0 k) := by
  pointwise [k0_pay8]

/-- A head's entry depends on the coordinates' values alone. -/
theorem head_congr (A : Fin 4 → Vec Ideal S1x1x28x224x24 .f32) {j j' : Fin 4} {d d' : Fin 24} (r : Fin 28) (w : Fin 224)
    (ej : j.val = j'.val) (ed : d.val = d'.val) : A j (ix5 0 0 r w d) = A j' (ix5 0 0 r w d') := by
  rw [Fin.ext ej, Fin.ext ed]

/-- The heads side by side. -/
theorem pay2_apply (A : Fin 4 → Vec Ideal S1x1x28x224x24 .f32) (r : Fin 28) (w : Fin 224) (k : Fin 96) :
    k0_pay2 (A 0) (A 1) (A 2) (A 3) (ix3 r w k) = A ⟨k.val / 24, by omega⟩ (ix5 0 0 r w ⟨k.val % 24, by omega⟩) := by
  pointwise [k0_pay2]
  by_cases h0 : k.val < 24
  · rw [dif_pos h0]
    refine head_congr A r w ?_ ?_ <;> simp <;> omega
  · rw [dif_neg h0]
    by_cases h1 : k.val - 24 < 24
    · rw [dif_pos h1]
      refine head_congr A r w ?_ ?_ <;> simp <;> omega
    · rw [dif_neg h1]
      by_cases h2 : k.val - 24 - 24 < 24
      · rw [dif_pos h2]
        refine head_congr A r w ?_ ?_ <;> simp <;> omega
      · rw [dif_neg h2]
        refine head_congr A r w ?_ ?_ <;> simp <;> omega

/-- The band moved up by one, a row scaled by `0` or `1` after it. -/
theorem pay6_apply (v10 : Vec Ideal S28x226x96 .f32) (v18 : Vec Ideal S1x226x96 .f32) (s : BitVec 1) (x y : Ideal .f32)
    (r : Fin 28) (c : Fin 226) (k : Fin 96) :
    k0_pay6 v10 v18 s x y (ix3 r c k)
      = if h : r.val < 27 then v10 (ix3 ⟨1 + r.val, by omega⟩ c k) else v18 (ix3 ⟨r.val - 27, by omega⟩ c k) * Scalar.select s x y := by
  pointwise [k0_pay6]

/-- The projection of all nine taps. -/
theorem pay1_apply (v26 : Vec Ideal S28x226x96 .f32) (v61 v67 : Vec Ideal S28x224x96 .f32) (g h i b : Vec Ideal S1x96 .f32)
    (W : Vec Ideal S96x96 .f32) (bo : Vec Ideal S1x96 .f32) (r : Fin 28) (w : Fin 224) (o : Fin 96) :
    k0_pay1 v26 v61 v67 g h i b W bo (ix4 0 r w o)
      = (∑ k : Fin 96, (v61 (ix3 r w k) + v67 (ix3 r w k) + v26 (ix3 r ⟨w.val, by omega⟩ k) * g (ix2 0 k)
          + v26 (ix3 r ⟨1 + w.val, by omega⟩ k) * h (ix2 0 k) + v26 (ix3 r ⟨2 + w.val, by omega⟩ k) * i (ix2 0 k) + b (ix2 0 k))
          * W (ix2 k o)) + bo (ix2 0 o) := by
  pointwise [k0_pay1]

variable (i : grid0.Coords) (x0 x1 x2 : Vec Ideal S1x28x226x96 .f32)

/-- The row above row `r` of a grid point: from the band before it for the first row, zero for the first band. -/
def rowU (r : Fin 28) (c : Fin 226) (k : Fin 96) : EReal :=
  if h : r.val < 1 then Scalar.select (Scalar.cmpi CmpIPredicate.sgt (BitVec.ofNat 32 (i 1).val) 0#32) (x0 (ix4 0 27 c k)) 0
  else x1 (ix4 0 ⟨r.val - 1, by omega⟩ c k)

/-- The row below row `r` of a grid point: from the band after it for the last row, zero for the last band. -/
def rowD (r : Fin 28) (c : Fin 226) (k : Fin 96) : EReal :=
  if h : r.val < 27 then x1 (ix4 0 ⟨1 + r.val, by omega⟩ c k)
  else Scalar.select (Scalar.cmpi CmpIPredicate.slt (BitVec.ofNat 32 (i 1).val) 7#32) (x2 (ix4 0 0 c k)) 0

/-- What a grid point writes back, at an index. -/
theorem out11 (A : Fin 4 → Vec Ideal S1x1x28x224x24 .f32) (x7 : Vec Ideal S9x96 .f32) (x8 : Vec Ideal S1x96 .f32)
    (x9 : Vec Ideal S96x96 .f32) (x10 : Vec Ideal S1x96 .f32) (r : Fin 28) (w : Fin 224) (o : Fin 96) :
    out0_11 i x0 x1 x2 (A 0) (A 1) (A 2) (A 3) x7 x8 x9 x10 (ix4 0 r w o)
      = (∑ k : Fin 96, (A ⟨k.val / 24, by omega⟩ (ix5 0 0 r w ⟨k.val % 24, by omega⟩)
          + rowU i x0 x1 r ⟨w.val, by omega⟩ k * x7 (ix2 0 k) + rowU i x0 x1 r ⟨1 + w.val, by omega⟩ k * x7 (ix2 1 k)
          + rowU i x0 x1 r ⟨2 + w.val, by omega⟩ k * x7 (ix2 2 k)
          + x1 (ix4 0 r ⟨w.val, by omega⟩ k) * x7 (ix2 3 k) + x1 (ix4 0 r ⟨1 + w.val, by omega⟩ k) * x7 (ix2 4 k)
          + x1 (ix4 0 r ⟨2 + w.val, by omega⟩ k) * x7 (ix2 5 k)
          + rowD i x1 x2 r ⟨w.val, by omega⟩ k * x7 (ix2 6 k) + rowD i x1 x2 r ⟨1 + w.val, by omega⟩ k * x7 (ix2 7 k)
          + rowD i x1 x2 r ⟨2 + w.val, by omega⟩ k * x7 (ix2 8 k) + x8 (ix2 0 k)) * x9 (ix2 k o)) + x10 (ix2 0 o) := by
  unfold_out out0_11
  frame_out
  rw [pay1_apply]
  simp only [pay2_apply, pay6_apply, pay7_apply, pay8_apply]
  unfold up
  pointwise [k0_pay3, k0_pay4, k0_pay5]
  rfl

end Payloads

/-- The windows' block indices over the grid's points: image and band of rows, the bands before and after it, the heads. -/
theorem idx : ∀ t : Fin grid0.N, win0_0.index t = ![t.val / 8, t.val % 8 - 1, 0, 0] ∧ win0_1.index t = ![t.val / 8, t.val % 8, 0, 0]
    ∧ win0_2.index t = ![t.val / 8, min (t.val % 8 + 1) 7, 0, 0] ∧ win0_3.index t = ![t.val / 8, 0, t.val % 8, 0, 0]
    ∧ win0_4.index t = ![t.val / 8, 1, t.val % 8, 0, 0] ∧ win0_5.index t = ![t.val / 8, 2, t.val % 8, 0, 0]
    ∧ win0_6.index t = ![t.val / 8, 3, t.val % 8, 0, 0] ∧ win0_7.index t = ![0, 0] ∧ win0_8.index t = ![0, 0]
    ∧ win0_9.index t = ![0, 0] ∧ win0_10.index t = ![0, 0] ∧ win0_11.index t = ![t.val / 8, t.val % 8, 0, 0] := by decide +kernel

/-- What the kernel's two comparisons select, over the grid's points. -/
theorem sel : ∀ t : Fin grid0.N,
    (Scalar.cmpi CmpIPredicate.sgt (BitVec.ofNat 32 (grid0.coords t 1).val) 0#32 = if t.val % 8 = 0 then 0#1 else 1#1)
    ∧ (Scalar.cmpi CmpIPredicate.slt (BitVec.ofNat 32 (grid0.coords t 1).val) 7#32 = if t.val % 8 = 7 then 0#1 else 1#1) := by decide +kernel

/-- The arrays a device is launched on. -/
abbrev vM (c : Dev nD) : Vec Ideal Rows .f32 := m ((c : Thread nD τ).loc main_arg0)
abbrev aM (c : Dev nD) : Vec Ideal Heads .f32 := m ((c : Thread nD τ).loc main_arg1)
abbrev wlM (c : Dev nD) : Vec Ideal Taps .f32 := m ((c : Thread nD τ).loc main_arg2)
abbrev blM (c : Dev nD) : Vec Ideal Bi .f32 := m ((c : Thread nD τ).loc main_arg3)
abbrev woM (c : Dev nD) : Vec Ideal Wt .f32 := m ((c : Thread nD τ).loc main_arg4)
abbrev boM (c : Dev nD) : Vec Ideal Bi .f32 := m ((c : Thread nD τ).loc main_arg5)

section Point
variable (c : Dev nD) (t : Fin cfg0.N)

theorem n_lt : t.val / 8 < 2 := by have : t.val < 16 := t.isLt; omega

/-- A row of a grid point's band is a row of the image. -/
theorem row_at (r : Fin 28) (x : Fin 226) (k : Fin 96) (q : Nat) (hq : q = t.val % 8 * 28 + r.val + 1) :
    iblk m c 1 t (ix4 0 r x k) = pix (vM m c) ⟨t.val / 8, n_lt t⟩ q x k := by
  unfold pix
  have := r.isLt
  rw [dif_pos (by omega)]
  subst hq
  blk_ext [iblk, V, idx t]

/-- The row above it is the image's, zero above the first. -/
theorem rowU_at (r : Fin 28) (x : Fin 226) (k : Fin 96) (q : Nat) (hq : q = t.val % 8 * 28 + r.val) :
    rowU (grid0.coords t) (iblk m c 0 t) (iblk m c 1 t) r x k = pix (vM m c) ⟨t.val / 8, n_lt t⟩ q x k := by
  unfold rowU
  have := r.isLt
  by_cases h : r.val < 1
  · rw [dif_pos h, (sel t).1]
    unfold pix
    by_cases h' : t.val % 8 = 0
    · rw [if_pos h', dif_neg (by omega)]
      rfl
    · rw [if_neg h', dif_pos (by omega)]
      subst hq
      show iblk m c 0 t _ = _
      blk_ext [iblk, V, idx t]
  · rw [dif_neg h]
    exact row_at m c t _ x k q (by dsimp only; omega)

/-- The row below it is the image's, zero below the last. -/
theorem rowD_at (r : Fin 28) (x : Fin 226) (k : Fin 96) (q : Nat) (hq : q = t.val % 8 * 28 + r.val + 2) :
    rowD (grid0.coords t) (iblk m c 1 t) (iblk m c 2 t) r x k = pix (vM m c) ⟨t.val / 8, n_lt t⟩ q x k := by
  unfold rowD
  have := r.isLt
  by_cases h : r.val < 27
  · rw [dif_pos h]
    exact row_at m c t _ x k q (by dsimp only; omega)
  · rw [dif_neg h, (sel t).2]
    unfold pix
    by_cases h' : t.val % 8 = 7
    · rw [if_pos h', dif_neg (by omega)]
      rfl
    · rw [if_neg h', dif_pos (by omega)]
      subst hq
      show iblk m c 2 t _ = _
      blk_ext [iblk, V, idx t]

/-- The four head windows' blocks. -/
def headBlk : Fin 4 → Vec Ideal S1x1x28x224x24 .f32
  | 0 => iblk m c 3 t
  | 1 => iblk m c 4 t
  | 2 => iblk m c 5 t
  | 3 => iblk m c 6 t

/-- A head window's block is its head's band of rows. -/
theorem head_at (j : Fin 4) (r : Fin 28) (w : Fin 224) (d : Fin 24) :
    headBlk m c t j (ix5 0 0 r w d)
      = aM m c (ix5 ⟨t.val / 8, n_lt t⟩ j ⟨t.val % 8 * 28 + r.val, by omega⟩ w d) := by
  match j with
  | 0 => show iblk m c 3 t _ = _; blk_ext [iblk, V, idx t]
  | 1 => show iblk m c 4 t _ = _; blk_ext [iblk, V, idx t]
  | 2 => show iblk m c 5 t _ = _; blk_ext [iblk, V, idx t]
  | 3 => show iblk m c 6 t _ = _; blk_ext [iblk, V, idx t]

/-- The taps' weights, nine rows. -/
theorem tap_at (j : Fin 9) (k : Fin 96) (dy dx : Fin 3) (hj : j.val = 3 * dy.val + dx.val) :
    iblk m c 7 t (ix2 j k) = wlM m c (ix4 k 0 dy dx) := by
  show V m c main_v1 _ = _
  entry_read
  pointwise
  blk_ext [idx t]

/-- The depthwise bias. -/
theorem bl_at (k : Fin 96) : iblk m c 8 t (ix2 0 k) = blM m c (ix1 k) := by
  show V m c main_v2 _ = _
  entry_read
  pointwise
  blk_ext [idx t]

/-- The projection's weights, transposed. -/
theorem wo_at (k o : Fin 96) : iblk m c 9 t (ix2 k o) = woM m c (ix2 o k) := by
  show V m c main_v3 _ = _
  entry_read
  pointwise
  blk_ext [idx t]

/-- The projection's bias. -/
theorem bo_at (o : Fin 96) : iblk m c 10 t (ix2 0 o) = boM m c (ix1 o) := by
  show V m c main_v4 _ = _
  entry_read
  pointwise
  blk_ext [idx t]

/-- What a grid point writes back is the result at its pixels. -/
theorem blk (r : Fin 28) (w : Fin 224) (o : Fin 96) :
    out0_11 (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix4 0 r w o)
      = res (vM m c) (aM m c) (wlM m c) (blM m c) (woM m c) (boM m c) ⟨t.val / 8, n_lt t⟩ ⟨t.val % 8 * 28 + r.val, by omega⟩ w o := by
  refine (out11 _ _ _ _ (headBlk m c t) _ _ _ _ r w o).trans ?_
  unfold res mix tap
  refine congrArg₂ (· + ·) (Finset.sum_congr rfl fun k _ => congrArg₂ (· * ·) ?_ (wo_at m c t k o)) (bo_at m c t o)
  rw [head_at, tap_at m c t 0 k 0 0 rfl, tap_at m c t 1 k 0 1 rfl, tap_at m c t 2 k 0 2 rfl, tap_at m c t 3 k 1 0 rfl,
    tap_at m c t 4 k 1 1 rfl, tap_at m c t 5 k 1 2 rfl, tap_at m c t 6 k 2 0 rfl, tap_at m c t 7 k 2 1 rfl, tap_at m c t 8 k 2 2 rfl,
    bl_at]
  simp only [rowU_at m c t r _ k _ rfl, row_at m c t r _ k _ rfl, rowD_at m c t r _ k _ rfl]
  simp only [Fin.val_zero, Fin.val_one, Fin.val_two, Nat.zero_add, Nat.add_zero]

end Point

/-- The result array after the run. -/
theorem arr11 (c : Dev nD) :
    (dats m 0 c).arrAt 11 cfg0.N = out (vM m c) (aM m c) (wlM m c) (blM m c) (woM m c) (boM m c) := by
  refine (dats m 0 c).arrAt_eq_of_covers 11 _ (by decide +kernel) fun t hf y => ?_
  blk_simp
  rw [after0_11]
  have ey : y = ix4 0 (⟨(y 1).val, (y 1).isLt⟩ : Fin 28) (⟨(y 2).val, (y 2).isLt⟩ : Fin 224) (⟨(y 3).val, (y 3).isLt⟩ : Fin 96) := by
    funext a
    apply Fin.ext
    match a with
    | ⟨0, _⟩ => have : (y 0).val < 1 := (y 0).isLt; show (y 0).val = 0; omega
    | ⟨1, _⟩ => rfl
    | ⟨2, _⟩ => rfl
    | ⟨3, _⟩ => rfl
  rw [ey, blk, ← ey]
  unfold out
  refine res_congr _ _ _ _ _ _ ?_ ?_ ?_ ?_ <;> blk_simp [idx t]

end Cert.LepeIdeal.Hand

end
-- ==== Proof.LepeRef.lean ====
/-
  The last call's reference, read index by index: its result is `LepeSpec.out`.
-/
module

public import proofs.«01_k».proof.Proof.Gen.LepeRefIdeal.Run
public import proofs.«01_k».proof.Proof.LepeSpec
public import Idealize.ShloMosaic.Lib.KernelVsHost

@[expose] public section

set_option maxRecDepth 16384

noncomputable section

namespace Cert.LepeRefIdeal.Hand

open Cert.LepeRefIdeal Cert.LepeRefIdeal.Gen Cert.LepeSpec Idealize.ShloMosaic Idealize.ShloMosaic.TcCoe Idealize.SL.Sem

variable (m : (ℓ : Loc nD τ sig) → Buf (Elt Ideal) ℓ) (ρ : Dev nD → PrngReg)

section Values
variable (v : FVec Ideal S2x224x226x96 .f32) (a : FVec Ideal S2x4x224x224x24 .f32) (wl : FVec Ideal S96x1x3x3 .f32) (bl bo : FVec Ideal S96 .f32)
  (wo : FVec Ideal S96x96 .f32) (z : FVec Ideal S_ .f32)

/-- The image with a zero row before and after it, channel-major. -/
theorem pad_apply (hz : z = fun _ => 0) (n : Fin 2) (k : Fin 96) (r c : Fin 226) :
    transpose S2x96x226x226 [0, 3, 1, 2] (pad S2x226x226x96 ![0, 1, 0, 0] ![0, 1, 0, 0] ![0, 0, 0, 0] v z
      pads_S2x224x226x96_S2x226x226x96_000_110_000_000 h_S_) transposes_S2x226x226x96_S2x96x226x226_0_3_1_2 (ix4 n k r c)
      = pix v n r.val c k := by
  pointwise [hz]
  unfold pix
  by_cases h : 1 ≤ r.val ∧ r.val < 225
  · rw [dif_pos h, dif_pos (by omega)]
  · rw [dif_neg h, dif_neg (by omega)]

/-- A tap: the padded image cut at an offset, times that offset's weights. -/
theorem tap_apply (hz : z = fun _ => 0) (dy dx : Fin 3) (hs : S2x96x226x226.Slices ![0, 0, dy.val, dx.val] S2x96x224x224)
    (hw : S96x1x3x3.Slices ![0, 0, dy.val, dx.val] S96x1x1x1) (n : Fin 2) (k : Fin 96) (h w : Fin 224) :
    mulf (extractStridedSlice S2x96x224x224 ![0, 0, dy.val, dx.val] (transpose S2x96x226x226 [0, 3, 1, 2]
        (pad S2x226x226x96 ![0, 1, 0, 0] ![0, 1, 0, 0] ![0, 0, 0, 0] v z pads_S2x224x226x96_S2x226x226x96_000_110_000_000 h_S_)
          transposes_S2x226x226x96_S2x96x226x226_0_3_1_2) hs)
      (broadcastInDim S2x96x224x224 ![0, 1, 2, 3] bcast_S1x96x1x1_S2x96x224x224_0_1_2_3 (broadcastInDim S1x96x1x1 ![1]
        bcast_S96_S1x96x1x1_1 (shapeCast S96 (extractStridedSlice S96x1x1x1 ![0, 0, dy.val, dx.val] wl hw) shapeCasts_S96x1x1x1_S96)))
      (ix4 n k h w) = tap v wl n h w k dy dx := by
  generalize hp : transpose S2x96x226x226 [0, 3, 1, 2] (pad S2x226x226x96 ![0, 1, 0, 0] ![0, 1, 0, 0] ![0, 0, 0, 0] v z
      pads_S2x224x226x96_S2x226x226x96_000_110_000_000 h_S_) transposes_S2x226x226x96_S2x96x226x226_0_3_1_2 = p
  have hp' : ∀ n k r c, p (ix4 n k r c) = pix v n r.val c k := by subst hp; exact pad_apply v z hz
  pointwise
  rw [hp']
  unfold tap
  dsimp only
  rw [Nat.add_comm h.val]

/-- The reference's result from its nine taps. -/
theorem res_eq (p00 p01 p02 p10 p11 p12 p20 p21 p22 : FVec Ideal S2x96x224x224 .f32)
    (h00 : ∀ n k h w, p00 (ix4 n k h w) = tap v wl n h w k 0 0) (h01 : ∀ n k h w, p01 (ix4 n k h w) = tap v wl n h w k 0 1)
    (h02 : ∀ n k h w, p02 (ix4 n k h w) = tap v wl n h w k 0 2) (h10 : ∀ n k h w, p10 (ix4 n k h w) = tap v wl n h w k 1 0)
    (h11 : ∀ n k h w, p11 (ix4 n k h w) = tap v wl n h w k 1 1) (h12 : ∀ n k h w, p12 (ix4 n k h w) = tap v wl n h w k 1 2)
    (h20 : ∀ n k h w, p20 (ix4 n k h w) = tap v wl n h w k 2 0) (h21 : ∀ n k h w, p21 (ix4 n k h w) = tap v wl n h w k 2 1)
    (h22 : ∀ n k h w, p22 (ix4 n k h w) = tap v wl n h w k 2 2) :
    transpose S2x224x224x96 [0, 2, 3, 1] (addf (F := Ideal) (φ := .f32) (transpose S2x96x224x224 [1, 0, 2, 3]
      (Host.dotGeneral (F := Ideal) dot_S96x96_S2x96x224x224_S96x2x224x224_1_1_0_023_n_n none wo
        (addf (shapeCast S2x96x224x224 (transpose S2x4x24x224x224 [0, 1, 4, 2, 3] a transposes_S2x4x224x224x24_S2x4x24x224x224_0_1_4_2_3)
            shapeCasts_S2x4x24x224x224_S2x96x224x224)
          (addf (addf (addf (addf (addf (addf (addf (addf (addf (addf (broadcastInDim S2x96x224x224 ![] bcast_S_S2x96x224x224
            (constant S_ .f32 0x00000000#32)) p00) p01) p02) p10) p11) p12) p20) p21) p22)
            (broadcastInDim S2x96x224x224 ![0, 1, 2, 3] bcast_S1x96x1x1_S2x96x224x224_0_1_2_3
              (broadcastInDim S1x96x1x1 ![1] bcast_S96_S1x96x1x1_1 bl))))) transposes_S96x2x224x224_S2x96x224x224_1_0_2_3)
      (broadcastInDim S2x96x224x224 ![0, 1, 2, 3] bcast_S1x96x1x1_S2x96x224x224_0_1_2_3
        (broadcastInDim S1x96x1x1 ![1] bcast_S96_S1x96x1x1_1 bo))) transposes_S2x96x224x224_S2x224x224x96_0_2_3_1
      = out v a wl bl wo bo := by
  funext i
  idx_vars i
  pointwise
  show _ = res v a wl bl wo bo i0 i1 i2 i3
  unfold res mix
  refine congrArg (· + _) (Finset.sum_congr rfl fun k _ => ?_)
  rw [h00, h01, h02, h10, h11, h12, h20, h21, h22, mul_comm]
  simp only [zero_add, add_assoc]

end Values

/-- The arrays a device is launched on. -/
abbrev vM (c : Dev nD) : Vec Ideal Rows .f32 := m ((c.tc : Thread nD τ).loc main_arg0)
abbrev aM (c : Dev nD) : Vec Ideal Heads .f32 := m ((c.tc : Thread nD τ).loc main_arg1)
abbrev wlM (c : Dev nD) : Vec Ideal Taps .f32 := m ((c.tc : Thread nD τ).loc main_arg2)
abbrev blM (c : Dev nD) : Vec Ideal Bi .f32 := m ((c.tc : Thread nD τ).loc main_arg3)
abbrev woM (c : Dev nD) : Vec Ideal Wt .f32 := m ((c.tc : Thread nD τ).loc main_arg4)
abbrev boM (c : Dev nD) : Vec Ideal Bi .f32 := m ((c.tc : Thread nD τ).loc main_arg5)

/-- The zero that pads. -/
theorem zero_eq : (sitofp .f32 (constantI S_ 32 0#32) : FVec Ideal S_ .f32) = fun _ => 0 := by
  funext i
  pointwise
  exact sitofp_zero

/-- The reference's run: the result array at its function of the arguments, which are unchanged. -/
theorem run : θ_run defs (onTc (τ := τ) (main (F := Ideal))) ⟨m, fun _ => 0, ρ⟩ fun r => ∀ c : Dev nD,
      r.2.mem ((c.tc : Thread nD τ).loc main_v77) = out (vM m c) (aM m c) (wlM m c) (blM m c) (woM m c) (boM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_eq (vM m c) (aM m c) (wlM m c) (blM m c) (boM m c) (woM m c)
        _ _ _ _ _ _ _ _ _
        (tap_apply (vM m c) (wlM m c) _ zero_eq 0 0 _ _) (tap_apply (vM m c) (wlM m c) _ zero_eq 0 1 _ _)
        (tap_apply (vM m c) (wlM m c) _ zero_eq 0 2 _ _) (tap_apply (vM m c) (wlM m c) _ zero_eq 1 0 _ _)
        (tap_apply (vM m c) (wlM m c) _ zero_eq 1 1 _ _) (tap_apply (vM m c) (wlM m c) _ zero_eq 1 2 _ _)
        (tap_apply (vM m c) (wlM m c) _ zero_eq 2 0 _ _) (tap_apply (vM m c) (wlM m c) _ zero_eq 2 1 _ _)
        (tap_apply (vM m c) (wlM m c) _ zero_eq 2 2 _ _)), (h c).2⟩)
    (Value.run (F := Ideal) m ρ)

end Cert.LepeRefIdeal.Hand

end
-- ==== Proof.LepeClaims.lean ====
/-
  The last call's claims: its program and its reference run and leave their arguments, and from equal arguments end
  with equal results.
-/
module

public import proofs.«01_k».proof.Defs
public import proofs.«01_k».proof.Proof.Gen.Lepe.Frame
public import proofs.«01_k».proof.Proof.LepeKer
public import proofs.«01_k».proof.Proof.LepeRef
public import Idealize.ShloMosaic.Lib.Quiescent

@[expose] public section

noncomputable section

namespace Cert.LepeClaims

open Cert.LepeSpec Idealize.ShloMosaic Idealize.ShloMosaic.TcCoe Idealize.SL.Sem

/-- The reference runs, leaves its arguments and ends quiescent. -/
theorem frame_ref : quiescent_LepeRefIdeal (hLepeRefIdeal := Cert.LepeRefIdeal.Gen.facts) := fun m ρ _ =>
  (θ_run Cert.LepeRefIdeal.defs _ _).mono
    (fun r h => ⟨fun c => (h c).2, Idealize.ShloMosaic.sem_eq_zero_of_no_sems (by decide) r.2⟩)
    (Cert.LepeRefIdeal.Value.run (F := Ideal) m ρ)

/-- The kernel's result array is the reference's. -/
theorem value : algebraic_LepeIdeal_LepeRefIdeal (hLepeIdeal := Cert.LepeIdeal.Gen.facts) (hLepeRefIdeal := Cert.LepeRefIdeal.Gen.facts) := by
  intro m ρ m' ρ' _ hagree
  refine ⟨fun c => out (Cert.LepeIdeal.Hand.vM m c) (Cert.LepeIdeal.Hand.aM m c) (Cert.LepeIdeal.Hand.wlM m c)
    (Cert.LepeIdeal.Hand.blM m c) (Cert.LepeIdeal.Hand.woM m c) (Cert.LepeIdeal.Hand.boM m c), ?_, ?_⟩
  · refine (θ_run Cert.LepeIdeal.defs _ _).mono (fun r h c => ?_) (Cert.LepeIdeal.Value.run_blocks (F := Ideal) m ρ)
    exact ⟨(h c).1.trans (Cert.LepeIdeal.Hand.arr11 m c), (h c).2⟩
  · refine (θ_run Cert.LepeRefIdeal.defs _ _).mono (fun r h c => ?_) (Cert.LepeRefIdeal.Hand.run m' ρ')
    obtain ⟨h0, ha⟩ := h c
    obtain ⟨e0, e1, e2, e3, e4, e5⟩ := hagree c
    have e0' : Cert.LepeRefIdeal.Hand.vM m' c = Cert.LepeIdeal.Hand.vM m c := e0
    have e1' : Cert.LepeRefIdeal.Hand.aM m' c = Cert.LepeIdeal.Hand.aM m c := e1
    have e2' : Cert.LepeRefIdeal.Hand.wlM m' c = Cert.LepeIdeal.Hand.wlM m c := e2
    have e3' : Cert.LepeRefIdeal.Hand.blM m' c = Cert.LepeIdeal.Hand.blM m c := e3
    have e4' : Cert.LepeRefIdeal.Hand.woM m' c = Cert.LepeIdeal.Hand.woM m c := e4
    have e5' : Cert.LepeRefIdeal.Hand.boM m' c = Cert.LepeIdeal.Hand.boM m c := e5
    rw [e0', e1', e2', e3', e4', e5'] at h0
    exact ⟨h0, ha⟩

end Cert.LepeClaims

end
-- ==== Proof.RoutePick.lean ====
/-
  The place of the greatest entry of a list, two ways: the least of the numbers of the entries at or above the maximum, and
  the first place of a stable sort; and so the second greatest, with the greatest struck out.
-/
module

public import proofs.«01_k».proof.Proof.AttnSort
public import proofs.«01_k».proof.Proof.AttnMath

@[expose] public section

set_option maxRecDepth 16384

noncomputable section

namespace Cert.RoutePick

open Idealize.ShloMosaic Cert.AttnSort

section Stable
variable {n : Nat} (f : Fin n → Ideal .f32)

/-- One place comes ahead of another: a greater entry, or an equal one further to the front. -/
def Ahead (i j : Fin n) : Prop := (f j : EReal) < f i ∨ ((f j : EReal) = f i ∧ i < j)

/-- The same as a test. -/
def ahead (i j : Fin n) : Bool := @decide (Ahead f i j) (Classical.propDecidable _)

theorem ahead_iff (i j : Fin n) : ahead f i j = true ↔ Ahead f i j :=
  @decide_eq_true_iff _ (Classical.propDecidable _)

theorem ahead_false (i j : Fin n) : ahead f i j = false ↔ ¬ Ahead f i j := by
  rw [← ahead_iff, Bool.not_eq_true]

/-- No two places come each ahead of the other. -/
theorem asymm (i j : Fin n) (h : Ahead f i j) : ¬ Ahead f j i := by
  rintro (h' | ⟨h', l'⟩) <;> rcases h with h | ⟨h, l⟩
  · exact lt_asymm h h'
  · exact h'.ne h.symm
  · exact h.ne h'.symm
  · exact lt_asymm l l'

/-- Of two places one comes ahead. -/
theorem total (i j : Fin n) (h : i ≠ j) (hn : ¬ Ahead f j i) : Ahead f i j := by
  rcases lt_trichotomy (f i : EReal) (f j) with e | e | e
  · exact absurd (.inl e) hn
  · rcases lt_or_gt_of_ne h with l | l
    · exact .inr ⟨e.symm, l⟩
    · exact absurd (.inr ⟨e, l⟩) hn
  · exact .inl e

theorem not_trans (a b c : Fin n) (hab : ¬ Ahead f a b) (hbc : ¬ Ahead f b c) : ¬ Ahead f a c := by
  rintro (h | ⟨h, l⟩)
  · by_cases e : (f b : EReal) < f a
    · exact hab (.inl e)
    · exact hbc (.inl (lt_of_lt_of_le h (not_lt.mp e)))
  · by_cases e : (f b : EReal) = f a
    · by_cases l' : a < b
      · exact hab (.inr ⟨e, l'⟩)
      · exact hbc (.inr ⟨h.trans e.symm, lt_of_le_of_lt (not_lt.mp l') l⟩)
    · rcases lt_or_gt_of_ne e with e | e
      · exact hab (.inl e)
      · exact hbc (.inl (h ▸ e))

/-- A stable sort by the entries sorts by `Ahead`. -/
theorem sort_eq : ∀ l : List (Fin n), l.Pairwise (· < ·) → stableSort (before f) l = stableSort (ahead f) l := by
  intro l hl
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    rw [Bool.eq_iff_iff, before_iff, ahead_iff]
    exact ⟨.inl, fun h => h.resolve_right fun h => lt_asymm h.2 (hl.1 b hb')⟩

theorem rank_ahead (i j : Fin n) (h : i < j) : Ahead f (rank f i) (rank f j) := by
  have e := sortedFrom_noInversion (ahead f) (ahead f) (fun a b hab => (ahead_false f b a).2 (asymm f a b ((ahead_iff f a b).1 hab)))
    (fun _ _ h => h) (fun a b c hab hbc => (ahead_false f a c).2
      (not_trans f a b c ((ahead_false f a b).1 hab) ((ahead_false f b c).1 hbc))) i j h
  have s : sortedFrom (before f) = sortedFrom (ahead f) := by
    funext k
    unfold sortedFrom
    have q : sortPositions n (before f) = sortPositions n (ahead f) := sort_eq f _ (List.pairwise_lt_finRange n)
    rw [List.get_of_eq q]
    rfl
  refine total f _ _ (fun e => h.ne ((rank f).injective e)) ?_
  rw [rank_eq, rank_eq, s]
  exact (ahead_false f _ _).1 e

/-- A place ahead of all the others. -/
def Best (p : Fin n) : Prop := ∀ j, j ≠ p → Ahead f p j

/-- The sort's first place is ahead of all the others. -/
theorem best_first (hn : 0 < n) : Best f (rank f ⟨0, hn⟩) := by
  intro j hj
  obtain ⟨i, rfl⟩ := (rank f).surjective j
  refine rank_ahead f _ _ (lt_of_le_of_ne (Nat.zero_le _) fun e => hj (by rw [e]))

/-- A list with one place struck out. -/
def strike (p : Fin n) : Fin n → Ideal .f32 := fun j => if j = p then (⊥ : EReal) else f j

/-- The sort's second place is, with the first struck out. -/
theorem best_second (hn : 1 < n) (h : ⊥ < (f (rank f ⟨1, hn⟩) : EReal)) :
    Best (strike f (rank f ⟨0, by omega⟩)) (rank f ⟨1, hn⟩) := by
  have ne : rank f ⟨1, hn⟩ ≠ rank f ⟨0, by omega⟩ := fun e => absurd (congrArg Fin.val ((rank f).injective e)) (by simp)
  intro j hj
  obtain ⟨i, rfl⟩ := (rank f).surjective j
  unfold Ahead strike
  rw [if_neg ne]
  by_cases e : rank f i = rank f ⟨0, by omega⟩
  · rw [if_pos e]
    exact .inl h
  · rw [if_neg e]
    refine rank_ahead f _ _ ?_
    have i0 : i.val ≠ 0 := fun z => e (congrArg (rank f) (Fin.ext z))
    have i1 : i.val ≠ 1 := fun z => hj (congrArg (rank f) (Fin.ext z))
    show 1 < i.val
    omega

end Stable

theorem minsi_def (x y : BitVec 32) : IntOp.minsi x y = if x.slt y then x else y := rfl

/-- A fold of signed minima is a word of the list below all the others and the start. -/
theorem fold_minsi {ι : Type} [Fintype ι] [DecidableEq ι] (g : ι → BitVec 32) (b : BitVec 32) (p : ι) (hb : (g p).toInt ≤ b.toInt)
    (h : ∀ j, (g p).toInt ≤ (g j).toInt) : Finset.univ.fold IntOp.minsi b g = g p := by
  have key : ∀ s : Finset ι, (g p).toInt ≤ (s.fold IntOp.minsi b g).toInt ∧ (p ∈ s → s.fold IntOp.minsi b g = g p) := by
    intro s
    induction s using Finset.induction_on with
    | empty => exact ⟨hb, fun h => absurd h (Finset.notMem_empty p)⟩
    | insert a s ha ih =>
      rw [Finset.fold_insert ha]
      refine ⟨?_, fun hp => ?_⟩
      · rw [minsi_def]
        split
        · exact h a
        · exact ih.1
      · rw [minsi_def]
        rcases Finset.mem_insert.mp hp with rfl | hs
        · split
          · rfl
          · rename_i hlt
            refine BitVec.eq_of_toInt_eq (le_antisymm ?_ ih.1)
            rw [BitVec.slt, decide_eq_true_iff] at hlt
            exact not_lt.mp hlt
        · rw [ih.2 hs]
          split
          · rename_i hlt
            rw [BitVec.slt, decide_eq_true_iff] at hlt
            exact absurd (h a) (not_le.mpr hlt)
          · rfl
  exact (key Finset.univ).2 (Finset.mem_univ p)

/-- The number of an entry at or above the maximum, or 784. -/
def number (f : Fin 784 → Ideal .f32) (j : Fin 784) : BitVec 32 :=
  if Finset.univ.fold max (⊥ : EReal) f ≤ f j then BitVec.ofNat 32 j.val else 784#32

theorem toInt_number (k : Nat) (h : k < 785) : (BitVec.ofNat 32 k).toInt = k := by
  have t : (BitVec.ofNat 32 k).toNat = k := by rw [BitVec.toNat_ofNat]; omega
  rw [BitVec.toInt_eq_toNat_of_lt (by omega), t]

/-- The least of those numbers is the place ahead of all the others. -/
theorem pick (f : Fin 784 → Ideal .f32) (p : Fin 784) (h : Best f p) :
    Finset.univ.fold IntOp.minsi 2147483647#32 (number f) = BitVec.ofNat 32 p.val := by
  have hle : ∀ j, (f j : EReal) ≤ f p := fun j => by
    by_cases e : j = p
    · rw [e]
    · rcases h j e with l | l
      · exact l.le
      · exact l.1.le
  have top : Finset.univ.fold max (⊥ : EReal) f = f p := Cert.AttnMath.fold_eq f _ p rfl hle
  have np : number f p = BitVec.ofNat 32 p.val := by
    unfold number
    rw [top, if_pos le_rfl]
  have i : (BitVec.ofNat 32 p.val).toInt = p.val := toInt_number _ (by omega)
  refine (fold_minsi (number f) _ p ?_ fun j => ?_).trans np
  · rw [np, i]
    have : (2147483647#32 : BitVec 32).toInt = 2147483647 := by decide
    omega
  · rw [np, i]
    unfold number
    rw [top]
    split
    · rename_i e
      rw [toInt_number _ (by omega)]
      by_cases hj : j = p
      · rw [hj]
      · rcases h j hj with l | l
        · exact absurd e (not_le.mpr l)
        · exact Int.ofNat_le.mpr l.2.le
    · rw [show (784#32 : BitVec 32).toInt = 784 by decide]
      omega

end Cert.RoutePick

end
-- ==== Proof.RouteSpec.lean ====
/-
  The routing, entry by entry: the scores of each region against every region of its image, and the numbers of the two of
  greatest score.
-/
module

public import proofs.«01_k».proof.Proof.AttnSort
public import Idealize.ShloMosaic.Lib.Pointwise

@[expose] public section

noncomputable section

namespace Cert.RouteSpec

open Idealize.ShloMosaic Cert.AttnSort

abbrev Pool : Shape := ⟨3, ![56, 28, 192]⟩
abbrev Nums : Shape := ⟨2, ![2, 784]⟩

/-- A region's mean query (channels below 96) or key (the others), regions counted through both images. -/
def mean (p : Vec Ideal Pool .f32) (b r k : Nat) (h : b * 784 + r < 1568) (hk : k < 192) : EReal :=
  p (ix3 ⟨(b * 784 + r) / 28, by omega⟩ ⟨(b * 784 + r) % 28, by omega⟩ ⟨k, hk⟩)

/-- The scores of a region against the regions of its image. -/
def score (p : Vec Ideal Pool .f32) (b : Fin 2) (r : Fin 784) (n : Fin 784) : Ideal .f32 :=
  (∑ k : Fin 96, mean p b.val r.val k.val (by omega) (by omega) * mean p b.val n.val (96 + k.val) (by omega) (by omega) : EReal)

/-- The number of the region that comes `i`th by score. -/
def out (p : Vec Ideal Pool .f32) (i : Fin 784) : IVec Nums 32 := fun y => BitVec.ofNat 32 (rank (score p (y 0) (y 1)) i).val

end Cert.RouteSpec

end
-- ==== Proof.RouteKer.lean ====
/-
  The routing call's two result arrays, read off its run: what each grid point writes back is its block of the functions of
  `RouteSpec.lean`, and the blocks tile the arrays.
-/
module

public import proofs.«01_k».proof.Proof.Gen.RouteIdeal.Frame
public import proofs.«01_k».proof.Proof.RoutePick
public import proofs.«01_k».proof.Proof.RouteSpec
public import Idealize.ShloMosaic.Lib.Pipeline.Value
public import Idealize.ShloMosaic.Lib.Pipeline.ValueKit
public import Idealize.ShloMosaic.Lib.Pipeline.ValueKit.Acc
public import Idealize.ShloMosaic.Lib.Pipeline.Covers

@[expose] public section

set_option maxRecDepth 16384

noncomputable section

namespace Cert.RouteIdeal.Hand

open Cert.RouteIdeal Cert.RouteIdeal.Gen Cert.RoutePick Cert.AttnSort Idealize.ShloMosaic Idealize.ShloMosaic.TcCoe Idealize.SL.Sem

section Payloads
variable (s : FVec Ideal S112x784 .f32)

/-- The rows' maxima. -/
def tops : FVec Ideal S112x1 .f32 :=
  shapeCast S112x1 (multiReduction .maximumf [1] S112 s 0xFF800000#32 reduces_S112x784_S112 (.inl rfl) rfl) shapeCasts_S112_S112x1

/-- The numbers of the entries at or above them. -/
def numbers : IVec S112x784 32 :=
  select (cmpf .oge s (broadcastTo S112x784 (tops s) broadcasts_S112x1_S112x784)) (iota .tc S112x784 32 [1] iota_S112x784_d1_w32)
    (broadcast S112x784 784#32)

/-- The least of them. -/
def least : IVec S112x1 32 :=
  shapeCast S112x1 (multiReductionI .minsi [1] S112 (numbers s) 2147483647#32 reduces_S112x784_S112 rfl) shapeCasts_S112_S112x1

/-- The entries with the numbered one of each row struck out. -/
def struck (n : IVec S112x1 32) : FVec Ideal S112x784 .f32 :=
  select (cmpi .eq (iota .tc S112x784 32 [1] iota_S112x784_d1_w32) (broadcastTo S112x784 n broadcasts_S112x1_S112x784))
    (broadcast S112x784 (Named.named κ "mask" 0xF149F2CA#32)) s

theorem tops_apply (x : Fin 112) : tops s (ix2 x 0) = Finset.univ.fold max (⊥ : EReal) (fun n => s (ix2 x n)) := by
  have z : Ideal.ofBits .f32 0xFF800000#32 = ⊥ := by simp [Ideal.ofBits, Ideal.ieee]
  pointwise [tops]
  rw [z]

theorem numbers_apply (x : Fin 112) (n : Fin 784) : numbers s (ix2 x n) = number (fun n => s (ix2 x n)) n := by
  unfold numbers number
  rw [← tops_apply]
  generalize tops s = T
  pointwise

theorem least_apply (x : Fin 112) (p : Fin 784) (h : Best (fun n => s (ix2 x n)) p) : least s (ix2 x 0) = BitVec.ofNat 32 p.val := by
  rw [← pick _ p h]
  have e : (fun n => numbers s (ix2 x n)) = number (fun n => s (ix2 x n)) := funext (numbers_apply s x)
  rw [← e]
  unfold least
  generalize numbers s = N
  pointwise

theorem struck_apply (n : IVec S112x1 32) (x : Fin 112) (p : Fin 784) (h : n (ix2 x 0) = BitVec.ofNat 32 p.val) (j : Fin 784) :
    struck s n (ix2 x j) = strike (fun n => s (ix2 x n)) p j := by
  unfold struck strike
  have hj : BitVec.ofNat 32 j.val = BitVec.ofNat 32 p.val ↔ j = p := by
    refine ⟨fun e => Fin.ext ?_, fun e => by rw [e]⟩
    have := congrArg BitVec.toNat e
    rw [BitVec.toNat_ofNat, BitVec.toNat_ofNat] at this
    omega
  pointwise
  rw [h]
  by_cases e : j = p
  · rw [if_pos e]
    have q : IntOp.cmpi .eq (BitVec.ofNat 32 j.val) (BitVec.ofNat 32 p.val) = 1#1 := by rw [e]; simp [IntOp.cmpi]
    rw [q]
    rfl
  · rw [if_neg e]
    have q : IntOp.cmpi .eq (BitVec.ofNat 32 j.val) (BitVec.ofNat 32 p.val) = 0#1 := by
      have := mt hj.1 e
      simp only [IntOp.cmpi, beq_eq_false_iff_ne.2 this]; rfl
    rw [q]
    rfl

theorem pay2_eq (v0 : Vec Ideal S112x96 .f32) (v2 : Vec Ideal S1x784x96 .f32) : k0_pay2 v0 v2 = least (k0_pay1 v0 v2) := rfl

theorem pay4_eq (v0 : Vec Ideal S112x96 .f32) (v2 : Vec Ideal S1x784x96 .f32) : k0_pay4 v0 v2 =
    shapeCast S1x112x1 (least (struck (k0_pay1 v0 v2) (least (k0_pay1 v0 v2)))) shapeCasts_S112x1_S1x112x1 := rfl

theorem pay1_apply (v0 : Vec Ideal S112x96 .f32) (v2 : Vec Ideal S1x784x96 .f32) (x : Fin 112) (n : Fin 784) :
    k0_pay1 v0 v2 (ix2 x n) = ∑ k : Fin 96, v0 (ix2 x k) * v2 (ix3 0 n k) := by
  pointwise [k0_pay1]

end Payloads

section Blocks
variable (x0 : Vec Ideal S112x192 .f32) (x1 : Vec Ideal S1x784x192 .f32)

/-- A grid point's scores. -/
def blkScore (x : Fin 112) (n : Fin 784) : Ideal .f32 :=
  (∑ k : Fin 96, x0 (ix2 x ⟨k.val, by omega⟩) * x1 (ix3 0 n ⟨96 + k.val, by omega⟩) : EReal)

theorem scores_eq (x : Fin 112) : (fun n => k0_pay1 (View.ld x0 r0_0) (View.ld x1 r0_1) (ix2 x n)) = blkScore x0 x1 x := by
  funext n
  rw [pay1_apply]
  unfold blkScore
  refine Finset.sum_congr rfl fun k _ => ?_
  pointwise

/-- The first result's block of a grid point. -/
theorem out2 (x : Fin 112) : out0_2 x0 x1 (ix3 0 x 0) = BitVec.ofNat 32 (rank (blkScore x0 x1 x) ⟨0, by decide⟩).val := by
  have e := scores_eq x0 x1 x
  unfold out0_2
  frame_out
  generalize View.ld x0 r0_0 = u at e ⊢
  generalize View.ld x1 r0_1 = w at e ⊢
  unfold k0_pay3
  rw [pay2_eq]
  have b := least_apply (k0_pay1 u w) x (rank (blkScore x0 x1 x) ⟨0, by decide⟩) (by rw [e]; exact best_first _ _)
  generalize least (k0_pay1 u w) = l at b ⊢
  rw [← b]
  pointwise

/-- The second result's block of a grid point, at a region with a second score above `-∞`. -/
theorem out3 (x : Fin 112) (h : ⊥ < (blkScore x0 x1 x (rank (blkScore x0 x1 x) ⟨1, by decide⟩) : EReal)) :
    out0_3 x0 x1 (ix3 0 x 0) = BitVec.ofNat 32 (rank (blkScore x0 x1 x) ⟨1, by decide⟩).val := by
  have e := scores_eq x0 x1 x
  unfold out0_3
  frame_out
  generalize View.ld x0 r0_0 = u at e ⊢
  generalize View.ld x1 r0_1 = w at e ⊢
  rw [pay4_eq]
  have b := least_apply (k0_pay1 u w) x (rank (blkScore x0 x1 x) ⟨0, by decide⟩) (by rw [e]; exact best_first _ _)
  generalize least (k0_pay1 u w) = l at b ⊢
  have s : (fun n => struck (k0_pay1 u w) l (ix2 x n)) = strike (blkScore x0 x1 x) (rank (blkScore x0 x1 x) ⟨0, by decide⟩) := by
    rw [← e]
    exact funext (struck_apply _ l x _ (by rw [e]; exact b))
  have b2 := least_apply (struck (k0_pay1 u w) l) x (rank (blkScore x0 x1 x) ⟨1, by decide⟩) (by rw [s]; exact best_second _ _ h)
  generalize least (struck (k0_pay1 u w) l) = l2 at b2 ⊢
  rw [← b2]
  pointwise

end Blocks

section Arrays
variable (m : (ℓ : Loc nD τ sig) → Buf (Elt Ideal) ℓ)

/-- The windows' block indices over the grid's points. -/
theorem idx : ∀ t : Fin grid0.N, win0_0.index t = ![t.val, 0] ∧ win0_1.index t = ![t.val / 7, 0, 0]
    ∧ win0_2.index t = ![t.val, 0, 0] ∧ win0_3.index t = ![t.val, 0, 0] := by decide +kernel

abbrev pM (c : Dev nD) : Vec Ideal RouteSpec.Pool .f32 := m ((c : Thread nD τ).loc main_arg0)

/-- The number at place `i` of the order of a region's scores, regions counted by grid point and row. -/
def nums (p : Vec Ideal RouteSpec.Pool .f32) (i : Fin 784) : IVec S14x112x1 32 := fun y =>
  BitVec.ofNat 32 (rank (RouteSpec.score p
    ⟨((y 0).val * 112 + (y 1).val) / 784, by have h0 : (y 0).val < 14 := (y 0).isLt; have h1 : (y 1).val < 112 := (y 1).isLt; omega⟩
    ⟨((y 0).val * 112 + (y 1).val) % 784, by omega⟩) i).val

/-- What a buffer holds when the call starts. -/
theorem entry (c : Dev nD) (b : Ref sig .tc) :
    V m c b = StableHlo.after hostOps0 (fun b => m (c, b)) (Proc.devRef .tc b) := rfl

/-- A grid point's scores are those of its regions. -/
theorem blk (c : Dev nD) (t : Fin cfg0.N) (x : Fin 112) (b : Fin 2) (r : Fin 784) (h : b.val * 784 + r.val = t.val * 112 + x.val) :
    blkScore (iblk m c 0 t) (iblk m c 1 t) x = RouteSpec.score (pM m c) b r := by
  have ht : t.val < 14 := t.isLt
  have hb : b.val = t.val / 7 := by omega
  funext n
  unfold blkScore RouteSpec.score
  refine Finset.sum_congr rfl fun k _ => ?_
  have e0 : iblk m c 0 t (ix2 x ⟨k.val, by omega⟩) = RouteSpec.mean (pM m c) b.val r.val k.val (by omega) (by omega) := by
    show V m c main_v0 _ = _
    rw [entry m c main_v0]
    entry_read
    unfold RouteSpec.mean
    pointwise
    blk_ext [idx t]
  have e1 : iblk m c 1 t (ix3 0 n ⟨96 + k.val, by omega⟩) = RouteSpec.mean (pM m c) b.val n.val (96 + k.val) (by omega) (by omega) := by
    show V m c main_v1 _ = _
    rw [entry m c main_v1]
    entry_read
    unfold RouteSpec.mean
    pointwise
    blk_ext [idx t]
  rw [e0, e1]

/-- Indices of a column's entries are equal when their two coordinates are. -/
theorem nums_congr (p : Vec Ideal RouteSpec.Pool .f32) (i : Fin 784) (b b' : Fin 2) (r r' : Fin 784) (hb : b.val = b'.val)
    (hr : r.val = r'.val) : BitVec.ofNat 32 (rank (RouteSpec.score p b r) i).val = BitVec.ofNat 32 (rank (RouteSpec.score p b' r') i).val := by
  rw [Fin.ext hb, Fin.ext hr]

/-- A row of a block of a result. -/
theorem row_eq (y : S1x112x1.Idx) : y = ix3 0 (⟨(y 1).val, (y 1).isLt⟩ : Fin 112) 0 := by
  funext a
  apply Fin.ext
  match a with
  | ⟨0, _⟩ => have : (y 0).val < 1 := (y 0).isLt; show (y 0).val = 0; omega
  | ⟨1, _⟩ => rfl
  | ⟨2, _⟩ => have : (y 2).val < 1 := (y 2).isLt; show (y 2).val = 0; omega

/-- The first result array after the run. -/
theorem arr2 (c : Dev nD) : (dats m 0 c).arrAt 2 cfg0.N = nums (pM m c) ⟨0, by decide⟩ := by
  refine (dats m 0 c).arrAt_eq_of_covers 2 _ (by decide +kernel) fun t hf y => ?_
  have h1 : (y 1).val < 112 := (y 1).isLt
  have ht : t.val < 14 := t.isLt
  blk_simp
  rw [after0_2, row_eq y, out2, ← row_eq y, blk m c t _ ⟨(t.val * 112 + (y 1).val) / 784, by omega⟩
    ⟨(t.val * 112 + (y 1).val) % 784, by omega⟩ (by dsimp only; omega)]
  unfold nums
  refine nums_congr _ _ _ _ _ _ ?_ ?_ <;> blk_simp [idx t]

/-- The second result array after the run, where every region has a second score above `-∞`. -/
theorem arr3 (c : Dev nD) (h : ∀ b r, ⊥ < (RouteSpec.score (pM m c) b r (rank (RouteSpec.score (pM m c) b r) ⟨1, by decide⟩) : EReal)) :
    (dats m 0 c).arrAt 3 cfg0.N = nums (pM m c) ⟨1, by decide⟩ := by
  refine (dats m 0 c).arrAt_eq_of_covers 3 _ (by decide +kernel) fun t hf y => ?_
  have h1 : (y 1).val < 112 := (y 1).isLt
  have ht : t.val < 14 := t.isLt
  have e := blk m c t ⟨(y 1).val, h1⟩ ⟨(t.val * 112 + (y 1).val) / 784, by omega⟩
    ⟨(t.val * 112 + (y 1).val) % 784, by omega⟩ (by dsimp only; omega)
  blk_simp
  rw [after0_3, row_eq y, out3 _ _ _ (by rw [e]; exact h _ _), ← row_eq y, e]
  unfold nums
  refine nums_congr _ _ _ _ _ _ ?_ ?_ <;> blk_simp [idx t]

/-- The windows' arrays are four. -/
theorem arrs_inj : Function.Injective (Pipeline.arrRef spec0) := by decide

/-- The first result: the first array reshaped. -/
theorem tail3 (c : Dev nD) : Pipeline.afterTail₀ cfgs (dats m) 0 (V0 m) [hostOps1] c main_v3
    = shapeCast S2x784 ((dats m 0 c).arrAt 2 cfg0.N) shapeCasts_S14x112x1_S2x784 := by
  rw [← Pipeline.withArrays_arr spec0 arrs_inj c (V0 m c) (fun w => (dats m 0 c).arrAt w cfg0.N) 2]
  unfold Pipeline.afterTail₀
  generalize Pipeline.withArrays spec0 c (V0 m c) (fun w => (dats m 0 c).arrAt w cfg0.N) = W
  show StableHlo.after hostOps1 W (Proc.devRef .tc main_v3) = _
  entry_read
  rfl

/-- The second result: the second array reshaped. -/
theorem tail4 (c : Dev nD) : Pipeline.afterTail₀ cfgs (dats m) 0 (V0 m) [hostOps1] c main_v4
    = shapeCast S2x784 ((dats m 0 c).arrAt 3 cfg0.N) shapeCasts_S14x112x1_S2x784 := by
  rw [← Pipeline.withArrays_arr spec0 arrs_inj c (V0 m c) (fun w => (dats m 0 c).arrAt w cfg0.N) 3]
  unfold Pipeline.afterTail₀
  generalize Pipeline.withArrays spec0 c (V0 m c) (fun w => (dats m 0 c).arrAt w cfg0.N) = W
  show StableHlo.after hostOps1 W (Proc.devRef .tc main_v4) = _
  entry_read
  rfl

/-- The reshape counts the regions by image. -/
theorem nums_out (p : Vec Ideal RouteSpec.Pool .f32) (i : Fin 784) :
    shapeCast S2x784 (nums p i) shapeCasts_S14x112x1_S2x784 = RouteSpec.out p i := by
  funext y
  obtain ⟨b, r, rfl⟩ : ∃ (b : Fin 2) (r : Fin 784), y = ix2 b r := ⟨y 0, y 1, by
    funext a
    match a with
    | ⟨0, _⟩ => rfl
    | ⟨1, _⟩ => rfl⟩
  pointwise
  unfold nums RouteSpec.out
  refine nums_congr _ _ _ _ _ _ ?_ ?_
  · show ((b.val * 7 + r.val / 112) * 112 + r.val % 112) / 784 = b.val
    omega
  · show ((b.val * 7 + r.val / 112) * 112 + r.val % 112) % 784 = r.val
    omega

end Arrays

end Cert.RouteIdeal.Hand

end
-- ==== Proof.RouteRef.lean ====
/-
  The routing's reference and its precondition, read entry by entry: the scores are those of `RouteSpec.lean`, the
  top-k's places the first two of their order.
-/
module

public import proofs.«01_k».proof.RouteRefIdeal
public import proofs.«01_k».proof.Pre_two_scores
public import proofs.«01_k».proof.Proof.RouteSpec
public import Idealize.ShloMosaic.Lib.Pointwise
public import Idealize.ShloMosaic.Lib.ReduceAll

@[expose] public section

set_option maxRecDepth 16384

noncomputable section

namespace Cert.RouteRef

open Idealize.ShloMosaic Cert.AttnSort Cert.RouteSpec

section Places

/-- The arrays of scores: by image, region and region. -/
abbrev All : Shape := ⟨3, ![2, 784, 784]⟩
/-- The first two of each region. -/
abbrev Two : Shape := ⟨3, ![2, 784, 2]⟩

variable (s : All.Idx → Ideal .f32) (h : All.Slices (fun _ => 0) Two) (b : Fin 2) (r : Fin 784) (i : Fin 2)

/-- A region's scores. -/
def line : Fin 784 → Ideal .f32 := fun n => s (ix3 b r n)

theorem moved (n m : Fin 784) : (Function.update (β := fun e : Fin 3 => Fin (All.size e)) (ix3 b r n) 2 m) = ix3 b r m := by
  funext e
  match e with
  | ⟨0, _⟩ => exact Function.update_of_ne (fun h => absurd (congrArg Fin.val h) (by simp)) _ _
  | ⟨1, _⟩ => exact Function.update_of_ne (fun h => absurd (congrArg Fin.val h) (by simp)) _ _
  | ⟨2, _⟩ => exact Function.update_self _ _ _

theorem kept : (fun e => ⟨0 + (ix3 b r i (e.cast h.1.symm)).val,
    Nat.lt_of_lt_of_le (Nat.add_lt_add_left (ix3 b r i _).isLt _) (h.2 e)⟩ : All.Idx) = ix3 b r (i.castLE (by decide)) := by
  funext e
  match e with
  | ⟨0, _⟩ => exact Fin.ext (Nat.zero_add _)
  | ⟨1, _⟩ => exact Fin.ext (Nat.zero_add _)
  | ⟨2, _⟩ => exact Fin.ext (Nat.zero_add _)

/-- What the sort of a region's scores carries to a place is read at the position the order gives that place. -/
theorem sorted {β : Type} (y : All.Idx → β) (p : Fin 784) (p' : Fin 784) (hp : p' = p) :
    y (Function.update (β := fun e : Fin 3 => Fin (All.size e)) (ix3 b r p) 2 (sortedFrom
      (fun k k' : Fin 784 => FloatOps.cmpfTotal (F := Ideal) .gt
          (s (Function.update (β := fun e : Fin 3 => Fin (All.size e)) (ix3 b r p) 2 k))
          (s (Function.update (β := fun e : Fin 3 => Fin (All.size e)) (ix3 b r p) 2 k')) == 1#1) p'))
      = y (ix3 b r (rank (line s b r) p)) := by
  subst hp
  rw [rank_eq]
  refine congrArg y ((moved b r _ _).trans (congrArg (ix3 b r) (congrArg (sortedFrom · _) ?_)))
  exact funext fun k => funext fun k' => congrArg₂ (fun u w : Ideal .f32 => FloatOps.cmpfTotal (F := Ideal) .gt u w == 1#1)
    (congrArg s (moved b r _ _)) (congrArg s (moved b r _ _))

/-- A region's two greatest scores. -/
theorem two_scores : (Host.topK Two 2 (FloatOps.cmpfTotal .gt) s h).1 (ix3 b r i) = line s b r (rank (line s b r) (i.castLE (by decide))) := by
  unfold Host.topK Host.sort2
  simp only [dif_pos (show 2 < All.rank by decide)]
  unfold extractStridedSlice
  dsimp only
  rw [kept h b r i]
  exact sorted s b r s _ _ (Fin.ext (Nat.zero_add _))

/-- Their regions. -/
theorem two_places : (Host.topK Two 2 (FloatOps.cmpfTotal .gt) s h).2 (ix3 b r i)
    = BitVec.ofNat 32 (rank (line s b r) (i.castLE (by decide))).val := by
  unfold Host.topK Host.sort2
  simp only [dif_pos (show 2 < All.rank by decide)]
  unfold extractStridedSlice
  dsimp only
  rw [kept h b r i]
  exact sorted s b r (fun e => iotaInDim All 32 ⟨2, by decide⟩ e) _ _ (Fin.ext (Nat.zero_add _))

end Places

/-- A region's place in the means, by image and by the count through both. -/
theorem at_region (p : Vec Ideal Pool .f32) (b : Fin 2) (r : Fin 784) (k : Fin 192) :
    p (ix3 ⟨b.val * 28 + r.val / 28, by omega⟩ ⟨r.val % 28, by omega⟩ k)
      = p (ix3 ⟨(b.val * 784 + r.val) / 28, by omega⟩ ⟨(b.val * 784 + r.val) % 28, by omega⟩ k) := by
  have e0 : b.val * 28 + r.val / 28 = (b.val * 784 + r.val) / 28 := by omega
  have e1 : r.val % 28 = (b.val * 784 + r.val) % 28 := by omega
  simp only [e0, e1]

section Reference
open Cert.RouteRefIdeal Cert.RouteRefIdeal.Facts₀
variable [Cert.RouteRefIdeal.Facts] (p : FVec Ideal Pool .f32)

/-- The reference's scores. -/
def scores : FVec Ideal S2x784x784 .f32 := Host.dotGeneral dot_S2x784x96_S2x96x784_S2x784x784_2_1_1_2_0_0 none
  (extractStridedSlice S2x784x96 ![0, 0, 0] (shapeCast S2x784x192 p shapeCasts_S56x28x192_S2x784x192) slices_S2x784x192_S2x784x96_0_0_0)
  (transpose S2x96x784 [0, 2, 1] (extractStridedSlice S2x784x96 ![0, 0, 96] (shapeCast S2x784x192 p shapeCasts_S56x28x192_S2x784x192)
    slices_S2x784x192_S2x784x96_0_0_96) transposes_S2x784x96_S2x96x784_0_2_1)

/-- They are the products of the means. -/
theorem line_scores (b : Fin 2) (r : Fin 784) : line (scores p) b r = score p b r := by
  funext n
  unfold line scores score mean
  pointwise
  refine Finset.sum_congr rfl fun k _ => ?_
  rw [at_region p b r, at_region p b n]

/-- A column of the places: the regions that come first, or second. -/
def column (off : Fin 3 → Nat) (h : S2x784x2.Slices off S2x784x1) : IVec S2x784 32 :=
  shapeCast S2x784 (extractStridedSlice S2x784x1 off
    ((Host.topK S2x784x2 2 (FloatOps.cmpfTotal .gt) (scores p) sliceFits_S2x784x784_S2x784x2).2) h) shapeCasts_S2x784x1_S2x784

theorem column_first (h : S2x784x2.Slices ![0, 0, 0] S2x784x1) : column p ![0, 0, 0] h = out p ⟨0, by decide⟩ := by
  funext y
  idx_vars y
  have e := two_places (scores p) sliceFits_S2x784x784_S2x784x2 y0 y1 0
  rw [line_scores] at e
  unfold column out
  generalize (Host.topK S2x784x2 2 (FloatOps.cmpfTotal .gt) (scores p) sliceFits_S2x784x784_S2x784x2).2 = T at e ⊢
  refine Eq.trans ?_ e
  pointwise

theorem column_second (h : S2x784x2.Slices ![0, 0, 1] S2x784x1) : column p ![0, 0, 1] h = out p ⟨1, by decide⟩ := by
  funext y
  idx_vars y
  have e := two_places (scores p) sliceFits_S2x784x784_S2x784x2 y0 y1 1
  rw [line_scores] at e
  unfold column out
  generalize (Host.topK S2x784x2 2 (FloatOps.cmpfTotal .gt) (scores p) sliceFits_S2x784x784_S2x784x2).2 = T at e ⊢
  refine Eq.trans ?_ e
  pointwise

end Reference

section Precondition
open Cert.Pre_two_scores Cert.Pre_two_scores.Facts
variable [Cert.Pre_two_scores.Facts] (p : FVec Ideal Pool .f32)

/-- The precondition's scores. -/
def asked : FVec Ideal S2x784x784 .f32 := Host.dotGeneral dot_S2x784x96_S2x96x784_S2x784x784_2_1_1_2_0_0 none
  (extractStridedSlice S2x784x96 ![0, 0, 0] (shapeCast S2x784x192 p shapeCasts_S56x28x192_S2x784x192) slices_S2x784x192_S2x784x96_0_0_0)
  (transpose S2x96x784 [0, 2, 1] (extractStridedSlice S2x784x96 ![0, 0, 96] (shapeCast S2x784x192 p shapeCasts_S56x28x192_S2x784x192)
    slices_S2x784x192_S2x784x96_0_0_96) transposes_S2x784x96_S2x96x784_0_2_1)

theorem line_asked (b : Fin 2) (r : Fin 784) : line (asked p) b r = score p b r := by
  funext n
  unfold line asked score mean
  pointwise
  refine Finset.sum_congr rfl fun k _ => ?_
  rw [at_region p b r, at_region p b n]

/-- Whether each region's second score is above `-∞`. -/
def above (T : FVec Ideal S2x784x2 .f32) : IVec S2x784 1 := cmpf .ogt
  (shapeCast S2x784 (extractStridedSlice S2x784x1 ![0, 0, 1] T slices_S2x784x2_S2x784x1_0_0_1) shapeCasts_S2x784x1_S2x784)
  (broadcastInDim S2x784 ![] bcast_S_S2x784 (constant S_ .f32 0xFF800000#32))

theorem above_apply (T : FVec Ideal S2x784x2 .f32) (b : Fin 2) (r : Fin 784) (h : above T (ix2 b r) = 1#1) :
    (⊥ : EReal) < T (ix3 b r 1) := by
  unfold above at h
  have z : Ideal.ofBits .f32 0xFF800000#32 = ⊥ := by simp [Ideal.ofBits, Ideal.ieee]
  have e : Ideal.cmp .ogt (T (ix3 b r 1)) (Ideal.ofBits .f32 0xFF800000#32) = 1#1 := by
    refine Eq.trans ?_ h
    symm
    pointwise
  rw [z] at e
  exact Ideal.cmp_ogt_eq_one _ _ |>.1 e

theorem fn_eq : fn p = Host.reduce IntOp.andi
    (above (Host.topK S2x784x2 2 (FloatOps.cmpfTotal .gt) (asked p) sliceFits_S2x784x784_S2x784x2).1) (constantI S_ 1 1#1)
    reducesTo_S2x784_S_d0_1 h_S_ := by
  unfold above asked fn
  rfl

/-- What the precondition says of the means it holds of. -/
theorem second_above (h : fn p = fun _ => 1#1) (b : Fin 2) (r : Fin 784) :
    ⊥ < (score p b r (rank (score p b r) ⟨1, by decide⟩) : EReal) := by
  rw [fn_eq] at h
  have e := congrFun h fun e => e.elim0
  have q := above_apply _ b r (Host.reduce_andi_all _ _ _ _ _ e _)
  have t := two_scores (asked p) sliceFits_S2x784x784_S2x784x2 b r 1
  rw [line_asked] at t
  exact lt_of_lt_of_eq q t

end Precondition

end Cert.RouteRef

end
-- ==== Proof.RouteClaims.lean ====
/-
  The routing call's claims: its program and its reference run and leave their argument, and where each region has a
  second score above `-∞` they end with equal results.
-/
module

public import proofs.«01_k».proof.Defs
public import proofs.«01_k».proof.Proof.RouteKer
public import proofs.«01_k».proof.Proof.RouteRef
public import proofs.«01_k».proof.Proof.Gen.RouteRefIdeal.Run
public import proofs.«01_k».proof.Proof.Gen.Pre_two_scores
public import Idealize.ShloMosaic.Lib.Quiescent

@[expose] public section

noncomputable section

namespace Cert.RouteClaims

open Idealize.ShloMosaic Idealize.ShloMosaic.TcCoe Idealize.SL.Sem

/-- The reference runs, leaves its argument and ends quiescent. -/
theorem frame_ref : quiescent_RouteRefIdeal (hRouteRefIdeal := Cert.RouteRefIdeal.Gen.facts) := fun m ρ _ =>
  (θ_run Cert.RouteRefIdeal.defs _ _).mono
    (fun r h => ⟨fun c => (h c).2.2, Idealize.ShloMosaic.sem_eq_zero_of_no_sems (by decide) r.2⟩)
    (Cert.RouteRefIdeal.Value.run (F := Ideal) m ρ)

/-- So it does under the precondition of the value claim. -/
theorem frame_ref_two_scores : quiescent_RouteRefIdeal_pre_two_scores (hRouteRefIdeal := Cert.RouteRefIdeal.Gen.facts)
    (hPre_two_scores := Cert.Pre_two_scores.Gen.facts) := fun m ρ _ => frame_ref m ρ trivial

/-- The mask's name stands for `-∞`. -/
theorem mask : preserves_Route_RouteIdeal :=
  IdealRules.named_const.statement Cert.RouteIdeal.κ "mask" .f32 0xF149F2CA#32 ⊥ rfl

section Kernel
open Cert.RouteIdeal Cert.RouteIdeal.Gen Cert.RouteIdeal.Hand
variable (m : (ℓ : Loc nD τ sig) → Buf (Elt Ideal) ℓ) (ρ : Dev nD → PrngReg)

/-- The kernel's run ends with the first and the second region of each order in its results. -/
theorem result (h : ∀ (c : Dev nD) (b : Fin 2) (r : Fin 784),
      ⊥ < (RouteSpec.score (pM m c) b r (AttnSort.rank (RouteSpec.score (pM m c) b r) ⟨1, by decide⟩) : EReal)) :
    θ_run defs (onTc (τ := τ) (main (F := Ideal))) ⟨m, fun _ => 0, ρ⟩ (fun r => ∀ c : Dev nD,
      r.2.mem ((c.tc : Thread nD τ).loc main_v3) = RouteSpec.out (pM m c) ⟨0, by decide⟩
      ∧ r.2.mem ((c.tc : Thread nD τ).loc main_v4) = RouteSpec.out (pM m c) ⟨1, by decide⟩) :=
  (θ_run defs _ _).mono (fun _ q c =>
    ⟨((q c).2 main_v3 (Pipeline.mem_restRefs_of main_v3 (by decide) (by decide))).trans
        ((tail3 m c).trans ((congrArg (shapeCast S2x784 · _) (arr2 m c)).trans (nums_out (pM m c) _))),
      ((q c).2 main_v4 (Pipeline.mem_restRefs_of main_v4 (by decide) (by decide))).trans
        ((tail4 m c).trans ((congrArg (shapeCast S2x784 · _) (arr3 m c (h c))).trans (nums_out (pM m c) _)))⟩)
    (run_main m ρ)

end Kernel

/-- The kernel's results are the reference's. -/
theorem value : algebraic_RouteIdeal_RouteRefIdeal_pre_two_scores (hRouteIdeal := Cert.RouteIdeal.Gen.facts)
    (hRouteRefIdeal := Cert.RouteRefIdeal.Gen.facts) (hPre_two_scores := Cert.Pre_two_scores.Gen.facts) := by
  intro m ρ m' ρ' hpre hagree
  refine ⟨fun c => RouteSpec.out (Cert.RouteIdeal.Hand.pM m c) ⟨0, by decide⟩,
    fun c => RouteSpec.out (Cert.RouteIdeal.Hand.pM m c) ⟨1, by decide⟩, ?_, ?_⟩
  · exact (θ_run Cert.RouteIdeal.defs _ _).mono (fun r h c => ⟨(h.1 c).1, (h.1 c).2, h.2 c⟩)
      (θ_run_and (result m ρ fun c b r => Cert.RouteRef.second_above _ (hpre c) b r) (Cert.RouteIdeal.Gen.unchanged m ρ))
  · refine (θ_run Cert.RouteRefIdeal.defs _ _).mono (fun r h c => ?_) (Cert.RouteRefIdeal.Value.run (F := Ideal) m' ρ')
    obtain ⟨h0, h1, ha⟩ := h c
    have e : m' ((c.tc : Thread Cert.RouteRefIdeal.nD Cert.RouteRefIdeal.τ).loc Cert.RouteRefIdeal.main_arg0)
      = Cert.RouteIdeal.Hand.pM m c := hagree c
    rw [e] at h0 h1
    exact ⟨h0.trans (Cert.RouteRef.column_first _ _), h1.trans (Cert.RouteRef.column_second _ _), ha⟩

end Cert.RouteClaims

end
-- ==== Proof.lean ====
/-
  The certificate: the frames, the preservation and the value of each call, put together.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.Lepe
public import proofs.«01_k».proof.Proof.Gen.Lepe.Frame
public import proofs.«01_k».proof.Proof.Gen.LepeIdeal
public import proofs.«01_k».proof.Proof.Gen.LepeIdeal.Frame
public import proofs.«01_k».proof.Proof.Gen.LepeIdeal.Value
public import proofs.«01_k».proof.Proof.Gen.LepeRefIdeal
public import proofs.«01_k».proof.Proof.Gen.LepeRefIdeal.Run
public import proofs.«01_k».proof.Proof.Gen.Pre_in_range
public import proofs.«01_k».proof.Proof.Gen.Pre_distinct
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteRefIdeal
public import proofs.«01_k».proof.Proof.Gen.RouteRefIdeal.Run
public import proofs.«01_k».proof.Proof.Gen.Pre_two_scores
public import proofs.«01_k».proof.Proof.AttnClaims
public import proofs.«01_k».proof.Proof.QkvClaims
public import proofs.«01_k».proof.Proof.LepeClaims
public import proofs.«01_k».proof.Proof.RouteClaims
public import Idealize.ShloMosaic.Adequacy
public import Idealize.ShloMosaic.Init

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts,
    Cert.Qkv.Gen.facts, Cert.QkvIdeal.Gen.facts, Cert.QkvRefIdeal.Gen.facts,
    Cert.Lepe.Gen.facts, Cert.LepeIdeal.Gen.facts, Cert.LepeRefIdeal.Gen.facts,
    Cert.Route.Gen.facts, Cert.RouteIdeal.Gen.facts, Cert.RouteRefIdeal.Gen.facts,
    Cert.Pre_in_range.Gen.facts, Cert.Pre_distinct.Gen.facts, Cert.Pre_two_scores.Gen.facts,
    Cert.AttnClaims.frame_bits, Cert.AttnClaims.frame_ideal, Cert.AttnClaims.frame_distinct,
    Cert.AttnClaims.frame_ref, Cert.AttnClaims.frame_ref_distinct,
    fun m ρ _ => Cert.Qkv.Gen.frame m ρ, fun m ρ _ => Cert.QkvIdeal.Gen.frame m ρ, Cert.QkvClaims.frame_ref,
    fun m ρ _ => Cert.Lepe.Gen.frame m ρ, fun m ρ _ => Cert.LepeIdeal.Gen.frame m ρ, Cert.LepeClaims.frame_ref,
    fun m ρ _ => Cert.Route.Gen.frame m ρ, fun m ρ _ => Cert.RouteIdeal.Gen.frame m ρ,
    fun m ρ _ => Cert.RouteIdeal.Gen.frame m ρ, Cert.RouteClaims.frame_ref, Cert.RouteClaims.frame_ref_two_scores,
    Cert.AttnClaims.mask, Cert.AttnClaims.value,
    trivial, Cert.QkvClaims.value, trivial, Cert.LepeClaims.value,
    Cert.RouteClaims.mask, Cert.RouteClaims.value⟩

end Cert.Proof

end
